-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v14_4)) (v3 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v14_4) = v2 c
          ∧ r.2.mem ((c.tc : Thread Cert.KernelIdeal.nD Cert.KernelIdeal.τ).loc Cert.KernelIdeal.main_v14_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_v268) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S10000x3x128 : Shape := ⟨3, ![10000, 3, 128]⟩
abbrev S10000x10000 : Shape := ⟨2, ![10000, 10000]⟩
abbrev S1x3x3 : Shape := ⟨3, ![1, 3, 3]⟩
abbrev S1 : Shape := ⟨1, ![1]⟩
abbrev S3x1x3 : Shape := ⟨3, ![3, 1, 3]⟩
abbrev S3 : Shape := ⟨1, ![3]⟩
abbrev S128x128 : Shape := ⟨2, ![128, 128]⟩
abbrev S128 : Shape := ⟨1, ![128]⟩
abbrev S256x128 : Shape := ⟨2, ![256, 128]⟩
abbrev S256 : Shape := ⟨1, ![256]⟩
abbrev S32x256 : Shape := ⟨2, ![32, 256]⟩
abbrev S32 : Shape := ⟨1, ![32]⟩
abbrev S256x32 : Shape := ⟨2, ![256, 32]⟩
abbrev S128x256 : Shape := ⟨2, ![128, 256]⟩
abbrev S10x32 : Shape := ⟨2, ![10, 32]⟩
abbrev S10 : Shape := ⟨1, ![10]⟩
abbrev S10000x1x128 : Shape := ⟨3, ![10000, 1, 128]⟩
abbrev S10000x128 : Shape := ⟨2, ![10000, 128]⟩
abbrev S_ : Shape := ⟨0, ![]⟩
abbrev S10000x130 : Shape := ⟨2, ![10000, 130]⟩
abbrev S1x1x1 : Shape := ⟨3, ![1, 1, 1]⟩
abbrev S1x128 : Shape := ⟨2, ![1, 128]⟩
abbrev S10000x256 : Shape := ⟨2, ![10000, 256]⟩
abbrev S1x256 : Shape := ⟨2, ![1, 256]⟩
abbrev S10000x32 : Shape := ⟨2, ![10000, 32]⟩
abbrev S1x32 : Shape := ⟨2, ![1, 32]⟩

class Facts : Prop where
  slices_S10000x3x128_S10000x1x128_0_0_0 : S10000x3x128.Slices ![0, 0, 0] S10000x1x128
  shapeCasts_S10000x1x128_S10000x128 : S10000x1x128.ShapeCasts S10000x128
  pads_S10000x128_S10000x130_000_110 : S10000x128.Pads (![0, 1] : Fin 2 → Nat) ![0, 1] ![0, 0] S10000x130
  h_S_ : 0 < S_.numel
  slices_S10000x130_S10000x128_0_0 : S10000x130.Slices ![0, 0] S10000x128
  slices_S1x3x3_S1x1x1_0_0_0 : S1x3x3.Slices ![0, 0, 0] S1x1x1
  shapeCasts_S1x1x1_S_ : S1x1x1.ShapeCasts S_
  bcast_S_S10000x128 : S_.BroadcastsInDim S10000x128 (![] : Fin 0 → Fin S10000x128.rank)
  slices_S10000x130_S10000x128_0_1 : S10000x130.Slices ![0, 1] S10000x128
  slices_S1x3x3_S1x1x1_0_0_1 : S1x3x3.Slices ![0, 0, 1] S1x1x1
  slices_S10000x130_S10000x128_0_2 : S10000x130.Slices ![0, 2] S10000x128
  slices_S1x3x3_S1x1x1_0_0_2 : S1x3x3.Slices ![0, 0, 2] S1x1x1
  slices_S10000x3x128_S10000x1x128_0_1_0 : S10000x3x128.Slices ![0, 1, 0] S10000x1x128
  slices_S1x3x3_S1x1x1_0_1_0 : S1x3x3.Slices ![0, 1, 0] S1x1x1
  slices_S1x3x3_S1x1x1_0_1_1 : S1x3x3.Slices ![0, 1, 1] S1x1x1
  slices_S1x3x3_S1x1x1_0_1_2 : S1x3x3.Slices ![0, 1, 2] S1x1x1
  slices_S10000x3x128_S10000x1x128_0_2_0 : S10000x3x128.Slices ![0, 2, 0] S10000x1x128
  slices_S1x3x3_S1x1x1_0_2_0 : S1x3x3.Slices ![0, 2, 0] S1x1x1
  slices_S1x3x3_S1x1x1_0_2_1 : S1x3x3.Slices ![0, 2, 1] S1x1x1
  slices_S1x3x3_S1x1x1_0_2_2 : S1x3x3.Slices ![0, 2, 2] S1x1x1
  shapeCasts_S1_S_ : S1.ShapeCasts S_
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S256x128_S128x256_1_0 : S256x128.Transposes [1, 0] S128x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  transposes_S32x256_S256x32_1_0 : S32x256.Transposes [1, 0] S256x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  dot_S10000x128_S128x128_S10000x128_1_0_0_1_n_n_wf : DotDims.WF S10000x128 S128x128 S10000x128 [1] [0] [0] [1] [] []
  dot_S10000x128_S128x256_S10000x256_1_0_0_1_n_n_wf : DotDims.WF S10000x128 S128x256 S10000x256 [1] [0] [0] [1] [] []
  dot_S10000x256_S256x32_S10000x32_1_0_0_1_n_n_wf : DotDims.WF S10000x256 S256x32 S10000x32 [1] [0] [0] [1] [] []
  dot_S10000x10000_S10000x128_S10000x128_1_0_0_1_n_n_wf : DotDims.WF S10000x10000 S10000x128 S10000x128 [1] [0] [0] [1] [] []
  dot_S10000x10000_S10000x256_S10000x256_1_0_0_1_n_n_wf : DotDims.WF S10000x10000 S10000x256 S10000x256 [1] [0] [0] [1] [] []
  dot_S10000x10000_S10000x32_S10000x32_1_0_0_1_n_n_wf : DotDims.WF S10000x10000 S10000x32 S10000x32 [1] [0] [0] [1] [] []

variable [Facts]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x32_S10000x32_1_0_0_1_n_n : DotDims S10000x256 S256x32 S10000x32 where
  lhsContracting := [1]
  rhsContracting := [0]
  lhsNonContracting := [0]
  rhsNonContracting := [1]
  lhsBatch := []
  rhsBatch := []
  wf := dot_S10000x256_S256x32_S10000x32_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def fn_pad {F : FTy → Type} [FloatOps F] (arg0 : FVec F S10000x128 .f32) (arg1 : IVec S_ 32) : FVec F S10000x130 .f32 :=
  let v0 : FVec F S_ .f32 := sitofp .f32 arg1
  let v1 : FVec F S10000x130 .f32 := (fun x v => pad S10000x130 ![0, 1] ![0, 1] ![0, 0] x v pads_S10000x128_S10000x130_000_110 h_S_) arg0 v0
  v1

def fn_part7 {F : FTy → Type} [FloatOps F] (main_v111 : FVec F S10000x128 .f32) (main_v120 : FVec F S10000x128 .f32) (main_v129 : FVec F S10000x256 .f32) (main_v138 : FVec F S10000x32 .f32) (main_v141 : FVec F S10000x32 .f32) (main_v143 : FVec F S10000x32 .f32) : IVec S10000x128 1 × IVec S10000x128 1 × IVec S10000x256 1 × IVec S10000x32 1 :=
  let main_v144 : FVec F S10000x32 .f32 := addf main_v141 main_v143
  let main_v145 : FVec F S10000x128 .f32 := Host.absf main_v111
  let main_cst_22 : FVec F S_ .f32 := constant S_ .f32 0x3FDC0000#32
  let main_v146 : FVec F S10000x128 .f32 := broadcastInDim S10000x128 ![] bcast_S_S10000x128 main_cst_22
  let main_v147 : IVec S10000x128 1 := cmpf .ole main_v145 main_v146
  let main_v148 : FVec F S10000x128 .f32 := Host.absf main_v120
  let main_cst_23 : FVec F S_ .f32 := constant S_ .f32 0x3FDC0000#32
  let main_v149 : FVec F S10000x128 .f32 := broadcastInDim S10000x128 ![] bcast_S_S10000x128 main_cst_23
  let main_v150 : IVec S10000x128 1 := cmpf .ole main_v148 main_v149
  let main_v151 : FVec F S10000x256 .f32 := Host.absf main_v129
  let main_cst_24 : FVec F S_ .f32 := constant S_ .f32 0x3FDC0000#32
  let main_v152 : FVec F S10000x256 .f32 := broadcastInDim S10000x256 ![] bcast_S_S10000x256 main_cst_24
  let main_v153 : IVec S10000x256 1 := cmpf .ole main_v151 main_v152
  let main_v154 : FVec F S10000x32 .f32 := Host.absf main_v138
  let main_cst_25 : FVec F S_ .f32 := constant S_ .f32 0x3FDC0000#32
  let main_v155 : FVec F S10000x32 .f32 := broadcastInDim S10000x32 ![] bcast_S_S10000x32 main_cst_25
  let main_v156 : IVec S10000x32 1 := cmpf .ole main_v154 main_v155
  (main_v147, main_v150, main_v153, main_v156)

def fn_part6 {F : FTy → Type} [FloatOps F] (main_arg1 : FVec F S10000x10000 .f32) (main_arg24 : FVec F S128x256 .f32) (main_arg25 : FVec F S256x32 .f32) (main_v98 : FVec F S10000x128 .f32) (main_v105 : FVec F S10000x256 .f32) (main_v110 : FVec F S10000x32 .f32) (main_v111 : FVec F S10000x128 .f32) (main_v120 : FVec F S10000x128 .f32) (main_v125 : FVec F S10000x128 .f32) : IVec S10000x128 1 × IVec S10000x128 1 × IVec S10000x256 1 × IVec S10000x32 1 :=
  let main_cst_16 : FVec F S_ .f32 := constant S_ .f32 0x3E99999A#32
  let main_v126 : FVec F S10000x128 .f32 := broadcastInDim S10000x128 ![] bcast_S_S10000x128 main_cst_16
  let main_v127 : FVec F S10000x128 .f32 := mulf main_v126 main_v98
  let main_v128 : FVec F S10000x128 .f32 := addf main_v125 main_v127
  let main_v129 : FVec F S10000x256 .f32 := (fun l r => Host.dotGeneral dot_S10000x128_S128x256_S10000x256_1_0_0_1_n_n none l r) main_v128 main_arg24
  let main_v130 : FVec F S10000x256 .f32 := (fun l r => Host.dotGeneral dot_S10000x10000_S10000x256_S10000x256_1_0_0_1_n_n none l r) main_arg1 main_v129
  let main_cst_17 : FVec F S_ .f32 := constant S_ .f32 0x00000000#32
  let main_v131 : FVec F S10000x256 .f32 := broadcastInDim S10000x256 ![] bcast_S_S10000x256 main_cst_17
  let main_v132 : FVec F S10000x256 .f32 := maximumf main_v130 main_v131
  let main_cst_18 : FVec F S_ .f32 := constant S_ .f32 0x3F333333#32
  let main_v133 : FVec F S10000x256 .f32 := broadcastInDim S10000x256 ![] bcast_S_S10000x256 main_cst_18
  let main_v134 : FVec F S10000x256 .f32 := mulf main_v133 main_v132
  let main_cst_19 : FVec F S_ .f32 := constant S_ .f32 0x3E99999A#32
  let main_v135 : FVec F S10000x256 .f32 := broadcastInDim S10000x256 ![] bcast_S_S10000x256 main_cst_19
  let main_v136 : FVec F S10000x256 .f32 := mulf main_v135 main_v105
  let main_v137 : FVec F S10000x256 .f32 := addf main_v134 main_v136
  let main_v138 : FVec F S10000x32 .f32 := (fun l r => Host.dotGeneral dot_S10000x256_S256x32_S10000x32_1_0_0_1_n_n none l r) main_v137 main_arg25
  let main_v139 : FVec F S10000x32 .f32 := (fun l r => Host.dotGeneral dot_S10000x10000_S10000x32_S10000x32_1_0_0_1_n_n none l r) main_arg1 main_v138
  let main_cst_20 : FVec F S_ .f32 := constant S_ .f32 0x3F333333#32
  let main_v140 : FVec F S10000x32 .f32 := broadcastInDim S10000x32 ![] bcast_S_S10000x32 main_cst_20
  let main_v141 : FVec F S10000x32 .f32 := mulf main_v140 main_v139
  let main_cst_21 : FVec F S_ .f32 := constant S_ .f32 0x3E99999A#32
  let main_v142 : FVec F S10000x32 .f32 := broadcastInDim S10000x32 ![] bcast_S_S10000x32 main_cst_21
  let main_v143 : FVec F S10000x32 .f32 := mulf main_v142 main_v110
  fn_part7 (F := F) main_v111 main_v120 main_v129 main_v138 main_v141 main_v143

def fn_part5 {F : FTy → Type} [FloatOps F] (main_arg1 : FVec F S10000x10000 .f32) (main_arg13 : FVec F S32 .f32) (main_arg22 : FVec F S128x128 .f32) (main_arg23 : FVec F S128x128 .f32) (main_arg24 : FVec F S128x256 .f32) (main_arg25 : FVec F S256x32 .f32) (main_v84 : FVec F S10000x128 .f32) (main_v91 : FVec F S10000x128 .f32) (main_v98 : FVec F S10000x128 .f32) (main_v105 : FVec F S10000x256 .f32) (main_v106 : FVec F S256x32 .f32) : IVec S10000x128 1 × IVec S10000x128 1 × IVec S10000x256 1 × IVec S10000x32 1 :=
  let main_v107 : FVec F S10000x32 .f32 := (fun l r => Host.dotGeneral dot_S10000x256_S256x32_S10000x32_1_0_0_1_n_n none l r) main_v105 main_v106
  let main_v108 : FVec F S1x32 .f32 := broadcastInDim S1x32 ![1] bcast_S32_S1x32_1 main_arg13
  let main_v109 : FVec F S10000x32 .f32 := broadcastInDim S10000x32 ![0, 1] bcast_S1x32_S10000x32_0_1 main_v108
  let main_v110 : FVec F S10000x32 .f32 := addf main_v107 main_v109
  let main_v111 : FVec F S10000x128 .f32 := (fun l r => Host.dotGeneral dot_S10000x128_S128x128_S10000x128_1_0_0_1_n_n none l r) main_v84 main_arg22
  let main_v112 : FVec F S10000x128 .f32 := (fun l r => Host.dotGeneral dot_S10000x10000_S10000x128_S10000x128_1_0_0_1_n_n none l r) main_arg1 main_v111
  let main_cst_11 : FVec F S_ .f32 := constant S_ .f32 0x00000000#32
  let main_v113 : FVec F S10000x128 .f32 := broadcastInDim S10000x128 ![] bcast_S_S10000x128 main_cst_11
  let main_v114 : FVec F S10000x128 .f32 := maximumf main_v112 main_v113
  let main_cst_12 : FVec F S_ .f32 := constant S_ .f32 0x3F333333#32
  let main_v115 : FVec F S10000x128 .f32 := broadcastInDim S10000x128 ![] bcast_S_S10000x128 main_cst_12
  let main_v116 : FVec F S10000x128 .f32 := mulf main_v115 main_v114
  let main_cst_13 : FVec F S_ .f32 := constant S_ .f32 0x3E99999A#32
  let main_v117 : FVec F S10000x128 .f32 := broadcastInDim S10000x128 ![] bcast_S_S10000x128 main_cst_13
  let main_v118 : FVec F S10000x128 .f32 := mulf main_v117 main_v91
  let main_v119 : FVec F S10000x128 .f32 := addf main_v116 main_v118
  let main_v120 : FVec F S10000x128 .f32 := (fun l r => Host.dotGeneral dot_S10000x128_S128x128_S10000x128_1_0_0_1_n_n none l r) main_v119 main_arg23
  let main_v121 : FVec F S10000x128 .f32 := (fun l r => Host.dotGeneral dot_S10000x10000_S10000x128_S10000x128_1_0_0_1_n_n none l r) main_arg1 main_v120
  let main_cst_14 : FVec F S_ .f32 := constant S_ .f32 0x00000000#32
  let main_v122 : FVec F S10000x128 .f32 := broadcastInDim S10000x128 ![] bcast_S_S10000x128 main_cst_14
  let main_v123 : FVec F S10000x128 .f32 := maximumf main_v121 main_v122
  let main_cst_15 : FVec F S_ .f32 := constant S_ .f32 0x3F333333#32
  let main_v124 : FVec F S10000x128 .f32 := broadcastInDim S10000x128 ![] bcast_S_S10000x128 main_cst_15
  let main_v125 : FVec F S10000x128 .f32 := mulf main_v124 main_v123
  fn_part6 (F := F) main_arg1 main_arg24 main_arg25 main_v98 main_v105 main_v110 main_v111 main_v120 main_v125

def fn_part4 {F : FTy → Type} [FloatOps F] (main_arg1 : FVec F S10000x10000 .f32) (main_arg7 : FVec F S128 .f32) (main_arg8 : FVec F S128x128 .f32) (main_arg9 : FVec F S128 .f32) (main_arg10 : FVec F S256x128 .f32) (main_arg11 : FVec F S256 .f32) (main_arg12 : FVec F S32x256 .f32) (main_arg13 : FVec F S32 .f32) (main_arg22 : FVec F S128x128 .f32) (main_arg23 : FVec F S128x128 .f32) (main_arg24 : FVec F S128x256 .f32) (main_arg25 : FVec F S256x32 .f32) (main_v84 : FVec F S10000x128 .f32) (main_v85 : FVec F S128x128 .f32) : IVec S10000x128 1 × IVec S10000x128 1 × IVec S10000x256 1 × IVec S10000x32 1 :=
  let main_v86 : FVec F S10000x128 .f32 := (fun l r => Host.dotGeneral dot_S10000x128_S128x128_S10000x128_1_0_0_1_n_n none l r) main_v84 main_v85
  let main_v87 : FVec F S1x128 .f32 := broadcastInDim S1x128 ![1] bcast_S128_S1x128_1 main_arg7
  let main_v88 : FVec F S10000x128 .f32 := broadcastInDim S10000x128 ![0, 1] bcast_S1x128_S10000x128_0_1 main_v87
  let main_v89 : FVec F S10000x128 .f32 := addf main_v86 main_v88
  let main_cst_8 : FVec F S_ .f32 := constant S_ .f32 0x00000000#32
  let main_v90 : FVec F S10000x128 .f32 := broadcastInDim S10000x128 ![] bcast_S_S10000x128 main_cst_8
  let main_v91 : FVec F S10000x128 .f32 := maximumf main_v89 main_v90
  let main_v92 : FVec F S128x128 .f32 := (transpose S128x128 [1, 0] · transposes_S128x128_S128x128_1_0) main_arg8
  let main_v93 : FVec F S10000x128 .f32 := (fun l r => Host.dotGeneral dot_S10000x128_S128x128_S10000x128_1_0_0_1_n_n none l r) main_v91 main_v92
  let main_v94 : FVec F S1x128 .f32 := broadcastInDim S1x128 ![1] bcast_S128_S1x128_1 main_arg9
  let main_v95 : FVec F S10000x128 .f32 := broadcastInDim S10000x128 ![0, 1] bcast_S1x128_S10000x128_0_1 main_v94
  let main_v96 : FVec F S10000x128 .f32 := addf main_v93 main_v95
  let main_cst_9 : FVec F S_ .f32 := constant S_ .f32 0x00000000#32
  let main_v97 : FVec F S10000x128 .f32 := broadcastInDim S10000x128 ![] bcast_S_S10000x128 main_cst_9
  let main_v98 : FVec F S10000x128 .f32 := maximumf main_v96 main_v97
  let main_v99 : FVec F S128x256 .f32 := (transpose S128x256 [1, 0] · transposes_S256x128_S128x256_1_0) main_arg10
  let main_v100 : FVec F S10000x256 .f32 := (fun l r => Host.dotGeneral dot_S10000x128_S128x256_S10000x256_1_0_0_1_n_n none l r) main_v98 main_v99
  let main_v101 : FVec F S1x256 .f32 := broadcastInDim S1x256 ![1] bcast_S256_S1x256_1 main_arg11
  let main_v102 : FVec F S10000x256 .f32 := broadcastInDim S10000x256 ![0, 1] bcast_S1x256_S10000x256_0_1 main_v101
  let main_v103 : FVec F S10000x256 .f32 := addf main_v100 main_v102
  let main_cst_10 : FVec F S_ .f32 := constant S_ .f32 0x00000000#32
  let main_v104 : FVec F S10000x256 .f32 := broadcastInDim S10000x256 ![] bcast_S_S10000x256 main_cst_10
  let main_v105 : FVec F S10000x256 .f32 := maximumf main_v103 main_v104
  let main_v106 : FVec F S256x32 .f32 := (transpose S256x32 [1, 0] · transposes_S32x256_S256x32_1_0) main_arg12
  fn_part5 (F := F) main_arg1 main_arg13 main_arg22 main_arg23 main_arg24 main_arg25 main_v84 main_v91 main_v98 main_v105 main_v106

def fn_part3 {F : FTy → Type} [FloatOps F] (main_arg0 : FVec F S10000x3x128 .f32) (main_arg1 : FVec F S10000x10000 .f32) (main_arg2 : FVec F S1x3x3 .f32) (main_arg3 : FVec F S1 .f32) (main_arg6 : FVec F S128x128 .f32) (main_arg7 : FVec F S128 .f32) (main_arg8 : FVec F S128x128 .f32) (main_arg9 : FVec F S128 .f32) (main_arg10 : FVec F S256x128 .f32) (main_arg11 : FVec F S256 .f32) (main_arg12 : FVec F S32x256 .f32) (main_arg13 : FVec F S32 .f32) (main_arg22 : FVec F S128x128 .f32) (main_arg23 : FVec F S128x128 .f32) (main_arg24 : FVec F S128x256 .f32) (main_arg25 : FVec F S256x32 .f32) (main_v63 : FVec F S10000x128 .f32) : IVec S10000x128 1 × IVec S10000x128 1 × IVec S10000x256 1 × IVec S10000x32 1 :=
  let main_v64 : FVec F S10000x1x128 .f32 := (extractStridedSlice S10000x1x128 ![0, 2, 0] · slices_S10000x3x128_S10000x1x128_0_2_0) main_arg0
  let main_v65 : FVec F S10000x128 .f32 := shapeCast S10000x128 main_v64 shapeCasts_S10000x1x128_S10000x128
  let main_c_6 : IVec S_ 32 := constantI S_ 32 0#32
  let main_v66 : FVec F S10000x130 .f32 := fn_pad (F := F) main_v65 main_c_6
  let main_v67 : FVec F S10000x128 .f32 := (extractStridedSlice S10000x128 ![0, 1] · slices_S10000x130_S10000x128_0_1) main_v66
  let main_v68 : FVec F S1x1x1 .f32 := (extractStridedSlice S1x1x1 ![0, 2, 1] · slices_S1x3x3_S1x1x1_0_2_1) main_arg2
  let main_v69 : FVec F S_ .f32 := shapeCast S_ main_v68 shapeCasts_S1x1x1_S_
  let main_v70 : FVec F S10000x128 .f32 := broadcastInDim S10000x128 ![] bcast_S_S10000x128 main_v69
  let main_v71 : FVec F S10000x128 .f32 := mulf main_v67 main_v70
  let main_v72 : FVec F S10000x128 .f32 := addf main_v63 main_v71
  let main_v73 : FVec F S10000x1x128 .f32 := (extractStridedSlice S10000x1x128 ![0, 2, 0] · slices_S10000x3x128_S10000x1x128_0_2_0) main_arg0
  let main_v74 : FVec F S10000x128 .f32 := shapeCast S10000x128 main_v73 shapeCasts_S10000x1x128_S10000x128
  let main_c_7 : IVec S_ 32 := constantI S_ 32 0#32
  let main_v75 : FVec F S10000x130 .f32 := fn_pad (F := F) main_v74 main_c_7
  let main_v76 : FVec F S10000x128 .f32 := (extractStridedSlice S10000x128 ![0, 2] · slices_S10000x130_S10000x128_0_2) main_v75
  let main_v77 : FVec F S1x1x1 .f32 := (extractStridedSlice S1x1x1 ![0, 2, 2] · slices_S1x3x3_S1x1x1_0_2_2) main_arg2
  let main_v78 : FVec F S_ .f32 := shapeCast S_ main_v77 shapeCasts_S1x1x1_S_
  let main_v79 : FVec F S10000x128 .f32 := broadcastInDim S10000x128 ![] bcast_S_S10000x128 main_v78
  let main_v80 : FVec F S10000x128 .f32 := mulf main_v76 main_v79
  let main_v81 : FVec F S10000x128 .f32 := addf main_v72 main_v80
  let main_v82 : FVec F S_ .f32 := shapeCast S_ main_arg3 shapeCasts_S1_S_
  let main_v83 : FVec F S10000x128 .f32 := broadcastInDim S10000x128 ![] bcast_S_S10000x128 main_v82
  let main_v84 : FVec F S10000x128 .f32 := addf main_v81 main_v83
  let main_v85 : FVec F S128x128 .f32 := (transpose S128x128 [1, 0] · transposes_S128x128_S128x128_1_0) main_arg6
  fn_part4 (F := F) main_arg1 main_arg7 main_arg8 main_arg9 main_arg10 main_arg11 main_arg12 main_arg13 main_arg22 main_arg23 main_arg24 main_arg25 main_v84 main_v85

def fn_part2 {F : FTy → Type} [FloatOps F] (main_arg0 : FVec F S10000x3x128 .f32) (main_arg1 : FVec F S10000x10000 .f32) (main_arg2 : FVec F S1x3x3 .f32) (main_arg3 : FVec F S1 .f32) (main_arg6 : FVec F S128x128 .f32) (main_arg7 : FVec F S128 .f32) (main_arg8 : FVec F S128x128 .f32) (main_arg9 : FVec F S128 .f32) (main_arg10 : FVec F S256x128 .f32) (main_arg11 : FVec F S256 .f32) (main_arg12 : FVec F S32x256 .f32) (main_arg13 : FVec F S32 .f32) (main_arg22 : FVec F S128x128 .f32) (main_arg23 : FVec F S128x128 .f32) (main_arg24 : FVec F S128x256 .f32) (main_arg25 : FVec F S256x32 .f32) (main_v36 : FVec F S10000x128 .f32) (main_v40 : FVec F S10000x128 .f32) (main_v41 : FVec F S1x1x1 .f32) : IVec S10000x128 1 × IVec S10000x128 1 × IVec S10000x256 1 × IVec S10000x32 1 :=
  let main_v42 : FVec F S_ .f32 := shapeCast S_ main_v41 shapeCasts_S1x1x1_S_
  let main_v43 : FVec F S10000x128 .f32 := broadcastInDim S10000x128 ![] bcast_S_S10000x128 main_v42
  let main_v44 : FVec F S10000x128 .f32 := mulf main_v40 main_v43
  let main_v45 : FVec F S10000x128 .f32 := addf main_v36 main_v44
  let main_v46 : FVec F S10000x1x128 .f32 := (extractStridedSlice S10000x1x128 ![0, 1, 0] · slices_S10000x3x128_S10000x1x128_0_1_0) main_arg0
  let main_v47 : FVec F S10000x128 .f32 := shapeCast S10000x128 main_v46 shapeCasts_S10000x1x128_S10000x128
  let main_c_4 : IVec S_ 32 := constantI S_ 32 0#32
  let main_v48 : FVec F S10000x130 .f32 := fn_pad (F := F) main_v47 main_c_4
  let main_v49 : FVec F S10000x128 .f32 := (extractStridedSlice S10000x128 ![0, 2] · slices_S10000x130_S10000x128_0_2) main_v48
  let main_v50 : FVec F S1x1x1 .f32 := (extractStridedSlice S1x1x1 ![0, 1, 2] · slices_S1x3x3_S1x1x1_0_1_2) main_arg2
  let main_v51 : FVec F S_ .f32 := shapeCast S_ main_v50 shapeCasts_S1x1x1_S_
  let main_v52 : FVec F S10000x128 .f32 := broadcastInDim S10000x128 ![] bcast_S_S10000x128 main_v51
  let main_v53 : FVec F S10000x128 .f32 := mulf main_v49 main_v52
  let main_v54 : FVec F S10000x128 .f32 := addf main_v45 main_v53
  let main_v55 : FVec F S10000x1x128 .f32 := (extractStridedSlice S10000x1x128 ![0, 2, 0] · slices_S10000x3x128_S10000x1x128_0_2_0) main_arg0
  let main_v56 : FVec F S10000x128 .f32 := shapeCast S10000x128 main_v55 shapeCasts_S10000x1x128_S10000x128
  let main_c_5 : IVec S_ 32 := constantI S_ 32 0#32
  let main_v57 : FVec F S10000x130 .f32 := fn_pad (F := F) main_v56 main_c_5
  let main_v58 : FVec F S10000x128 .f32 := (extractStridedSlice S10000x128 ![0, 0] · slices_S10000x130_S10000x128_0_0) main_v57
  let main_v59 : FVec F S1x1x1 .f32 := (extractStridedSlice S1x1x1 ![0, 2, 0] · slices_S1x3x3_S1x1x1_0_2_0) main_arg2
  let main_v60 : FVec F S_ .f32 := shapeCast S_ main_v59 shapeCasts_S1x1x1_S_
  let main_v61 : FVec F S10000x128 .f32 := broadcastInDim S10000x128 ![] bcast_S_S10000x128 main_v60
  let main_v62 : FVec F S10000x128 .f32 := mulf main_v58 main_v61
  let main_v63 : FVec F S10000x128 .f32 := addf main_v54 main_v62
  fn_part3 (F := F) main_arg0 main_arg1 main_arg2 main_arg3 main_arg6 main_arg7 main_arg8 main_arg9 main_arg10 main_arg11 main_arg12 main_arg13 main_arg22 main_arg23 main_arg24 main_arg25 main_v63

def fn_part1 {F : FTy → Type} [FloatOps F] (main_arg0 : FVec F S10000x3x128 .f32) (main_arg1 : FVec F S10000x10000 .f32) (main_arg2 : FVec F S1x3x3 .f32) (main_arg3 : FVec F S1 .f32) (main_arg6 : FVec F S128x128 .f32) (main_arg7 : FVec F S128 .f32) (main_arg8 : FVec F S128x128 .f32) (main_arg9 : FVec F S128 .f32) (main_arg10 : FVec F S256x128 .f32) (main_arg11 : FVec F S256 .f32) (main_arg12 : FVec F S32x256 .f32) (main_arg13 : FVec F S32 .f32) (main_arg22 : FVec F S128x128 .f32) (main_arg23 : FVec F S128x128 .f32) (main_arg24 : FVec F S128x256 .f32) (main_arg25 : FVec F S256x32 .f32) (main_v18 : FVec F S10000x128 .f32) (main_v20 : FVec F S10000x128 .f32) : IVec S10000x128 1 × IVec S10000x128 1 × IVec S10000x256 1 × IVec S10000x32 1 :=
  let main_c_1 : IVec S_ 32 := constantI S_ 32 0#32
  let main_v21 : FVec F S10000x130 .f32 := fn_pad (F := F) main_v20 main_c_1
  let main_v22 : FVec F S10000x128 .f32 := (extractStridedSlice S10000x128 ![0, 2] · slices_S10000x130_S10000x128_0_2) main_v21
  let main_v23 : FVec F S1x1x1 .f32 := (extractStridedSlice S1x1x1 ![0, 0, 2] · slices_S1x3x3_S1x1x1_0_0_2) main_arg2
  let main_v24 : FVec F S_ .f32 := shapeCast S_ main_v23 shapeCasts_S1x1x1_S_
  let main_v25 : FVec F S10000x128 .f32 := broadcastInDim S10000x128 ![] bcast_S_S10000x128 main_v24
  let main_v26 : FVec F S10000x128 .f32 := mulf main_v22 main_v25
  let main_v27 : FVec F S10000x128 .f32 := addf main_v18 main_v26
  let main_v28 : FVec F S10000x1x128 .f32 := (extractStridedSlice S10000x1x128 ![0, 1, 0] · slices_S10000x3x128_S10000x1x128_0_1_0) main_arg0
  let main_v29 : FVec F S10000x128 .f32 := shapeCast S10000x128 main_v28 shapeCasts_S10000x1x128_S10000x128
  let main_c_2 : IVec S_ 32 := constantI S_ 32 0#32
  let main_v30 : FVec F S10000x130 .f32 := fn_pad (F := F) main_v29 main_c_2
  let main_v31 : FVec F S10000x128 .f32 := (extractStridedSlice S10000x128 ![0, 0] · slices_S10000x130_S10000x128_0_0) main_v30
  let main_v32 : FVec F S1x1x1 .f32 := (extractStridedSlice S1x1x1 ![0, 1, 0] · slices_S1x3x3_S1x1x1_0_1_0) main_arg2
  let main_v33 : FVec F S_ .f32 := shapeCast S_ main_v32 shapeCasts_S1x1x1_S_
  let main_v34 : FVec F S10000x128 .f32 := broadcastInDim S10000x128 ![] bcast_S_S10000x128 main_v33
  let main_v35 : FVec F S10000x128 .f32 := mulf main_v31 main_v34
  let main_v36 : FVec F S10000x128 .f32 := addf main_v27 main_v35
  let main_v37 : FVec F S10000x1x128 .f32 := (extractStridedSlice S10000x1x128 ![0, 1, 0] · slices_S10000x3x128_S10000x1x128_0_1_0) main_arg0
  let main_v38 : FVec F S10000x128 .f32 := shapeCast S10000x128 main_v37 shapeCasts_S10000x1x128_S10000x128
  let main_c_3 : IVec S_ 32 := constantI S_ 32 0#32
  let main_v39 : FVec F S10000x130 .f32 := fn_pad (F := F) main_v38 main_c_3
  let main_v40 : FVec F S10000x128 .f32 := (extractStridedSlice S10000x128 ![0, 1] · slices_S10000x130_S10000x128_0_1) main_v39
  let main_v41 : FVec F S1x1x1 .f32 := (extractStridedSlice S1x1x1 ![0, 1, 1] · slices_S1x3x3_S1x1x1_0_1_1) main_arg2
  fn_part2 (F := F) main_arg0 main_arg1 main_arg2 main_arg3 main_arg6 main_arg7 main_arg8 main_arg9 main_arg10 main_arg11 main_arg12 main_arg13 main_arg22 main_arg23 main_arg24 main_arg25 main_v36 main_v40 main_v41

def fn {F : FTy → Type} [FloatOps F] (main_arg0 : FVec F S10000x3x128 .f32) (main_arg1 : FVec F S10000x10000 .f32) (main_arg2 : FVec F S1x3x3 .f32) (main_arg3 : FVec F S1 .f32) (main_arg4 : FVec F S3x1x3 .f32) (main_arg5 : FVec F S3 .f32) (main_arg6 : FVec F S128x128 .f32) (main_arg7 : FVec F S128 .f32) (main_arg8 : FVec F S128x128 .f32) (main_arg9 : FVec F S128 .f32) (main_arg10 : FVec F S256x128 .f32) (main_arg11 : FVec F S256 .f32) (main_arg12 : FVec F S32x256 .f32) (main_arg13 : FVec F S32 .f32) (main_arg14 : FVec F S256x32 .f32) (main_arg15 : FVec F S256 .f32) (main_arg16 : FVec F S128x256 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128x128 .f32) (main_arg24 : FVec F S128x256 .f32) (main_arg25 : FVec F S256x32 .f32) (main_arg26 : FVec F S10x32 .f32) (main_arg27 : FVec F S10 .f32) : IVec S10000x128 1 × IVec S10000x128 1 × IVec S10000x256 1 × IVec S10000x32 1 :=
  let main_v0 : FVec F S10000x1x128 .f32 := (extractStridedSlice S10000x1x128 ![0, 0, 0] · slices_S10000x3x128_S10000x1x128_0_0_0) main_arg0
  let main_v1 : FVec F S10000x128 .f32 := shapeCast S10000x128 main_v0 shapeCasts_S10000x1x128_S10000x128
  let main_c : IVec S_ 32 := constantI S_ 32 0#32
  let main_v2 : FVec F S10000x130 .f32 := fn_pad (F := F) main_v1 main_c
  let main_v3 : FVec F S10000x128 .f32 := (extractStridedSlice S10000x128 ![0, 0] · slices_S10000x130_S10000x128_0_0) main_v2
  let main_v4 : FVec F S1x1x1 .f32 := (extractStridedSlice S1x1x1 ![0, 0, 0] · slices_S1x3x3_S1x1x1_0_0_0) main_arg2
  let main_v5 : FVec F S_ .f32 := shapeCast S_ main_v4 shapeCasts_S1x1x1_S_
  let main_v6 : FVec F S10000x128 .f32 := broadcastInDim S10000x128 ![] bcast_S_S10000x128 main_v5
  let main_v7 : FVec F S10000x128 .f32 := mulf main_v3 main_v6
  let main_cst : FVec F S_ .f32 := constant S_ .f32 0x00000000#32
  let main_v8 : FVec F S10000x128 .f32 := broadcastInDim S10000x128 ![] bcast_S_S10000x128 main_cst
  let main_v9 : FVec F S10000x128 .f32 := addf main_v8 main_v7
  let main_v10 : FVec F S10000x1x128 .f32 := (extractStridedSlice S10000x1x128 ![0, 0, 0] · slices_S10000x3x128_S10000x1x128_0_0_0) main_arg0
  let main_v11 : FVec F S10000x128 .f32 := shapeCast S10000x128 main_v10 shapeCasts_S10000x1x128_S10000x128
  let main_c_0 : IVec S_ 32 := constantI S_ 32 0#32
  let main_v12 : FVec F S10000x130 .f32 := fn_pad (F := F) main_v11 main_c_0
  let main_v13 : FVec F S10000x128 .f32 := (extractStridedSlice S10000x128 ![0, 1] · slices_S10000x130_S10000x128_0_1) main_v12
  let main_v14 : FVec F S1x1x1 .f32 := (extractStridedSlice S1x1x1 ![0, 0, 1] · slices_S1x3x3_S1x1x1_0_0_1) main_arg2
  let main_v15 : FVec F S_ .f32 := shapeCast S_ main_v14 shapeCasts_S1x1x1_S_
  let main_v16 : FVec F S10000x128 .f32 := broadcastInDim S10000x128 ![] bcast_S_S10000x128 main_v15
  let main_v17 : FVec F S10000x128 .f32 := mulf main_v13 main_v16
  let main_v18 : FVec F S10000x128 .f32 := addf main_v9 main_v17
  let main_v19 : FVec F S10000x1x128 .f32 := (extractStridedSlice S10000x1x128 ![0, 0, 0] · slices_S10000x3x128_S10000x1x128_0_0_0) main_arg0
  let main_v20 : FVec F S10000x128 .f32 := shapeCast S10000x128 main_v19 shapeCasts_S10000x1x128_S10000x128
  fn_part1 (F := F) main_arg0 main_arg1 main_arg2 main_arg3 main_arg6 main_arg7 main_arg8 main_arg9 main_arg10 main_arg11 main_arg12 main_arg13 main_arg22 main_arg23 main_arg24 main_arg25 main_v18 main_v20
-- ==== Kernel.lean ====
abbrev S10000x3x128 : Shape := ⟨3, ![10000, 3, 128]⟩
abbrev S10000x10000 : Shape := ⟨2, ![10000, 10000]⟩
abbrev S1x3x3 : Shape := ⟨3, ![1, 3, 3]⟩
abbrev S1 : Shape := ⟨1, ![1]⟩
abbrev S3x1x3 : Shape := ⟨3, ![3, 1, 3]⟩
abbrev S3 : Shape := ⟨1, ![3]⟩
abbrev S128x128 : Shape := ⟨2, ![128, 128]⟩
abbrev S128 : Shape := ⟨1, ![128]⟩
abbrev S256x128 : Shape := ⟨2, ![256, 128]⟩
abbrev S256 : Shape := ⟨1, ![256]⟩
abbrev S32x256 : Shape := ⟨2, ![32, 256]⟩
abbrev S32 : Shape := ⟨1, ![32]⟩
abbrev S256x32 : Shape := ⟨2, ![256, 32]⟩
abbrev S128x256 : Shape := ⟨2, ![128, 256]⟩
abbrev S10x32 : Shape := ⟨2, ![10, 32]⟩
abbrev S10 : Shape := ⟨1, ![10]⟩
abbrev S10000x1x128 : Shape := ⟨3, ![10000, 1, 128]⟩
abbrev S10000x128 : Shape := ⟨2, ![10000, 128]⟩
abbrev S1x128 : Shape := ⟨2, ![1, 128]⟩
abbrev S1x256 : Shape := ⟨2, ![1, 256]⟩
abbrev S1x32 : Shape := ⟨2, ![1, 32]⟩
abbrev S10000x256 : Shape := ⟨2, ![10000, 256]⟩
abbrev S10000x32 : Shape := ⟨2, ![10000, 32]⟩
abbrev S3x10000x128 : Shape := ⟨3, ![3, 10000, 128]⟩
abbrev S2048x128 : Shape := ⟨2, ![2048, 128]⟩
abbrev S2048x256 : Shape := ⟨2, ![2048, 256]⟩
abbrev S2048x32 : Shape := ⟨2, ![2048, 32]⟩
abbrev S3x2048x128 : Shape := ⟨3, ![3, 2048, 128]⟩
abbrev S1x1x1 : Shape := ⟨3, ![1, 1, 1]⟩
abbrev S1x2048x128 : Shape := ⟨3, ![1, 2048, 128]⟩
abbrev S480x10000 : Shape := ⟨2, ![480, 10000]⟩
abbrev S480x128 : Shape := ⟨2, ![480, 128]⟩
abbrev S1920x10000 : Shape := ⟨2, ![1920, 10000]⟩
abbrev S1920x128 : Shape := ⟨2, ![1920, 128]⟩
abbrev S1920x256 : Shape := ⟨2, ![1920, 256]⟩
abbrev S1024x10000 : Shape := ⟨2, ![1024, 10000]⟩
abbrev S1024x256 : Shape := ⟨2, ![1024, 256]⟩
abbrev S1024x32 : Shape := ⟨2, ![1024, 32]⟩
abbrev S1x10 : Shape := ⟨2, ![1, 10]⟩
abbrev S10000x10 : Shape := ⟨2, ![10000, 10]⟩
abbrev S1920x32 : Shape := ⟨2, ![1920, 32]⟩
abbrev S1920x10 : Shape := ⟨2, ![1920, 10]⟩
abbrev S1920 : Shape := ⟨1, ![1920]⟩
abbrev S1920x1 : Shape := ⟨2, ![1920, 1]⟩

abbrev nBuf : Space → Nat
  | .hbm => 56
  | .vmem => 72
  | .smem => 4
  | _ => 0

abbrev bufTy : (tb : Table) → Fin (tcTables nBuf tb) → BufTy
  | .hbm, ⟨0, _⟩ => ⟨S10000x3x128, .f32⟩
  | .hbm, ⟨1, _⟩ => ⟨S10000x10000, .f32⟩
  | .hbm, ⟨2, _⟩ => ⟨S1x3x3, .f32⟩
  | .hbm, ⟨3, _⟩ => ⟨S1, .f32⟩
  | .hbm, ⟨4, _⟩ => ⟨S3x1x3, .f32⟩
  | .hbm, ⟨5, _⟩ => ⟨S3, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S256, .f32⟩
  | .hbm, ⟨12, _⟩ => ⟨S32x256, .f32⟩
  | .hbm, ⟨13, _⟩ => ⟨S32, .f32⟩
  | .hbm, ⟨14, _⟩ => ⟨S256x32, .f32⟩
  | .hbm, ⟨15, _⟩ => ⟨S256, .f32⟩
  | .hbm, ⟨16, _⟩ => ⟨S128x256, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128x128, .f32⟩
  | .hbm, ⟨23, _⟩ => ⟨S128x128, .f32⟩
  | .hbm, ⟨24, _⟩ => ⟨S128x256, .f32⟩
  | .hbm, ⟨25, _⟩ => ⟨S256x32, .f32⟩
  | .hbm, ⟨26, _⟩ => ⟨S10x32, .f32⟩
  | .hbm, ⟨27, _⟩ => ⟨S10, .f32⟩
  | .hbm, ⟨28, _⟩ => ⟨S10000x1x128, .f32⟩
  | .hbm, ⟨29, _⟩ => ⟨S10000x128, .f32⟩
  | .hbm, ⟨30, _⟩ => ⟨S10000x1x128, .f32⟩
  | .hbm, ⟨31, _⟩ => ⟨S10000x128, .f32⟩
  | .hbm, ⟨32, _⟩ => ⟨S10000x1x128, .f32⟩
  | .hbm, ⟨33, _⟩ => ⟨S10000x128, .f32⟩
  | .hbm, ⟨34, _⟩ => ⟨S1x128, .f32⟩
  | .hbm, ⟨35, _⟩ => ⟨S1x128, .f32⟩
  | .hbm, ⟨36, _⟩ => ⟨S1x256, .f32⟩
  | .hbm, ⟨37, _⟩ => ⟨S1x32, .f32⟩
  | .hbm, ⟨38, _⟩ => ⟨S1x256, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S10000x256, .f32⟩
  | .hbm, ⟨46, _⟩ => ⟨S10000x32, .f32⟩
  | .hbm, ⟨47, _⟩ => ⟨S10000x128, .fp8e4m3⟩
  | .hbm, ⟨48, _⟩ => ⟨S3x10000x128, .f32⟩
  | .hbm, ⟨49, _⟩ => ⟨S10000x10000, .fp8e4m3⟩
  | .hbm, ⟨50, _⟩ => ⟨S10000x128, .fp8e4m3⟩
  | .hbm, ⟨51, _⟩ => ⟨S10000x256, .fp8e4m3⟩
  | .hbm, ⟨52, _⟩ => ⟨S10000x32, .fp8e4m3⟩
  | .hbm, ⟨53, _⟩ => ⟨S1x10, .f32⟩
  | .hbm, ⟨54, _⟩ => ⟨S10000x10, .f32⟩
  | .hbm, ⟨55, _⟩ => ⟨S10000x3x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S256x128, .f32⟩
  | .local _ .vmem, ⟨11, _⟩ => ⟨S1x256, .f32⟩
  | .local _ .vmem, ⟨12, _⟩ => ⟨S32x256, .f32⟩
  | .local _ .vmem, ⟨13, _⟩ => ⟨S1x32, .f32⟩
  | .local _ .vmem, ⟨14, _⟩ => ⟨S256x32, .f32⟩
  | .local _ .vmem, ⟨15, _⟩ => ⟨S1x256, .f32⟩
  | .local _ .vmem, ⟨16, _⟩ => ⟨S128x256, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x256, .f32⟩
  | .local _ .vmem, ⟨30, _⟩ => ⟨S2048x256, .f32⟩
  | .local _ .vmem, ⟨31, _⟩ => ⟨S2048x32, .f32⟩
  | .local _ .vmem, ⟨32, _⟩ => ⟨S2048x32, .f32⟩
  | .local _ .vmem, ⟨33, _⟩ => ⟨S2048x128, .fp8e4m3⟩
  | .local _ .vmem, ⟨34, _⟩ => ⟨S2048x128, .fp8e4m3⟩
  | .local _ .vmem, ⟨35, _⟩ => ⟨S3x2048x128, .f32⟩
  | .local _ .vmem, ⟨36, _⟩ => ⟨S3x2048x128, .f32⟩
  | .local _ .vmem, ⟨37, _⟩ => ⟨S480x10000, .f32⟩
  | .local _ .vmem, ⟨38, _⟩ => ⟨S480x10000, .f32⟩
  | .local _ .vmem, ⟨39, _⟩ => ⟨S10000x128, .fp8e4m3⟩
  | .local _ .vmem, ⟨40, _⟩ => ⟨S480x128, .f32⟩
  | .local _ .vmem, ⟨41, _⟩ => ⟨S480x128, .f32⟩
  | .local _ .vmem, ⟨42, _⟩ => ⟨S128x128, .f32⟩
  | .local _ .vmem, ⟨43, _⟩ => ⟨S480x10000, .fp8e4m3⟩
  | .local _ .vmem, ⟨44, _⟩ => ⟨S480x10000, .fp8e4m3⟩
  | .local _ .vmem, ⟨45, _⟩ => ⟨S480x128, .fp8e4m3⟩
  | .local _ .vmem, ⟨46, _⟩ => ⟨S480x128, .fp8e4m3⟩
  | .local _ .vmem, ⟨47, _⟩ => ⟨S1920x10000, .fp8e4m3⟩
  | .local _ .vmem, ⟨48, _⟩ => ⟨S1920x10000, .fp8e4m3⟩
  | .local _ .vmem, ⟨49, _⟩ => ⟨S10000x128, .fp8e4m3⟩
  | .local _ .vmem, ⟨50, _⟩ => ⟨S1920x128, .f32⟩
  | .local _ .vmem, ⟨51, _⟩ => ⟨S1920x128, .f32⟩
  | .local _ .vmem, ⟨52, _⟩ => ⟨S128x256, .f32⟩
  | .local _ .vmem, ⟨53, _⟩ => ⟨S1920x256, .fp8e4m3⟩
  | .local _ .vmem, ⟨54, _⟩ => ⟨S1920x256, .fp8e4m3⟩
  | .local _ .vmem, ⟨55, _⟩ => ⟨S1024x10000, .fp8e4m3⟩
  | .local _ .vmem, ⟨56, _⟩ => ⟨S1024x10000, .fp8e4m3⟩
  | .local _ .vmem, ⟨57, _⟩ => ⟨S10000x256, .fp8e4m3⟩
  | .local _ .vmem, ⟨58, _⟩ => ⟨S1024x256, .f32⟩
  | .local _ .vmem, ⟨59, _⟩ => ⟨S1024x256, .f32⟩
  | .local _ .vmem, ⟨60, _⟩ => ⟨S256x32, .f32⟩
  | .local _ .vmem, ⟨61, _⟩ => ⟨S1024x32, .fp8e4m3⟩
  | .local _ .vmem, ⟨62, _⟩ => ⟨S1024x32, .fp8e4m3⟩
  | .local _ .vmem, ⟨63, _⟩ => ⟨S1920x10000, .fp8e4m3⟩
  | .local _ .vmem, ⟨64, _⟩ => ⟨S1920x10000, .fp8e4m3⟩
  | .local _ .vmem, ⟨65, _⟩ => ⟨S10000x32, .fp8e4m3⟩
  | .local _ .vmem, ⟨66, _⟩ => ⟨S1920x32, .f32⟩
  | .local _ .vmem, ⟨67, _⟩ => ⟨S1920x32, .f32⟩
  | .local _ .vmem, ⟨68, _⟩ => ⟨S10x32, .f32⟩
  | .local _ .vmem, ⟨69, _⟩ => ⟨S1x10, .f32⟩
  | .local _ .vmem, ⟨70, _⟩ => ⟨S1920x10, .f32⟩
  | .local _ .vmem, ⟨71, _⟩ => ⟨S1920x10, .f32⟩
  | .local _ .smem, ⟨0, _⟩ => ⟨S1x3x3, .f32⟩
  | .local _ .smem, ⟨1, _⟩ => ⟨S1, .f32⟩
  | .local _ .smem, ⟨2, _⟩ => ⟨S3x1x3, .f32⟩
  | .local _ .smem, ⟨3, _⟩ => ⟨S3, .f32⟩
  | _, _ => ⟨S10000x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14_0 : Ref sig .tc := ⟨.hbm, 42, rfl⟩
abbrev main_v14_1 : Ref sig .tc := ⟨.hbm, 43, rfl⟩
abbrev main_v14_2 : Ref sig .tc := ⟨.hbm, 44, rfl⟩
abbrev main_v14_3 : Ref sig .tc := ⟨.hbm, 45, rfl⟩
abbrev main_v14_4 : Ref sig .tc := ⟨.hbm, 46, rfl⟩
abbrev main_v14_5 : Ref sig .tc := ⟨.hbm, 47, rfl⟩
abbrev main_v14_6 : Ref sig .tc := ⟨.hbm, 48, rfl⟩
abbrev main_v15_0 : Ref sig .tc := ⟨.hbm, 49, rfl⟩
abbrev main_v15_1 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg20_0 : Ref sig .tc := ⟨.vmem, 19, rfl⟩
abbrev cc0_stg21_0 : Ref sig .tc := ⟨.vmem, 20, rfl⟩
abbrev cc0_stg22_0 : Ref sig .tc := ⟨.vmem, 21, rfl⟩
abbrev cc0_stg23_0 : Ref sig .tc := ⟨.vmem, 22, rfl⟩
abbrev cc0_stg24_0 : Ref sig .tc := ⟨.vmem, 23, rfl⟩
abbrev cc0_stg24_1 : Ref sig .tc := ⟨.vmem, 24, rfl⟩
abbrev cc0_stg25_0 : Ref sig .tc := ⟨.vmem, 25, rfl⟩
abbrev cc0_stg25_1 : Ref sig .tc := ⟨.vmem, 26, rfl⟩
abbrev cc0_stg26_0 : Ref sig .tc := ⟨.vmem, 27, rfl⟩
abbrev cc0_stg26_1 : Ref sig .tc := ⟨.vmem, 28, rfl⟩
abbrev cc0_stg27_0 : Ref sig .tc := ⟨.vmem, 29, rfl⟩
abbrev cc0_stg27_1 : Ref sig .tc := ⟨.vmem, 30, rfl⟩
abbrev cc0_stg28_0 : Ref sig .tc := ⟨.vmem, 31, rfl⟩
abbrev cc0_stg28_1 : Ref sig .tc := ⟨.vmem, 32, rfl⟩
abbrev cc0_stg29_0 : Ref sig .tc := ⟨.vmem, 33, rfl⟩
abbrev cc0_stg29_1 : Ref sig .tc := ⟨.vmem, 34, rfl⟩
abbrev cc0_stg30_0 : Ref sig .tc := ⟨.vmem, 35, rfl⟩
abbrev cc0_stg30_1 : Ref sig .tc := ⟨.vmem, 36, rfl⟩
abbrev cc1_stg0_0 : Ref sig .tc := ⟨.vmem, 37, rfl⟩
abbrev cc1_stg0_1 : Ref sig .tc := ⟨.vmem, 38, rfl⟩
abbrev cc1_stg1_0 : Ref sig .tc := ⟨.vmem, 39, rfl⟩
abbrev cc1_stg2_0 : Ref sig .tc := ⟨.vmem, 40, rfl⟩
abbrev cc1_stg2_1 : Ref sig .tc := ⟨.vmem, 41, rfl⟩
abbrev cc1_stg3_0 : Ref sig .tc := ⟨.vmem, 42, rfl⟩
abbrev cc1_stg4_0 : Ref sig .tc := ⟨.vmem, 43, rfl⟩
abbrev cc1_stg4_1 : Ref sig .tc := ⟨.vmem, 44, rfl⟩
abbrev cc1_stg5_0 : Ref sig .tc := ⟨.vmem, 45, rfl⟩
abbrev cc1_stg5_1 : Ref sig .tc := ⟨.vmem, 46, rfl⟩
abbrev cc2_stg0_0 : Ref sig .tc := ⟨.vmem, 47, rfl⟩
abbrev cc2_stg0_1 : Ref sig .tc := ⟨.vmem, 48, rfl⟩
abbrev cc2_stg1_0 : Ref sig .tc := ⟨.vmem, 49, rfl⟩
abbrev cc2_stg2_0 : Ref sig .tc := ⟨.vmem, 50, rfl⟩
abbrev cc2_stg2_1 : Ref sig .tc := ⟨.vmem, 51, rfl⟩
abbrev cc2_stg3_0 : Ref sig .tc := ⟨.vmem, 52, rfl⟩
abbrev cc2_stg4_0 : Ref sig .tc := ⟨.vmem, 53, rfl⟩
abbrev cc2_stg4_1 : Ref sig .tc := ⟨.vmem, 54, rfl⟩
abbrev cc3_stg0_0 : Ref sig .tc := ⟨.vmem, 55, rfl⟩
abbrev cc3_stg0_1 : Ref sig .tc := ⟨.vmem, 56, rfl⟩
abbrev cc3_stg1_0 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg4_0 : Ref sig .tc := ⟨.vmem, 61, rfl⟩
abbrev cc3_stg4_1 : Ref sig .tc := ⟨.vmem, 62, rfl⟩
abbrev cc4_stg0_0 : Ref sig .tc := ⟨.vmem, 63, rfl⟩
abbrev cc4_stg0_1 : Ref sig .tc := ⟨.vmem, 64, rfl⟩
abbrev cc4_stg1_0 : Ref sig .tc := ⟨.vmem, 65, rfl⟩
abbrev cc4_stg2_0 : Ref sig .tc := ⟨.vmem, 66, rfl⟩
abbrev cc4_stg2_1 : Ref sig .tc := ⟨.vmem, 67, rfl⟩
abbrev cc4_stg3_0 : Ref sig .tc := ⟨.vmem, 68, rfl⟩
abbrev cc4_stg4_0 : Ref sig .tc := ⟨.vmem, 69, rfl⟩
abbrev cc4_stg5_0 : Ref sig .tc := ⟨.vmem, 70, rfl⟩
abbrev cc4_stg5_1 : Ref sig .tc := ⟨.vmem, 71, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_stg6_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem24_1 : DmaSem sig := 28
abbrev cc0_sem25_0 : DmaSem sig := 29
abbrev cc0_sem25_1 : DmaSem sig := 30
abbrev cc0_sem26_0 : DmaSem sig := 31
abbrev cc0_sem26_1 : DmaSem sig := 32
abbrev cc0_sem27_0 : DmaSem sig := 33
abbrev cc0_sem27_1 : DmaSem sig := 34
abbrev cc0_sem28_0 : DmaSem sig := 35
abbrev cc0_sem28_1 : DmaSem sig := 36
abbrev cc0_sem29_0 : DmaSem sig := 37
abbrev cc0_sem29_1 : DmaSem sig := 38
abbrev cc0_sem30_0 : DmaSem sig := 39
abbrev cc0_sem30_1 : DmaSem sig := 40
abbrev cc1_sem0_0 : DmaSem sig := 41
abbrev cc1_sem0_1 : DmaSem sig := 42
abbrev cc1_sem1_0 : DmaSem sig := 43
abbrev cc1_sem2_0 : DmaSem sig := 44
abbrev cc1_sem2_1 : DmaSem sig := 45
abbrev cc1_sem3_0 : DmaSem sig := 46
abbrev cc1_sem4_0 : DmaSem sig := 47
abbrev cc1_sem4_1 : DmaSem sig := 48
abbrev cc1_sem5_0 : DmaSem sig := 49
abbrev cc1_sem5_1 : DmaSem sig := 50
abbrev cc2_sem0_0 : DmaSem sig := 51
abbrev cc2_sem0_1 : DmaSem sig := 52
abbrev cc2_sem1_0 : DmaSem sig := 53
abbrev cc2_sem2_0 : DmaSem sig := 54
abbrev cc2_sem2_1 : DmaSem sig := 55
abbrev cc2_sem3_0 : DmaSem sig := 56
abbrev cc2_sem4_0 : DmaSem sig := 57
abbrev cc2_sem4_1 : DmaSem sig := 58
abbrev cc3_sem0_0 : DmaSem sig := 59
abbrev cc3_sem0_1 : DmaSem sig := 60
abbrev cc3_sem1_0 : DmaSem sig := 61
abbrev cc3_sem2_0 : DmaSem sig := 62
abbrev cc3_sem2_1 : DmaSem sig := 63
abbrev cc3_sem3_0 : DmaSem sig := 64
abbrev cc3_sem4_0 : DmaSem sig := 65
abbrev cc3_sem4_1 : DmaSem sig := 66
abbrev cc4_sem0_0 : DmaSem sig := 67
abbrev cc4_sem0_1 : DmaSem sig := 68
abbrev cc4_sem1_0 : DmaSem sig := 69
abbrev cc4_sem2_0 : DmaSem sig := 70
abbrev cc4_sem2_1 : DmaSem sig := 71
abbrev cc4_sem3_0 : DmaSem sig := 72
abbrev cc4_sem4_0 : DmaSem sig := 73
abbrev cc4_sem5_0 : DmaSem sig := 74
abbrev cc4_sem5_1 : DmaSem sig := 75

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S3x1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S2048x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2048x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S2048x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S2048x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S2048x32 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S2048x128 .fp8e4m3 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S3x2048x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev grid1 : Pipeline.Grid := ⟨1, ![21], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S480x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S480x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S480x10000 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S480x128 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1920x10000 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1920x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1920x256 .fp8e4m3 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x10000 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .fp8e4m3 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x32 .fp8e4m3 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![6], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1920x10000 .fp8e4m3 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x32 .fp8e4m3 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1920x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S10x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1920x10 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]
-- ==== ReferenceIdeal.lean ====
abbrev S10000x3x128 : Shape := ⟨3, ![10000, 3, 128]⟩
abbrev S10000x10000 : Shape := ⟨2, ![10000, 10000]⟩
abbrev S1x3x3 : Shape := ⟨3, ![1, 3, 3]⟩
abbrev S1 : Shape := ⟨1, ![1]⟩
abbrev S3x1x3 : Shape := ⟨3, ![3, 1, 3]⟩
abbrev S3 : Shape := ⟨1, ![3]⟩
abbrev S128x128 : Shape := ⟨2, ![128, 128]⟩
abbrev S128 : Shape := ⟨1, ![128]⟩
abbrev S256x128 : Shape := ⟨2, ![256, 128]⟩
abbrev S256 : Shape := ⟨1, ![256]⟩
abbrev S32x256 : Shape := ⟨2, ![32, 256]⟩
abbrev S32 : Shape := ⟨1, ![32]⟩
abbrev S256x32 : Shape := ⟨2, ![256, 32]⟩
abbrev S128x256 : Shape := ⟨2, ![128, 256]⟩
abbrev S10x32 : Shape := ⟨2, ![10, 32]⟩
abbrev S10 : Shape := ⟨1, ![10]⟩
abbrev S10000x1x128 : Shape := ⟨3, ![10000, 1, 128]⟩
abbrev S10000x128 : Shape := ⟨2, ![10000, 128]⟩
abbrev S_ : Shape := ⟨0, ![]⟩
abbrev S10000x130 : Shape := ⟨2, ![10000, 130]⟩
abbrev S1x1x1 : Shape := ⟨3, ![1, 1, 1]⟩
abbrev S1x128 : Shape := ⟨2, ![1, 128]⟩
abbrev S10000x256 : Shape := ⟨2, ![10000, 256]⟩
abbrev S1x256 : Shape := ⟨2, ![1, 256]⟩
abbrev S10000x32 : Shape := ⟨2, ![10000, 32]⟩
abbrev S1x32 : Shape := ⟨2, ![1, 32]⟩
abbrev S32x10 : Shape := ⟨2, ![32, 10]⟩
abbrev S10000x10 : Shape := ⟨2, ![10000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 357
  | .vmem => 0
  | .smem => 0
  | _ => 0

abbrev hbmTy0_0 (i : Nat) : BufTy := match i % 128 with
  | 0 => ⟨S10000x3x128, .f32⟩
  | 1 => ⟨S10000x10000, .f32⟩
  | 2 => ⟨S1x3x3, .f32⟩
  | 3 => ⟨S1, .f32⟩
  | 4 => ⟨S3x1x3, .f32⟩
  | 5 => ⟨S3, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S256, .f32⟩
  | 12 => ⟨S32x256, .f32⟩
  | 13 => ⟨S32, .f32⟩
  | 14 => ⟨S256x32, .f32⟩
  | 15 => ⟨S256, .f32⟩
  | 16 => ⟨S128x256, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128x128, .f32⟩
  | 24 => ⟨S128x256, .f32⟩
  | 25 => ⟨S256x32, .f32⟩
  | 26 => ⟨S10x32, .f32⟩
  | 27 => ⟨S10, .f32⟩
  | 28 => ⟨S10000x1x128, .f32⟩
  | 29 => ⟨S10000x128, .f32⟩
  | 30 => ⟨S_, .i32⟩
  | 31 => ⟨S_, .f32⟩
  | 32 => ⟨S10000x130, .f32⟩
  | 33 => ⟨S10000x128, .f32⟩
  | 34 => ⟨S1x1x1, .f32⟩
  | 35 => ⟨S_, .f32⟩
  | 36 => ⟨S10000x128, .f32⟩
  | 37 => ⟨S10000x128, .f32⟩
  | 38 => ⟨S_, .f32⟩
  | 39 => ⟨S10000x128, .f32⟩
  | 40 => ⟨S10000x128, .f32⟩
  | 41 => ⟨S10000x1x128, .f32⟩
  | 42 => ⟨S10000x128, .f32⟩
  | 43 => ⟨S_, .i32⟩
  | 44 => ⟨S_, .f32⟩
  | 45 => ⟨S10000x130, .f32⟩
  | 46 => ⟨S10000x128, .f32⟩
  | 47 => ⟨S1x1x1, .f32⟩
  | 48 => ⟨S_, .f32⟩
  | 49 => ⟨S10000x128, .f32⟩
  | 50 => ⟨S10000x128, .f32⟩
  | 51 => ⟨S10000x128, .f32⟩
  | 52 => ⟨S10000x1x128, .f32⟩
  | 53 => ⟨S10000x128, .f32⟩
  | 54 => ⟨S_, .i32⟩
  | 55 => ⟨S_, .f32⟩
  | 56 => ⟨S10000x130, .f32⟩
  | 57 => ⟨S10000x128, .f32⟩
  | 58 => ⟨S1x1x1, .f32⟩
  | 59 => ⟨S_, .f32⟩
  | 60 => ⟨S10000x128, .f32⟩
  | 61 => ⟨S10000x128, .f32⟩
  | 62 => ⟨S10000x128, .f32⟩
  | 63 => ⟨S10000x1x128, .f32⟩
  | 64 => ⟨S10000x128, .f32⟩
  | 65 => ⟨S_, .i32⟩
  | 66 => ⟨S_, .f32⟩
  | 67 => ⟨S10000x130, .f32⟩
  | 68 => ⟨S10000x128, .f32⟩
  | 69 => ⟨S1x1x1, .f32⟩
  | 70 => ⟨S_, .f32⟩
  | 71 => ⟨S10000x128, .f32⟩
  | 72 => ⟨S10000x128, .f32⟩
  | 73 => ⟨S10000x128, .f32⟩
  | 74 => ⟨S10000x1x128, .f32⟩
  | 75 => ⟨S10000x128, .f32⟩
  | 76 => ⟨S_, .i32⟩
  | 77 => ⟨S_, .f32⟩
  | 78 => ⟨S10000x130, .f32⟩
  | 79 => ⟨S10000x128, .f32⟩
  | 80 => ⟨S1x1x1, .f32⟩
  | 81 => ⟨S_, .f32⟩
  | 82 => ⟨S10000x128, .f32⟩
  | 83 => ⟨S10000x128, .f32⟩
  | 84 => ⟨S10000x128, .f32⟩
  | 85 => ⟨S10000x1x128, .f32⟩
  | 86 => ⟨S10000x128, .f32⟩
  | 87 => ⟨S_, .i32⟩
  | 88 => ⟨S_, .f32⟩
  | 89 => ⟨S10000x130, .f32⟩
  | 90 => ⟨S10000x128, .f32⟩
  | 91 => ⟨S1x1x1, .f32⟩
  | 92 => ⟨S_, .f32⟩
  | 93 => ⟨S10000x128, .f32⟩
  | 94 => ⟨S10000x128, .f32⟩
  | 95 => ⟨S10000x128, .f32⟩
  | 96 => ⟨S10000x1x128, .f32⟩
  | 97 => ⟨S10000x128, .f32⟩
  | 98 => ⟨S_, .i32⟩
  | 99 => ⟨S_, .f32⟩
  | 100 => ⟨S10000x130, .f32⟩
  | 101 => ⟨S10000x128, .f32⟩
  | 102 => ⟨S1x1x1, .f32⟩
  | 103 => ⟨S_, .f32⟩
  | 104 => ⟨S10000x128, .f32⟩
  | 105 => ⟨S10000x128, .f32⟩
  | 106 => ⟨S10000x128, .f32⟩
  | 107 => ⟨S10000x1x128, .f32⟩
  | 108 => ⟨S10000x128, .f32⟩
  | 109 => ⟨S_, .i32⟩
  | 110 => ⟨S_, .f32⟩
  | 111 => ⟨S10000x130, .f32⟩
  | 112 => ⟨S10000x128, .f32⟩
  | 113 => ⟨S1x1x1, .f32⟩
  | 114 => ⟨S_, .f32⟩
  | 115 => ⟨S10000x128, .f32⟩
  | 116 => ⟨S10000x128, .f32⟩
  | 117 => ⟨S10000x128, .f32⟩
  | 118 => ⟨S10000x1x128, .f32⟩
  | 119 => ⟨S10000x128, .f32⟩
  | 120 => ⟨S_, .i32⟩
  | 121 => ⟨S_, .f32⟩
  | 122 => ⟨S10000x130, .f32⟩
  | 123 => ⟨S10000x128, .f32⟩
  | 124 => ⟨S1x1x1, .f32⟩
  | 125 => ⟨S_, .f32⟩
  | 126 => ⟨S10000x128, .f32⟩
  | 127 => ⟨S10000x128, .f32⟩
  | _ => ⟨S10000x3x128, .f32⟩

abbrev hbmTy0_1 (i : Nat) : BufTy := match i % 128 with
  | 0 => ⟨S10000x128, .f32⟩
  | 1 => ⟨S_, .f32⟩
  | 2 => ⟨S10000x128, .f32⟩
  | 3 => ⟨S10000x128, .f32⟩
  | 4 => ⟨S128x128, .f32⟩
  | 5 => ⟨S10000x128, .f32⟩
  | 6 => ⟨S1x128, .f32⟩
  | 7 => ⟨S10000x128, .f32⟩
  | 8 => ⟨S10000x128, .f32⟩
  | 9 => ⟨S_, .f32⟩
  | 10 => ⟨S10000x128, .f32⟩
  | 11 => ⟨S10000x128, .f32⟩
  | 12 => ⟨S128x128, .f32⟩
  | 13 => ⟨S10000x128, .f32⟩
  | 14 => ⟨S1x128, .f32⟩
  | 15 => ⟨S10000x128, .f32⟩
  | 16 => ⟨S10000x128, .f32⟩
  | 17 => ⟨S_, .f32⟩
  | 18 => ⟨S10000x128, .f32⟩
  | 19 => ⟨S10000x128, .f32⟩
  | 20 => ⟨S128x256, .f32⟩
  | 21 => ⟨S10000x256, .f32⟩
  | 22 => ⟨S1x256, .f32⟩
  | 23 => ⟨S10000x256, .f32⟩
  | 24 => ⟨S10000x256, .f32⟩
  | 25 => ⟨S_, .f32⟩
  | 26 => ⟨S10000x256, .f32⟩
  | 27 => ⟨S10000x256, .f32⟩
  | 28 => ⟨S256x32, .f32⟩
  | 29 => ⟨S10000x32, .f32⟩
  | 30 => ⟨S1x32, .f32⟩
  | 31 => ⟨S10000x32, .f32⟩
  | 32 => ⟨S10000x32, .f32⟩
  | 33 => ⟨S10000x128, .f32⟩
  | 34 => ⟨S10000x128, .f32⟩
  | 35 => ⟨S_, .f32⟩
  | 36 => ⟨S10000x128, .f32⟩
  | 37 => ⟨S10000x128, .f32⟩
  | 38 => ⟨S_, .f32⟩
  | 39 => ⟨S10000x128, .f32⟩
  | 40 => ⟨S10000x128, .f32⟩
  | 41 => ⟨S_, .f32⟩
  | 42 => ⟨S10000x128, .f32⟩
  | 43 => ⟨S10000x128, .f32⟩
  | 44 => ⟨S10000x128, .f32⟩
  | 45 => ⟨S10000x128, .f32⟩
  | 46 => ⟨S10000x128, .f32⟩
  | 47 => ⟨S_, .f32⟩
  | 48 => ⟨S10000x128, .f32⟩
  | 49 => ⟨S10000x128, .f32⟩
  | 50 => ⟨S_, .f32⟩
  | 51 => ⟨S10000x128, .f32⟩
  | 52 => ⟨S10000x128, .f32⟩
  | 53 => ⟨S_, .f32⟩
  | 54 => ⟨S10000x128, .f32⟩
  | 55 => ⟨S10000x128, .f32⟩
  | 56 => ⟨S10000x128, .f32⟩
  | 57 => ⟨S10000x256, .f32⟩
  | 58 => ⟨S10000x256, .f32⟩
  | 59 => ⟨S_, .f32⟩
  | 60 => ⟨S10000x256, .f32⟩
  | 61 => ⟨S10000x256, .f32⟩
  | 62 => ⟨S_, .f32⟩
  | 63 => ⟨S10000x256, .f32⟩
  | 64 => ⟨S10000x256, .f32⟩
  | 65 => ⟨S_, .f32⟩
  | 66 => ⟨S10000x256, .f32⟩
  | 67 => ⟨S10000x256, .f32⟩
  | 68 => ⟨S10000x256, .f32⟩
  | 69 => ⟨S10000x32, .f32⟩
  | 70 => ⟨S10000x32, .f32⟩
  | 71 => ⟨S_, .f32⟩
  | 72 => ⟨S10000x32, .f32⟩
  | 73 => ⟨S10000x32, .f32⟩
  | 74 => ⟨S_, .f32⟩
  | 75 => ⟨S10000x32, .f32⟩
  | 76 => ⟨S10000x32, .f32⟩
  | 77 => ⟨S10000x32, .f32⟩
  | 78 => ⟨S32x256, .f32⟩
  | 79 => ⟨S10000x256, .f32⟩
  | 80 => ⟨S1x256, .f32⟩
  | 81 => ⟨S10000x256, .f32⟩
  | 82 => ⟨S10000x256, .f32⟩
  | 83 => ⟨S_, .f32⟩
  | 84 => ⟨S10000x256, .f32⟩
  | 85 => ⟨S10000x256, .f32⟩
  | 86 => ⟨S256x128, .f32⟩
  | 87 => ⟨S10000x128, .f32⟩
  | 88 => ⟨S1x128, .f32⟩
  | 89 => ⟨S10000x128, .f32⟩
  | 90 => ⟨S10000x128, .f32⟩
  | 91 => ⟨S_, .f32⟩
  | 92 => ⟨S10000x128, .f32⟩
  | 93 => ⟨S10000x128, .f32⟩
  | 94 => ⟨S128x128, .f32⟩
  | 95 => ⟨S10000x128, .f32⟩
  | 96 => ⟨S1x128, .f32⟩
  | 97 => ⟨S10000x128, .f32⟩
  | 98 => ⟨S10000x128, .f32⟩
  | 99 => ⟨S_, .f32⟩
  | 100 => ⟨S10000x128, .f32⟩
  | 101 => ⟨S10000x128, .f32⟩
  | 102 => ⟨S128x128, .f32⟩
  | 103 => ⟨S10000x128, .f32⟩
  | 104 => ⟨S1x128, .f32⟩
  | 105 => ⟨S10000x128, .f32⟩
  | 106 => ⟨S10000x128, .f32⟩
  | 107 => ⟨S_, .f32⟩
  | 108 => ⟨S10000x128, .f32⟩
  | 109 => ⟨S10000x128, .f32⟩
  | 110 => ⟨S_, .i32⟩
  | 111 => ⟨S_, .f32⟩
  | 112 => ⟨S10000x130, .f32⟩
  | 113 => ⟨S10000x128, .f32⟩
  | 114 => ⟨S1x1x1, .f32⟩
  | 115 => ⟨S_, .f32⟩
  | 116 => ⟨S10000x128, .f32⟩
  | 117 => ⟨S10000x128, .f32⟩
  | 118 => ⟨S_, .f32⟩
  | 119 => ⟨S10000x128, .f32⟩
  | 120 => ⟨S10000x128, .f32⟩
  | 121 => ⟨S_, .i32⟩
  | 122 => ⟨S_, .f32⟩
  | 123 => ⟨S10000x130, .f32⟩
  | 124 => ⟨S10000x128, .f32⟩
  | 125 => ⟨S1x1x1, .f32⟩
  | 126 => ⟨S_, .f32⟩
  | 127 => ⟨S10000x128, .f32⟩
  | _ => ⟨S10000x3x128, .f32⟩

abbrev hbmTy0_2 (i : Nat) : BufTy := match i % 128 with
  | 0 => ⟨S10000x128, .f32⟩
  | 1 => ⟨S10000x128, .f32⟩
  | 2 => ⟨S_, .i32⟩
  | 3 => ⟨S_, .f32⟩
  | 4 => ⟨S10000x130, .f32⟩
  | 5 => ⟨S10000x128, .f32⟩
  | 6 => ⟨S1x1x1, .f32⟩
  | 7 => ⟨S_, .f32⟩
  | 8 => ⟨S10000x128, .f32⟩
  | 9 => ⟨S10000x128, .f32⟩
  | 10 => ⟨S10000x128, .f32⟩
  | 11 => ⟨S1, .f32⟩
  | 12 => ⟨S_, .f32⟩
  | 13 => ⟨S10000x128, .f32⟩
  | 14 => ⟨S10000x128, .f32⟩
  | 15 => ⟨S_, .i32⟩
  | 16 => ⟨S_, .f32⟩
  | 17 => ⟨S10000x130, .f32⟩
  | 18 => ⟨S10000x128, .f32⟩
  | 19 => ⟨S1x1x1, .f32⟩
  | 20 => ⟨S_, .f32⟩
  | 21 => ⟨S10000x128, .f32⟩
  | 22 => ⟨S10000x128, .f32⟩
  | 23 => ⟨S_, .f32⟩
  | 24 => ⟨S10000x128, .f32⟩
  | 25 => ⟨S10000x128, .f32⟩
  | 26 => ⟨S_, .i32⟩
  | 27 => ⟨S_, .f32⟩
  | 28 => ⟨S10000x130, .f32⟩
  | 29 => ⟨S10000x128, .f32⟩
  | 30 => ⟨S1x1x1, .f32⟩
  | 31 => ⟨S_, .f32⟩
  | 32 => ⟨S10000x128, .f32⟩
  | 33 => ⟨S10000x128, .f32⟩
  | 34 => ⟨S10000x128, .f32⟩
  | 35 => ⟨S_, .i32⟩
  | 36 => ⟨S_, .f32⟩
  | 37 => ⟨S10000x130, .f32⟩
  | 38 => ⟨S10000x128, .f32⟩
  | 39 => ⟨S1x1x1, .f32⟩
  | 40 => ⟨S_, .f32⟩
  | 41 => ⟨S10000x128, .f32⟩
  | 42 => ⟨S10000x128, .f32⟩
  | 43 => ⟨S10000x128, .f32⟩
  | 44 => ⟨S1, .f32⟩
  | 45 => ⟨S_, .f32⟩
  | 46 => ⟨S10000x128, .f32⟩
  | 47 => ⟨S10000x128, .f32⟩
  | 48 => ⟨S_, .i32⟩
  | 49 => ⟨S_, .f32⟩
  | 50 => ⟨S10000x130, .f32⟩
  | 51 => ⟨S10000x128, .f32⟩
  | 52 => ⟨S1x1x1, .f32⟩
  | 53 => ⟨S_, .f32⟩
  | 54 => ⟨S10000x128, .f32⟩
  | 55 => ⟨S10000x128, .f32⟩
  | 56 => ⟨S_, .f32⟩
  | 57 => ⟨S10000x128, .f32⟩
  | 58 => ⟨S10000x128, .f32⟩
  | 59 => ⟨S_, .i32⟩
  | 60 => ⟨S_, .f32⟩
  | 61 => ⟨S10000x130, .f32⟩
  | 62 => ⟨S10000x128, .f32⟩
  | 63 => ⟨S1x1x1, .f32⟩
  | 64 => ⟨S_, .f32⟩
  | 65 => ⟨S10000x128, .f32⟩
  | 66 => ⟨S10000x128, .f32⟩
  | 67 => ⟨S10000x128, .f32⟩
  | 68 => ⟨S_, .i32⟩
  | 69 => ⟨S_, .f32⟩
  | 70 => ⟨S10000x130, .f32⟩
  | 71 => ⟨S10000x128, .f32⟩
  | 72 => ⟨S1x1x1, .f32⟩
  | 73 => ⟨S_, .f32⟩
  | 74 => ⟨S10000x128, .f32⟩
  | 75 => ⟨S10000x128, .f32⟩
  | 76 => ⟨S10000x128, .f32⟩
  | 77 => ⟨S1, .f32⟩
  | 78 => ⟨S_, .f32⟩
  | 79 => ⟨S10000x128, .f32⟩
  | 80 => ⟨S10000x128, .f32⟩
  | 81 => ⟨S10000x1x128, .f32⟩
  | 82 => ⟨S10000x1x128, .f32⟩
  | 83 => ⟨S10000x1x128, .f32⟩
  | 84 => ⟨S10000x3x128, .f32⟩
  | 85 => ⟨S32x10, .f32⟩
  | 86 => ⟨S10000x10, .f32⟩
  | 87 => ⟨S1x10, .f32⟩
  | 88 => ⟨S10000x10, .f32⟩
  | 89 => ⟨S10000x10, .f32⟩
  | 90 => ⟨S_, .f32⟩
  | 91 => ⟨S10000, .f32⟩
  | 92 => ⟨S10000x1, .f32⟩
  | 93 => ⟨S10000x10, .f32⟩
  | 94 => ⟨S10000x10, .f32⟩
  | 95 => ⟨S10000x10, .f32⟩
  | 96 => ⟨S_, .f32⟩
  | 97 => ⟨S10000, .f32⟩
  | 98 => ⟨S10000x1, .f32⟩
  | 99 => ⟨S10000x10, .f32⟩
  | 100 => ⟨S10000x10, .f32⟩
  | _ => ⟨S10000x3x128, .f32⟩

abbrev hbmTy (i : Nat) : BufTy := match i / 128 with
  | 0 => hbmTy0_0 i
  | 1 => hbmTy0_1 i
  | 2 => hbmTy0_2 i
  | _ => ⟨S10000x3x128, .f32⟩

abbrev bufTy : (tb : Table) → Fin (tcTables nBuf tb) → BufTy
  | .hbm, ⟨i, _⟩ => hbmTy i
  | _, _ => ⟨S10000x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_c : Ref sig .tc := ⟨.hbm, 30, rfl⟩
abbrev main_call0_v0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_c_0 : Ref sig .tc := ⟨.hbm, 43, rfl⟩
abbrev main_call1_v0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_1 : Ref sig .tc := ⟨.hbm, 54, rfl⟩
abbrev main_call2_v0 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c_2 : Ref sig .tc := ⟨.hbm, 65, rfl⟩
abbrev main_call3_v0 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_3 : Ref sig .tc := ⟨.hbm, 76, rfl⟩
abbrev main_call4_v0 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_4 : Ref sig .tc := ⟨.hbm, 87, rfl⟩
abbrev main_call5_v0 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_c_5 : Ref sig .tc := ⟨.hbm, 98, rfl⟩
abbrev main_call6_v0 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_6 : Ref sig .tc := ⟨.hbm, 109, rfl⟩
abbrev main_call7_v0 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_7 : Ref sig .tc := ⟨.hbm, 120, rfl⟩
abbrev main_call8_v0 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_8 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_9 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_10 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_11 : Ref sig .tc := ⟨.hbm, 163, rfl⟩
abbrev main_v113 : Ref sig .tc := ⟨.hbm, 164, rfl⟩
abbrev main_v114 : Ref sig .tc := ⟨.hbm, 165, rfl⟩
abbrev main_cst_12 : Ref sig .tc := ⟨.hbm, 166, rfl⟩
abbrev main_v115 : Ref sig .tc := ⟨.hbm, 167, rfl⟩
abbrev main_v116 : Ref sig .tc := ⟨.hbm, 168, rfl⟩
abbrev main_cst_13 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_14 : Ref sig .tc := ⟨.hbm, 175, rfl⟩
abbrev main_v122 : Ref sig .tc := ⟨.hbm, 176, rfl⟩
abbrev main_v123 : Ref sig .tc := ⟨.hbm, 177, rfl⟩
abbrev main_cst_15 : Ref sig .tc := ⟨.hbm, 178, rfl⟩
abbrev main_v124 : Ref sig .tc := ⟨.hbm, 179, rfl⟩
abbrev main_v125 : Ref sig .tc := ⟨.hbm, 180, rfl⟩
abbrev main_cst_16 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_17 : Ref sig .tc := ⟨.hbm, 187, rfl⟩
abbrev main_v131 : Ref sig .tc := ⟨.hbm, 188, rfl⟩
abbrev main_v132 : Ref sig .tc := ⟨.hbm, 189, rfl⟩
abbrev main_cst_18 : Ref sig .tc := ⟨.hbm, 190, rfl⟩
abbrev main_v133 : Ref sig .tc := ⟨.hbm, 191, rfl⟩
abbrev main_v134 : Ref sig .tc := ⟨.hbm, 192, rfl⟩
abbrev main_cst_19 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_cst_20 : Ref sig .tc := ⟨.hbm, 199, rfl⟩
abbrev main_v140 : Ref sig .tc := ⟨.hbm, 200, rfl⟩
abbrev main_v141 : Ref sig .tc := ⟨.hbm, 201, rfl⟩
abbrev main_cst_21 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_cst_22 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_23 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_cst_24 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_cst_25 : Ref sig .tc := ⟨.hbm, 235, rfl⟩
abbrev main_v171 : Ref sig .tc := ⟨.hbm, 236, rfl⟩
abbrev main_v172 : Ref sig .tc := ⟨.hbm, 237, rfl⟩
abbrev main_c_26 : Ref sig .tc := ⟨.hbm, 238, rfl⟩
abbrev main_call9_v0 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_cst_27 : Ref sig .tc := ⟨.hbm, 246, rfl⟩
abbrev main_v179 : Ref sig .tc := ⟨.hbm, 247, rfl⟩
abbrev main_v180 : Ref sig .tc := ⟨.hbm, 248, rfl⟩
abbrev main_c_28 : Ref sig .tc := ⟨.hbm, 249, rfl⟩
abbrev main_call10_v0 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_c_29 : Ref sig .tc := ⟨.hbm, 258, rfl⟩
abbrev main_call11_v0 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_c_30 : Ref sig .tc := ⟨.hbm, 271, rfl⟩
abbrev main_call12_v0 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_cst_31 : Ref sig .tc := ⟨.hbm, 279, rfl⟩
abbrev main_v205 : Ref sig .tc := ⟨.hbm, 280, rfl⟩
abbrev main_v206 : Ref sig .tc := ⟨.hbm, 281, rfl⟩
abbrev main_c_32 : Ref sig .tc := ⟨.hbm, 282, rfl⟩
abbrev main_call13_v0 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_c_33 : Ref sig .tc := ⟨.hbm, 291, rfl⟩
abbrev main_call14_v0 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_c_34 : Ref sig .tc := ⟨.hbm, 304, rfl⟩
abbrev main_call15_v0 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_cst_35 : Ref sig .tc := ⟨.hbm, 312, rfl⟩
abbrev main_v231 : Ref sig .tc := ⟨.hbm, 313, rfl⟩
abbrev main_v232 : Ref sig .tc := ⟨.hbm, 314, rfl⟩
abbrev main_c_36 : Ref sig .tc := ⟨.hbm, 315, rfl⟩
abbrev main_call16_v0 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_c_37 : Ref sig .tc := ⟨.hbm, 324, rfl⟩
abbrev main_call17_v0 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_cst_38 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_cst_39 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩

abbrev nD : Nat := 1
abbrev τ : Topo := Topo.v7x

variable {F : FTy → Type} [FloatOps F]
-- ==== Proof.RelRegion.lean ====
/- A kernel region whose outputs are known only up to a relation, run as one host segment.

Each kernel call of the program reads blocks that reach past the end of their array: what such a block holds beyond the
array is whatever the staging buffer held before.  What a call writes is therefore described by a relation, and the
contents of memory between the calls are "some contents that meet it".  This module turns one call into a segment whose
entry state is "some valuation `W` with `Good W`" and whose exit state is "some valuation `W'` with `Step W W'` for such a
`W`", for any pipeline program. -/
module

public import Idealize.ShloMosaic.Lib.Pipeline.FrameSuffix
public import Idealize.ShloMosaic.Lib.Pipeline.RegionsLoop
public import Idealize.ShloMosaic.Lib.Pipeline.DatRel
public import Idealize.ShloMosaic.Lib.Pipeline.ArrRel
public import Idealize.ShloMosaic.Lib.Pipeline.FrameBody

@[expose] public section

noncomputable section

namespace Cert.Rel

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

/-- Two copies of the pipeline library's component: the launch keeps the first, the regions are run with the second. -/
abbrev U2 (sig : RefSig) (nD : Nat) (τ : Topo) : Type := UR sig nD τ × UR sig nD τ

variable {nD : Nat} {τ : Topo} {sig : RefSig} {Val : EltTy → Type} [∀ e, Nonempty (Val e)]
variable {Λ₀ : Idealize.SL.Sem.Labels} {P : Type} [Fintype P] [DecidableEq P]
variable (pcs : P → PCfg sig Λ₀ Val) (a : (p : P) → (pcs p).Adm) (defs₀ : Defs nD τ sig Val Λ₀)

local notation "𝕄" => MT nD τ sig Unit Val ℕ (U2 sig nD τ) ℕ

/-- No core owes another anything: no level is assigned. -/
abbrev L₀ (nD : Nat) (τ : Topo) (sig : RefSig) : GSem nD τ sig → Finset Unit := fun _ => ∅
abbrev lv₀ (nD : Nat) (τ : Topo) (sig : RefSig) : GSem nD τ sig → Unit → ℕ := fun _ _ => 0

/-- What rides beside the buffers: the generator register at some state and the core owing nothing. -/
abbrev Rest (c : Dev nD) : sProp 𝕄 :=
  iprop((∃ r, prngReg c r) ∗ ∃ W, owes (c.tc : Thread nD τ) (0 : CellTallies nD τ sig Unit) W)

/-- The regions' own ghost state. -/
abbrev ghost (S : Finset P) (c : Dev nD) : sProp 𝕄 := ghostOn pcs a embR S c

/-- The thread state: the unscoped buffers at some valuation that meets `Good`, the rest, and the ghost state of the
    pipelines still to be entered. -/
abbrev St (Good : Dev nD → Valuation τ sig Val → Prop) (S : Finset P) (c : Dev nD) : sProp 𝕄 :=
  iprop(∃ W : Valuation τ sig Val, ⌜Good c W⌝ ∗ StableHlo.held (c.tc : Thread nD τ) (ucRefs τ sig) W ∗ Rest c ∗ ghost pcs a S c)

/-- What a region brings: its layout, its data at each entry valuation, the relation its marked windows are held to,
    and the body obligation. -/
structure Region (p : P) where
  win : WinFacts (pin pcs a p).spec
  block_pos : ∀ w : Fin (pin pcs a p).W, 0 < ((pin pcs a p).spec w).block.numel
  arr_whole : ∀ w, ((pin pcs a p).spec w).arr.IsWhole
  stage_whole : ∀ (w : Fin (pin pcs a p).W) (s : Fin ((pin pcs a p).spec w).nbuf), (((pin pcs a p).spec w).stage s).IsWhole
  hpref : ∀ c : Dev nD, (BI.emp : sProp 𝕄) ⊢ prefHeld (pcs p).pre c (fun _ => fullShare) (a p).1
  dat : (c : Dev nD) → Valuation τ sig Val → Dat τ Val Unit ℕ (U2 sig nD τ) ℕ (pin pcs a p) c
  hA : ∀ c W w, (dat c W).A w = W (Proc.devRef .tc (arrRef (pin pcs a p).spec w))
  hshare : ∀ c W w, (dat c W).share w = fullShare
  hΦ : ∀ c W t, (dat c W).Φ t = ΦA (pin pcs a p).spec c
  howed : ∀ c W t, (dat c W).owed t = 0
  hrec : ∀ c W t, (dat c W).recorded t = Set.univ
  fgt : Fin (pin pcs a p).W → Bool
  Rl : (c : Dev nD) → Valuation τ sig Val → (w : Fin (pin pcs a p).W) → Fin (pin pcs a p).N →
    (((pin pcs a p).win w).block.Idx → Val ((pin pcs a p).win w).elt) → Prop
  hbody : ∀ c W, BodyObligationRel (dat c W) defs₀ Variants.none () Set.univ fgt (Rl c W)

namespace Region

variable {pcs a defs₀} {p : P} (R : Region pcs a defs₀ p)

/-- The relational data at an entry valuation. -/
abbrev rdat (c : Dev nD) (W : Valuation τ sig Val) : RDat τ Val Unit ℕ (U2 sig nD τ) ℕ (pin pcs a p) c :=
  (R.dat c W).toRRel R.fgt (R.Rl c W)

/-- The valuation once the region has written its arrays back, the staging buffers having held `after`. -/
def exitAt (c : Dev nD) (W : Valuation τ sig Val)
    (after : (w : Fin (pin pcs a p).W) → Fin (pin pcs a p).N → ((pin pcs a p).win w).block.Idx → Val ((pin pcs a p).win w).elt) :
    Valuation τ sig Val :=
  withArrays (pin pcs a p).spec c W fun w => ((R.rdat c W).withAfter after).arrAt w (pin pcs a p).N

/-- What the region may make of a valuation: its arrays written back from contents that meet the relation. -/
def Step (c : Dev nD) (W W' : Valuation τ sig Val) : Prop :=
  ∃ after, (∀ w u, R.fgt w = true → ((pin pcs a p).win w).flush u = true → R.Rl c W w u (after w u)) ∧ W' = R.exitAt c W after

/-- The region as a record at one entry valuation of one core. -/
def seg (c₀ : Dev nD) (W₀ : Valuation τ sig Val) :
    RDat.RegionSeg pcs a (RDat.familyOf pcs a p fun c => R.rdat c W₀) () defs₀ Variants.none (L₀ nD τ sig) (lv₀ nD τ sig) p where
  win := R.win.to₀
  block_pos := R.block_pos
  stage_whole := R.stage_whole
  K := PEmpty
  osem k := k.elim
  ho := OwnSemFacts.none _
  hbody c := by rw [RDat.familyOf_self]; exact (R.hbody c W₀).toRRel
  hwaits := RDat.hwaits_of_owed_zero _ _ _ _ _ _ p fun c t => by rw [RDat.familyOf_self]; exact R.howed c W₀ t
  pre c := iprop(StableHlo.held (c.tc : Thread nD τ) (ucRefs τ sig) W₀ ∗ Rest c)
  post c := iprop(∃ W', ⌜R.Step c W₀ W'⌝ ∗ StableHlo.held (c.tc : Thread nD τ) (ucRefs τ sig) W' ∗ Rest c)
  X c := iprop(∃ r, prngReg c r)
  Y c := iprop(∃ r, prngReg c r)
  Z c := unscopedRest (Ix := Unit) (Name := ℕ) (U := U2 sig nD τ) (Lvl := ℕ) (pin pcs a p).spec c (fun b => W₀ (Proc.devRef .tc b))
  hentry c := by
    rw [ownSems0_none]
    have hsplit := RDat.arrays_of_unscopedBufs (p := p) pcs a (RDat.familyOf pcs a p fun c => R.rdat c W₀) R.win R.arr_whole c
      (by rw [RDat.familyOf_self]; exact R.hshare c W₀) (fun b => W₀ (Proc.devRef .tc b))
      (by rw [RDat.familyOf_self]; exact R.hA c W₀)
    rw [unscopedBufs_held] at hsplit
    rw [RDat.familyOf_self] at hsplit ⊢
    have hp := R.hpref c
    iintro ⟨⟨Hub, Hp, HO⟩, -, -⟩
    ihave H := hsplit $$ Hub
    icases H with ⟨Ha, Hrest⟩
    imodintro
    isplitl [Ha]; · iexact Ha
    isplitr; · iapply hp; iempintro
    isplitl [HO]
    · rw [Dat.toRRel_owesAt]
      unfold Dat.owesAt owesWithin
      rw [R.howed]
      icases HO with ⟨%W, HO⟩; iexists W; isplitr
      · ipureintro; intro x _; refine Or.inl ?_; rw [R.hrec]; trivial
      iexact HO
    isplitl [Hp]; · iexact Hp
    iexact Hrest
  hin c := by
    rw [RDat.familyOf_self, Dat.toRRel_Φ, R.hΦ]; unfold ΦA
    iintro ⟨Hp, -, Hr⟩
    isplitl [Hr]; · iexact Hr
    iexact Hp
  hout c := by
    rw [ownSems0_none, RDat.familyOf_self, Dat.toRRel_Φ, R.hΦ]; unfold ΦA
    iintro ⟨Hr, Hp⟩
    isplitl [Hp]; · iexact Hp
    isplitr; · iempintro
    iexact Hr
  hexit c := by
    have harr : ((R.rdat c W₀).arraysAt (pin pcs a p).N : sProp 𝕄)
        ⊢ iprop(∃ A, ⌜∀ w, (R.rdat c W₀).ArrAt w (pin pcs a p).N (A w)⌝ ∗ (R.rdat c W₀).arrays A) := by
      unfold RDat.arraysAt
      iintro Ha
      ihave Ha' := (BI.bigSep_exists_pi Finset.univ (fun w F => iprop(⌜(R.rdat c W₀).ArrAt w (pin pcs a p).N F⌝
          ∗ ((pin pcs a p).win w).arr.view.loc (c.tc : Thread nD τ) ↦[((pin pcs a p).win w).arr.view.set]{(R.rdat c W₀).share w} F))) $$ Ha
      icases Ha' with ⟨%A, Ha⟩
      ihave Ha2 := (BI.bigSep_pure_sep Finset.univ (fun w => (R.rdat c W₀).ArrAt w (pin pcs a p).N (A w))
          (fun w => ((pin pcs a p).win w).arr.view.loc (c.tc : Thread nD τ) ↦[((pin pcs a p).win w).arr.view.set]{(R.rdat c W₀).share w} A w)) $$ Ha
      icases Ha2 with ⟨%hA', Ha⟩
      iexists A; isplitr; · ipureintro; exact fun w => hA' w (Finset.mem_univ w)
      unfold RDat.arrays
      iexact Ha
    have hjoin : ∀ A : (w : Fin (pin pcs a p).W) → Buf Val (((pin pcs a p).spec w).arr.view.loc (c.tc : Thread nD τ)),
        iprop((R.rdat c W₀).arrays A ∗ unscopedRest (pin pcs a p).spec c (fun b => W₀ (Proc.devRef .tc b)))
          ⊢ (StableHlo.held (c.tc : Thread nD τ) (ucRefs τ sig) (withArrays (pin pcs a p).spec c W₀ A) : sProp 𝕄) := fun A => by
      have h := unscopedBufs_of_arrays (p := p) pcs a (Ix := Unit) (Name := ℕ) (U := U2 sig nD τ) (Lvl := ℕ) R.win R.arr_whole c
        (fun q c => if h : q = p then h ▸ R.dat c W₀ else
          { A := fun _ => Classical.arbitrary _, after := fun _ _ _ => Classical.arbitrary _, Φ := fun _ => BI.emp, q := fun _ => fullShare, owed := fun _ => 0 })
        (by rw [dif_pos rfl]; exact R.hshare c W₀) (fun b => W₀ (Proc.devRef .tc b))
        (fun b => withArrays (pin pcs a p).spec c W₀ A (Proc.devRef .tc b)) A
        (fun w => (withArrays_arr _ R.win.arr_inj c W₀ A w).symm)
        (fun b hb => withArrays_of_ne _ c W₀ A b fun w e => hb (Finset.mem_image.mpr ⟨w, Finset.mem_univ _, e⟩))
      rw [unscopedBufs_held, dif_pos rfl] at h
      exact h
    rw [RDat.familyOf_self]
    iintro ⟨Ha, HO, HY, Hrest⟩
    ihave Ha' := harr $$ Ha
    icases Ha' with ⟨%A, %hA, Ha⟩
    obtain ⟨after, hL, hG⟩ := RDat.ArrAt.exists_exact_all hA
    imodintro
    iexists (R.exitAt c W₀ after)
    isplitr
    · ipureintro
      exact ⟨after, fun w u hw hf => Dat.toRRel_leaves _ hw (hL w u u.isLt hf), rfl⟩
    isplitl [Ha Hrest]
    · have hj := hjoin A
      rw [show A = fun w => ((R.rdat c W₀).withAfter after).arrAt w (pin pcs a p).N from funext hG] at hj ⊢
      iapply hj; isplitl [Ha] <;> iassumption
    isplitl [HY]; · iexact HY
    rw [Dat.toRRel_owesAt]
    unfold Dat.owesAt owesWithin
    rw [R.howed]
    icases HO with ⟨%W, -, HO⟩; iexists W; iexact HO

/-- THE REGION AS A SEGMENT: entered from some valuation that meets `Good`, left at some valuation that a step of the
    region makes of one. -/
def host (phinj : Function.Injective (cellOf (nD := nD) (τ := τ) (pin pcs a))) (Good : Dev nD → Valuation τ sig Val → Prop)
    (S : Finset P) (hp : p ∈ S) :
    HostSeg (Name := ℕ) (U := U2 sig nD τ) pcs defs₀ Variants.none (L₀ nD τ sig) (lv₀ nD τ sig) where
  prog := Prog.lift (.customCall (entry p) ())
  pre := St pcs a Good S
  post := St pcs a (fun c W' => ∃ W, Good c W ∧ R.Step c W W') (S.erase p)
  run c β k K := by
    have hg : (ghost pcs a S c : sProp 𝕄)
        ⊢ iprop((cellsGhost (pin pcs a) embR p c ∗ toksInit (pin pcs a) embR p c) ∗ ghost pcs a (S.erase p) c) :=
      Entails.of_eq (PerCore.ghostOn_erase pcs (fun _ => a) embR hp c)
    iintro ⟨Hk, Hbd, ⟨%W, %hW, Hh, HR, HG⟩, Hla⟩
    ihave HG' := hg $$ HG
    icases HG' with ⟨⟨Hg, Ht⟩, Hrest⟩
    have hwp := RDat.RegionSeg.wp pcs a _ () phinj embR defs₀ Variants.none (L₀ nD τ sig) (lv₀ nD τ sig) (R.seg c W) c none
      (fun u h => nomatch h) k K
    rw [show (R.seg c W).pre c = iprop(StableHlo.held (c.tc : Thread nD τ) (ucRefs τ sig) W ∗ Rest c) from rfl,
      show (R.seg c W).post c = iprop(∃ W', ⌜R.Step c W W'⌝ ∗ StableHlo.held (c.tc : Thread nD τ) (ucRefs τ sig) W' ∗ Rest c) from rfl] at hwp
    iapply hwp
    isplitl [Hk Hrest]
    · iintro ⟨Hbd, ⟨%W', %hS, Hh, HR⟩⟩
      iapply Hk
      isplitl [Hbd]; · iexact Hbd
      iexists W'
      isplitr; · ipureintro; exact ⟨W, hW, hS⟩
      isplitl [Hh]; · iexact Hh
      isplitl [HR]; · iexact HR
      iexact Hrest
    · isplitl [Hbd]; · iexact Hbd
      isplitl [Hh HR]
      · isplitl [Hh]; · iexact Hh
        iexact HR
      isplitl [Hla]; · iexact Hla
      isplitl [Hg] <;> iassumption

end Region

/-- A host stretch as a segment between the same thread states: every valuation is taken through its operations. -/
def hostOps (Good : Dev nD → Valuation τ sig Val → Prop) (S : Finset P) (ops : List (HloOp τ sig Val))
    (hsub : ∀ op ∈ ops, op.bufs ⊆ ucRefs τ sig) (hfresh : ∀ op ∈ ops, op.fresh = ∅) :
    HostSeg (Name := ℕ) (U := U2 sig nD τ) pcs defs₀ Variants.none (L₀ nD τ sig) (lv₀ nD τ sig) where
  prog := StableHlo.seq ops
  pre := St pcs a Good S
  post := St pcs a (fun c W' => ∃ W, Good c W ∧ W' = StableHlo.after ops W) S
  run c β k K := by
    iintro ⟨Hk, Hbd, ⟨%W, %hW, Hh, HR, Hg⟩, Hla⟩
    have hrun := (HostSeg.ofOps (Name := ℕ) (U := U2 sig nD τ) pcs defs₀ Variants.none (L₀ nD τ sig) (lv₀ nD τ sig) (ucRefs τ sig) ops hsub hfresh
      (fun _ => W) (fun c => iprop(Rest c ∗ ghost pcs a S c))).run c k K
    dsimp only [HostSeg.ofOps] at hrun
    iapply hrun
    isplitl [Hk]
    · iintro ⟨Hbd, Hh, HR, Hg⟩
      iapply Hk
      isplitl [Hbd]; · iexact Hbd
      iexists (StableHlo.after ops W)
      isplitr; · ipureintro; exact ⟨W, hW, rfl⟩
      isplitl [Hh]; · iexact Hh
      isplitl [HR] <;> iassumption
    · isplitl [Hbd]; · iexact Hbd
      isplitl [Hh HR Hg]
      · isplitl [Hh]; · iexact Hh
        isplitl [HR] <;> iassumption
      iexact Hla

/-! ## The launch -/

/-- Proof data for the launch's own list, which enters no region: nothing said, nothing carried. -/
def noData : (p : P) → (c : Dev nD) → RDat τ Val Unit ℕ (U2 sig nD τ) ℕ (pin pcs a p) c := fun _ _ =>
  { A := fun _ => Classical.arbitrary _, after := fun _ _ _ _ => True, Φ := fun _ => BI.emp, q := fun _ => fullShare, owed := fun _ => 0 }

/-- The program's segments, all of them host segments in the launch's eyes. -/
abbrev Segs : Type _ := List (RDat.Seg pcs a (noData pcs a) () defs₀ Variants.none (L₀ nD τ sig) (lv₀ nD τ sig))

/-- A chain may end at anything its last state entails. -/
theorem chains_mono {T' T'' : Dev nD → sProp 𝕄} (h : ∀ c, T' c ⊢ T'' c) :
    ∀ (l : Segs pcs a defs₀) (T : Dev nD → sProp 𝕄), RDat.Seg.Chains T l T' → RDat.Seg.Chains T l T''
  | [], _, hl => fun c => (hl c).trans (h c)
  | _ :: l, _, hl => ⟨hl.1, chains_mono h l _ hl.2⟩

/-- THE RUN: a program that is a chain of such segments, launched on memory `m` with zero counters, terminates with
    nothing faulting, every counter at zero, and the unscoped buffers at some valuation that meets `Good'`. -/
theorem run (phinj : Function.Injective (cellOf (nD := nD) (τ := τ) (pin pcs a)))
    (hsc : ∀ sm : SemLoc sig, sm.isScoped .tc = true)
    (m : (ℓ : Loc nD τ sig) → Buf Val ℓ) (g : Dev nD → PrngReg)
    (main : Dev nD → Prog (TpuEff nD τ sig Val (Pipeline.Sig Λ₀ P fun p => (pcs p).Adm) .tc) PUnit)
    (segs : Segs pcs a defs₀) (hmain : ∀ c, main c = RDat.Seg.run segs) (hnd : (RDat.Seg.pipes segs).Nodup)
    (Good Good' : Dev nD → Valuation τ sig Val → Prop) (S : Finset P)
    (h0 : ∀ c, Good c fun b => m (c, b))
    (hch : RDat.Seg.Chains (St pcs a Good Finset.univ) segs (St pcs a Good' S)) :
    θ_run (Pipeline.defs pcs defs₀) (onTc main) ⟨m, fun _ => 0, g⟩ fun r =>
      (∀ c : Dev nD, ∃ W, Good' c W ∧ ∀ b ∈ ucRefs τ sig, r.2.mem (c, b) = W b) ∧ r.2.sem = fun _ => 0 := by
  refine RDat.θ_run_regions_kit_sems pcs a (noData pcs a) () phinj embL defs₀ Variants.none (L₀ nD τ sig) (lv₀ nD τ sig) m g main segs
    (fun c Q => by rw [hmain c]) hnd (O₀ := 0) (hL := fun _ _ => rfl) (G := ghost pcs a Finset.univ)
    (u₀ := (initOf (cells (pin pcs a) phinj) (launchToks (pin pcs a) phinj), initOf (cells (pin pcs a) phinj) (launchToks (pin pcs a) phinj)))
    (hu₀ := ?_) (T₀ := St pcs a Good Finset.univ)
    (Tₙ := fun c => iprop(∃ W : Valuation τ sig Val, ⌜Good' c W⌝ ∗ StableHlo.held (c.tc : Thread nD τ) (ucRefs τ sig) W))
    (hch := chains_mono pcs a defs₀ (fun c => ?_) segs _ hch) (hinit := ?_)
    (QY := fun c s => ∃ W, Good' c W ∧ ∀ b ∈ ucRefs τ sig, s.mem (c, b) = W b) (hfin := fun c s' => ?_)
    (hQ := fun s h hz => ⟨h, funext fun g => hz g (.inr (hsc g.2))⟩)
  · have hghost : iprop((bigSep Finset.univ fun c : Dev nD => bigSep Finset.univ fun p => cellsGhost (pin pcs a) embR p c)
          ∗ (bigSep Finset.univ fun c : Dev nD => bigSep Finset.univ fun p => (toksInit (pin pcs a) embR p c : sProp 𝕄)))
        ⊢ bigSep Finset.univ fun c : Dev nD => ghost pcs a Finset.univ c := by
      rw [← bigSep_sep']
      exact bigSep_mono fun c _ => show iprop((bigSep Finset.univ fun p => cellsGhost (pin pcs a) embR p c)
            ∗ bigSep Finset.univ fun p => (toksInit (pin pcs a) embR p c : sProp 𝕄)) ⊢ ghost pcs a Finset.univ c
        from Entails.of_eq (by unfold ghost ghostOn PerCore.ghostOn; rw [bigSep_sep'])
    have hpair := ownU_pair (nD := nD) (τ := τ) (sig := sig) (Ix := Unit) (Val := Val) (Name := ℕ) (Lvl := ℕ)
      (initOf (cells (pin pcs a) phinj) (launchToks (pin pcs a) phinj)) (initOf (cells (pin pcs a) phinj) (launchToks (pin pcs a) phinj))
    iintro Hu
    ihave H := hpair $$ Hu
    icases H with ⟨HL, HR⟩
    imod (fund_ghost (pin pcs a) embR phinj) $$ HR with ⟨Hg, Ht⟩
    imodintro
    isplitl [HL]; · iexact HL
    iapply hghost
    isplitl [Hg] <;> iassumption
  · iintro ⟨%W, %hW, Hh, ⟨-, HO⟩, -⟩
    isplitl [Hh]
    · iexists W; isplitr; · ipureintro; exact hW
      iexact Hh
    iexact HO
  · refine initEach (L₀ nD τ sig) (lv₀ nD τ sig) fun c => ?_
    rw [show unscopedBufs c (fun b => m ((c.tc : Thread nD τ).loc b)) = StableHlo.held (c.tc : Thread nD τ) (ucRefs τ sig) (fun b => m (c, b))
      from unscopedBufs_held c (fun b => m (c, b))]
    iintro ⟨⟨Hh, -, HO, -, Hp, Hg⟩, -⟩
    imodintro
    iexists (fun b => m (c, b))
    isplitr; · ipureintro; exact h0 c
    isplitl [Hh]; · iexact Hh
    isplitl [HO Hp]
    · isplitl [Hp]; · iexists _; iexact Hp
      iexists ∅; iexact HO
    iexact Hg
  · iintro ⟨⟨%W, %hW, Hh⟩, HSI⟩
    unfold StableHlo.held
    have hread := pointsTo_read_all (ucRefs τ sig) (fun b => ((c, b) : Loc nD τ sig)) W s' (Ix := Unit) (Name := ℕ) (U := U2 sig nD τ) (Lvl := ℕ)
    ihave H := hread $$ [Hh HSI]
    · isplitl [Hh] <;> iassumption
    icases H with ⟨%h, HSI⟩
    imodintro
    isplitr; · ipureintro; exact ⟨W, hW, h⟩
    iexact HSI

end Cert.Rel

end
-- ==== Proof.Setup.lean ====
/- What the regions' modules share. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.RelRegion
public import Idealize.ShloMosaic.Lib.Ring
public import Idealize.ShloMosaic.Lib.Tactic

@[expose] public section

set_option maxRecDepth 16384

noncomputable section

namespace Cert.KernelIdeal.Rel

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (Cert.Rel.U2 sig nD τ) ℕ

/-- The prefetched tables' admissible contents: no call has a table. -/
abbrev adm : (p : Fin 5) → (pcfgs (F := F) p).Adm := fun p => (cfgs p).toPCfg_adm

end Cert.KernelIdeal.Rel

end
-- ==== Proof.Body0.lean ====
/- The first call of the kernel (both convolutions, the autoencoder and the first layer's features): its body's triple, and
the call as a region whose output blocks are known from the input blocks and whatever the three row blocks hold past the end
of their arrays. -/
module

public import proofs.«01_k».proof.Proof.Setup

@[expose] public section

set_option maxRecDepth 16384

noncomputable section

namespace Cert.KernelIdeal.Rel

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (Cert.Rel.U2 sig nD τ) ℕ

/-- Window `w`'s block at point `t`, read off its array as the region finds it. -/
def iblk0 (c : Dev nD) (W : Valuation τ sig (Elt F)) (w : Fin cfg0.W) (t : Fin cfg0.N) :
    ((cfg0.win w).xblock (cfg0.grid.coords t)).Idx → Elt F (cfg0.win w).elt :=
  ((cfg0.win w).blk t).view.read (Elt F) (W (Proc.devRef .tc (Pipeline.arrRef spec0 w)))

/-- The block with whatever the staging buffer held (`d`) past the end of the array. -/
def fblk0 (c : Dev nD) (W : Valuation τ sig (Elt F)) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk0 c W w t)

/-- What the body reads: the three row blocks, the two convolutions' words, the weights and biases. -/
structure In0 (F : FTy → Type) where
  x0 : Vec F S2048x128 .f32
  x1 : Vec F S2048x128 .f32
  x2 : Vec F S2048x128 .f32
  x3 : Vec F S1x3x3 .f32
  x4 : Vec F S1 .f32
  x5 : Vec F S3x1x3 .f32
  x6 : Vec F S3 .f32
  x7 : Vec F S128x128 .f32
  x8 : Vec F S1x128 .f32
  x9 : Vec F S128x128 .f32
  x10 : Vec F S1x128 .f32
  x11 : Vec F S256x128 .f32
  x12 : Vec F S1x256 .f32
  x13 : Vec F S32x256 .f32
  x14 : Vec F S1x32 .f32
  x15 : Vec F S256x32 .f32
  x16 : Vec F S1x256 .f32
  x17 : Vec F S128x256 .f32
  x18 : Vec F S1x128 .f32
  x19 : Vec F S128x128 .f32
  x20 : Vec F S1x128 .f32
  x21 : Vec F S128x128 .f32
  x22 : Vec F S1x128 .f32
  x23 : Vec F S128x128 .f32

/-- A whole block, and the slices of the rank-three output. -/
abbrev qS2048x128 : Rect S2048x128 := Rect.unit (s := S2048x128) ![0, 0] S2048x128.size inb_S2048x128_S2048x128_0_0
abbrev qS2048x256 : Rect S2048x256 := Rect.unit (s := S2048x256) ![0, 0] S2048x256.size inb_S2048x256_S2048x256_0_0
abbrev qS2048x32 : Rect S2048x32 := Rect.unit (s := S2048x32) ![0, 0] S2048x32.size inb_S2048x32_S2048x32_0_0
abbrev qS128x128 : Rect S128x128 := Rect.unit (s := S128x128) ![0, 0] S128x128.size inb_S128x128_S128x128_0_0
abbrev qS1x128 : Rect S1x128 := Rect.unit (s := S1x128) ![0, 0] S1x128.size inb_S1x128_S1x128_0_0
abbrev qS256x128 : Rect S256x128 := Rect.unit (s := S256x128) ![0, 0] S256x128.size inb_S256x128_S256x128_0_0
abbrev qS1x256 : Rect S1x256 := Rect.unit (s := S1x256) ![0, 0] S1x256.size inb_S1x256_S1x256_0_0
abbrev qS32x256 : Rect S32x256 := Rect.unit (s := S32x256) ![0, 0] S32x256.size inb_S32x256_S32x256_0_0
abbrev qS1x32 : Rect S1x32 := Rect.unit (s := S1x32) ![0, 0] S1x32.size inb_S1x32_S1x32_0_0
abbrev qS256x32 : Rect S256x32 := Rect.unit (s := S256x32) ![0, 0] S256x32.size inb_S256x32_S256x32_0_0
abbrev qS128x256 : Rect S128x256 := Rect.unit (s := S128x256) ![0, 0] S128x256.size inb_S128x256_S128x256_0_0
abbrev qX0 : Rect S3x2048x128 := Rect.unit (s := S3x2048x128) ![0, 0, 0] S1x2048x128.size inb_S3x2048x128_S1x2048x128_0_0_0
abbrev qX1 : Rect S3x2048x128 := Rect.unit (s := S3x2048x128) ![1, 0, 0] S1x2048x128.size inb_S3x2048x128_S1x2048x128_1_0_0
abbrev qX2 : Rect S3x2048x128 := Rect.unit (s := S3x2048x128) ![2, 0, 0] S1x2048x128.size inb_S3x2048x128_S1x2048x128_2_0_0

/-- One word of a scalar table. -/
abbrev word {S : Shape} (X : S.Idx → Elt F .f32) (r : Rect S) (h1 : r.shape.numel = 1) : Elt F .f32 :=
  View.ld X r (Shape.Idx.first (h1.symm ▸ Nat.one_pos))

namespace In0

variable (x : In0 F)

/-- The two convolutions' weights and biases. -/
abbrev cw00 : Elt F .f32 := word x.x3 (Rect.unit (s := S1x3x3) ![0, 0, 0] S1x1x1.size inb_S1x3x3_S1x1x1_0_0_0) numel1_S1x1x1
abbrev cw01 : Elt F .f32 := word x.x3 (Rect.unit (s := S1x3x3) ![0, 0, 1] S1x1x1.size inb_S1x3x3_S1x1x1_0_0_1) numel1_S1x1x1
abbrev cw02 : Elt F .f32 := word x.x3 (Rect.unit (s := S1x3x3) ![0, 0, 2] S1x1x1.size inb_S1x3x3_S1x1x1_0_0_2) numel1_S1x1x1
abbrev cw10 : Elt F .f32 := word x.x3 (Rect.unit (s := S1x3x3) ![0, 1, 0] S1x1x1.size inb_S1x3x3_S1x1x1_0_1_0) numel1_S1x1x1
abbrev cw11 : Elt F .f32 := word x.x3 (Rect.unit (s := S1x3x3) ![0, 1, 1] S1x1x1.size inb_S1x3x3_S1x1x1_0_1_1) numel1_S1x1x1
abbrev cw12 : Elt F .f32 := word x.x3 (Rect.unit (s := S1x3x3) ![0, 1, 2] S1x1x1.size inb_S1x3x3_S1x1x1_0_1_2) numel1_S1x1x1
abbrev cw20 : Elt F .f32 := word x.x3 (Rect.unit (s := S1x3x3) ![0, 2, 0] S1x1x1.size inb_S1x3x3_S1x1x1_0_2_0) numel1_S1x1x1
abbrev cw21 : Elt F .f32 := word x.x3 (Rect.unit (s := S1x3x3) ![0, 2, 1] S1x1x1.size inb_S1x3x3_S1x1x1_0_2_1) numel1_S1x1x1
abbrev cw22 : Elt F .f32 := word x.x3 (Rect.unit (s := S1x3x3) ![0, 2, 2] S1x1x1.size inb_S1x3x3_S1x1x1_0_2_2) numel1_S1x1x1
abbrev cb : Elt F .f32 := word x.x4 (Rect.unit (s := S1) ![0] S1.size inb_S1_S1_0) numel1_S1
abbrev dw00 : Elt F .f32 := word x.x5 (Rect.unit (s := S3x1x3) ![0, 0, 0] S1x1x1.size inb_S3x1x3_S1x1x1_0_0_0) numel1_S1x1x1
abbrev dw01 : Elt F .f32 := word x.x5 (Rect.unit (s := S3x1x3) ![0, 0, 1] S1x1x1.size inb_S3x1x3_S1x1x1_0_0_1) numel1_S1x1x1
abbrev dw02 : Elt F .f32 := word x.x5 (Rect.unit (s := S3x1x3) ![0, 0, 2] S1x1x1.size inb_S3x1x3_S1x1x1_0_0_2) numel1_S1x1x1
abbrev dw10 : Elt F .f32 := word x.x5 (Rect.unit (s := S3x1x3) ![1, 0, 0] S1x1x1.size inb_S3x1x3_S1x1x1_1_0_0) numel1_S1x1x1
abbrev dw11 : Elt F .f32 := word x.x5 (Rect.unit (s := S3x1x3) ![1, 0, 1] S1x1x1.size inb_S3x1x3_S1x1x1_1_0_1) numel1_S1x1x1
abbrev dw12 : Elt F .f32 := word x.x5 (Rect.unit (s := S3x1x3) ![1, 0, 2] S1x1x1.size inb_S3x1x3_S1x1x1_1_0_2) numel1_S1x1x1
abbrev dw20 : Elt F .f32 := word x.x5 (Rect.unit (s := S3x1x3) ![2, 0, 0] S1x1x1.size inb_S3x1x3_S1x1x1_2_0_0) numel1_S1x1x1
abbrev dw21 : Elt F .f32 := word x.x5 (Rect.unit (s := S3x1x3) ![2, 0, 1] S1x1x1.size inb_S3x1x3_S1x1x1_2_0_1) numel1_S1x1x1
abbrev dw22 : Elt F .f32 := word x.x5 (Rect.unit (s := S3x1x3) ![2, 0, 2] S1x1x1.size inb_S3x1x3_S1x1x1_2_0_2) numel1_S1x1x1
abbrev db0 : Elt F .f32 := word x.x6 (Rect.unit (s := S3) ![0] S1.size inb_S3_S1_0) numel1_S1
abbrev db1 : Elt F .f32 := word x.x6 (Rect.unit (s := S3) ![1] S1.size inb_S3_S1_1) numel1_S1
abbrev db2 : Elt F .f32 := word x.x6 (Rect.unit (s := S3) ![2] S1.size inb_S3_S1_2) numel1_S1

/-- What the body computes: the projected rows, the encoder's layers, the decoder's output, its three planes. -/
def pro : FVec F S2048x128 .f32 :=
  k0_pay7 k0_pay2 k0_pay3 (k0_pay4 x.cw00 x.cw01 x.cw02 (View.ld x.x0 qS2048x128)) x.cw11 x.cw12 k0_pay5 (k0_pay6 x.cw10) (View.ld x.x1 qS2048x128) x.cw20 x.cw21 x.cw22 (View.ld x.x2 qS2048x128) x.cb
def h1 : FVec F S2048x128 .f32 := k0_pay8 x.pro (View.ld x.x7 qS128x128) (View.ld x.x8 qS1x128)
def h2 : FVec F S2048x128 .f32 := k0_pay9 x.pro (View.ld x.x7 qS128x128) (View.ld x.x8 qS1x128) (View.ld x.x9 qS128x128) (View.ld x.x10 qS1x128)
def h3 : FVec F S2048x256 .f32 := k0_pay10 x.pro (View.ld x.x7 qS128x128) (View.ld x.x8 qS1x128) (View.ld x.x9 qS128x128) (View.ld x.x10 qS1x128) (View.ld x.x11 qS256x128) (View.ld x.x12 qS1x256)
def z : FVec F S2048x32 .f32 := k0_pay11 x.pro (View.ld x.x7 qS128x128) (View.ld x.x8 qS1x128) (View.ld x.x9 qS128x128) (View.ld x.x10 qS1x128) (View.ld x.x11 qS256x128) (View.ld x.x12 qS1x256) (View.ld x.x13 qS32x256) (View.ld x.x14 qS1x32)
def e1 : FVec F S2048x256 .f32 := k0_pay12 x.pro (View.ld x.x7 qS128x128) (View.ld x.x8 qS1x128) (View.ld x.x9 qS128x128) (View.ld x.x10 qS1x128) (View.ld x.x11 qS256x128) (View.ld x.x12 qS1x256) (View.ld x.x13 qS32x256) (View.ld x.x14 qS1x32) (View.ld x.x15 qS256x32)
def dec : FVec F S2048x128 .f32 := k0_pay13 x.e1 (View.ld x.x16 qS1x256) (View.ld x.x17 qS128x256) (View.ld x.x18 qS1x128) (View.ld x.x19 qS128x128) (View.ld x.x20 qS1x128) (View.ld x.x21 qS128x128) (View.ld x.x22 qS1x128)
def t1 : FVec F S2048x128 .fp8e4m3 := k0_pay1 x.pro (View.ld x.x23 qS128x128)
def xb0 : FVec F S1x2048x128 .f32 := k0_pay14 k0_pay2 k0_pay3 x.dec x.dw00 x.dw01 x.dw02 x.db0
def xb1 : FVec F S1x2048x128 .f32 := k0_pay16 x.dec (k0_pay15 k0_pay2 k0_pay3 x.dw10 x.dw11 x.dw12) x.db1
def xb2 : FVec F S1x2048x128 .f32 := k0_pay17 k0_pay2 k0_pay3 x.dec x.dw20 x.dw21 x.dw22 x.db2

/-- The output blocks after the body. -/
def out24 : Vec F S2048x128 .f32 := View.canon [⟨qS2048x128, x.pro⟩]
def out25 : Vec F S2048x128 .f32 := View.canon [⟨qS2048x128, x.h1⟩]
def out26 : Vec F S2048x128 .f32 := View.canon [⟨qS2048x128, x.h2⟩]
def out27 : Vec F S2048x256 .f32 := View.canon [⟨qS2048x256, x.h3⟩]
def out28 : Vec F S2048x32 .f32 := View.canon [⟨qS2048x32, x.z⟩]
def out29 : Vec F S2048x128 .fp8e4m3 := View.canon [⟨qS2048x128, x.t1⟩]
def out30 : Vec F S3x2048x128 .f32 := View.canon [⟨qX2, x.xb2⟩, ⟨qX1, x.xb1⟩, ⟨qX0, x.xb0⟩]

end In0

theorem cover0a (p0 : Vec F S2048x128 .f32) (y : S2048x128.Idx) :
    ∃ pc ∈ ([⟨qS2048x128, p0⟩] : List (View.Piece (Elt F) S2048x128 .f32)), y ∈ pc.1.set :=
  View.cover_of_tiled [⟨qS2048x128, p0⟩] S2048x128.size (by rfl) y
theorem cover0b (p0 : Vec F S2048x256 .f32) (y : S2048x256.Idx) :
    ∃ pc ∈ ([⟨qS2048x256, p0⟩] : List (View.Piece (Elt F) S2048x256 .f32)), y ∈ pc.1.set :=
  View.cover_of_tiled [⟨qS2048x256, p0⟩] S2048x256.size (by rfl) y
theorem cover0c (p0 : Vec F S2048x32 .f32) (y : S2048x32.Idx) :
    ∃ pc ∈ ([⟨qS2048x32, p0⟩] : List (View.Piece (Elt F) S2048x32 .f32)), y ∈ pc.1.set :=
  View.cover_of_tiled [⟨qS2048x32, p0⟩] S2048x32.size (by rfl) y
theorem cover0d (p0 : Vec F S2048x128 .fp8e4m3) (y : S2048x128.Idx) :
    ∃ pc ∈ ([⟨qS2048x128, p0⟩] : List (View.Piece (Elt F) S2048x128 .fp8e4m3)), y ∈ pc.1.set :=
  View.cover_of_tiled [⟨qS2048x128, p0⟩] S2048x128.size (by rfl) y
theorem cover0e (p0 p1 p2 : Vec F S1x2048x128 .f32) (y : S3x2048x128.Idx) :
    ∃ pc ∈ ([⟨qX2, p2⟩, ⟨qX1, p1⟩, ⟨qX0, p0⟩] : List (View.Piece (Elt F) S3x2048x128 .f32)), y ∈ pc.1.set :=
  View.cover_of_tiled [⟨qX2, p2⟩, ⟨qX1, p1⟩, ⟨qX0, p0⟩] S1x2048x128.size (by rfl) y

set_option maxHeartbeats 4000000 in
/-- The body on whole staging memrefs: the inputs stay as they were, the outputs end at the functions above of them. -/
theorem sound_kernel0 (c : Dev nD) (E : Set ℕ) (i : grid0.Coords)
    (arg1 : Memref sig .tc .vmem S2048x128 .f32) (harg1 : arg1.IsWhole) (arg2 : Memref sig .tc .vmem S2048x128 .f32) (harg2 : arg2.IsWhole) (arg3 :
    Memref sig .tc .vmem S2048x128 .f32) (harg3 : arg3.IsWhole) (arg4 : Memref sig .tc .smem S1x3x3 .f32) (harg4 : arg4.IsWhole) (arg5 : Memref sig
    .tc .smem S1 .f32) (harg5 : arg5.IsWhole) (arg6 : Memref sig .tc .smem S3x1x3 .f32) (harg6 : arg6.IsWhole) (arg7 : Memref sig .tc .smem S3 .f32)
    (harg7 : arg7.IsWhole) (arg8 : Memref sig .tc .vmem S128x128 .f32) (harg8 : arg8.IsWhole) (arg9 : Memref sig .tc .vmem S1x128 .f32) (harg9 :
    arg9.IsWhole) (arg10 : Memref sig .tc .vmem S128x128 .f32) (harg10 : arg10.IsWhole) (arg11 : Memref sig .tc .vmem S1x128 .f32) (harg11 :
    arg11.IsWhole) (arg12 : Memref sig .tc .vmem S256x128 .f32) (harg12 : arg12.IsWhole) (arg13 : Memref sig .tc .vmem S1x256 .f32) (harg13 :
    arg13.IsWhole) (arg14 : Memref sig .tc .vmem S32x256 .f32) (harg14 : arg14.IsWhole) (arg15 : Memref sig .tc .vmem S1x32 .f32) (harg15 :
    arg15.IsWhole) (arg16 : Memref sig .tc .vmem S256x32 .f32) (harg16 : arg16.IsWhole) (arg17 : Memref sig .tc .vmem S1x256 .f32) (harg17 :
    arg17.IsWhole) (arg18 : Memref sig .tc .vmem S128x256 .f32) (harg18 : arg18.IsWhole) (arg19 : Memref sig .tc .vmem S1x128 .f32) (harg19 :
    arg19.IsWhole) (arg20 : Memref sig .tc .vmem S128x128 .f32) (harg20 : arg20.IsWhole) (arg21 : Memref sig .tc .vmem S1x128 .f32) (harg21 :
    arg21.IsWhole) (arg22 : Memref sig .tc .vmem S128x128 .f32) (harg22 : arg22.IsWhole) (arg23 : Memref sig .tc .vmem S1x128 .f32) (harg23 :
    arg23.IsWhole) (arg24 : Memref sig .tc .vmem S128x128 .f32) (harg24 : arg24.IsWhole) (arg25 : Memref sig .tc .vmem S2048x128 .f32) (harg25 :
    arg25.IsWhole) (arg26 : Memref sig .tc .vmem S2048x128 .f32) (harg26 : arg26.IsWhole) (arg27 : Memref sig .tc .vmem S2048x128 .f32) (harg27 :
    arg27.IsWhole) (arg28 : Memref sig .tc .vmem S2048x256 .f32) (harg28 : arg28.IsWhole) (arg29 : Memref sig .tc .vmem S2048x32 .f32) (harg29 :
    arg29.IsWhole) (arg30 : Memref sig .tc .vmem S2048x128 .fp8e4m3) (harg30 : arg30.IsWhole) (arg31 : Memref sig .tc .vmem S3x2048x128 .f32) (harg31
    : arg31.IsWhole)
    (x : In0 F) (K : PUnit → sProp 𝕄) :
    iprop(owns (c : Thread nD τ) arg1 fullShare x.x0 ∗ owns (c : Thread nD τ) arg2 fullShare x.x1 ∗ owns (c : Thread nD τ) arg3 fullShare x.x2 ∗ owns
    (c : Thread nD τ) arg4 fullShare x.x3 ∗ owns (c : Thread nD τ) arg5 fullShare x.x4 ∗ owns (c : Thread nD τ) arg6 fullShare x.x5 ∗ owns (c : Thread
    nD τ) arg7 fullShare x.x6 ∗ owns (c : Thread nD τ) arg8 fullShare x.x7 ∗ owns (c : Thread nD τ) arg9 fullShare x.x8 ∗ owns (c : Thread nD τ) arg10
    fullShare x.x9 ∗ owns (c : Thread nD τ) arg11 fullShare x.x10 ∗ owns (c : Thread nD τ) arg12 fullShare x.x11 ∗ owns (c : Thread nD τ) arg13
    fullShare x.x12 ∗ owns (c : Thread nD τ) arg14 fullShare x.x13 ∗ owns (c : Thread nD τ) arg15 fullShare x.x14 ∗ owns (c : Thread nD τ) arg16
    fullShare x.x15 ∗ owns (c : Thread nD τ) arg17 fullShare x.x16 ∗ owns (c : Thread nD τ) arg18 fullShare x.x17 ∗ owns (c : Thread nD τ) arg19
    fullShare x.x18 ∗ owns (c : Thread nD τ) arg20 fullShare x.x19 ∗ owns (c : Thread nD τ) arg21 fullShare x.x20 ∗ owns (c : Thread nD τ) arg22
    fullShare x.x21 ∗ owns (c : Thread nD τ) arg23 fullShare x.x22 ∗ owns (c : Thread nD τ) arg24 fullShare x.x23 ∗ (∃ d, owns (c : Thread nD τ) arg25
    fullShare d) ∗ (∃ d, owns (c : Thread nD τ) arg26 fullShare d) ∗ (∃ d, owns (c : Thread nD τ) arg27 fullShare d) ∗ (∃ d, owns (c : Thread nD τ)
    arg28 fullShare d) ∗ (∃ d, owns (c : Thread nD τ) arg29 fullShare d) ∗ (∃ d, owns (c : Thread nD τ) arg30 fullShare d) ∗ (∃ d, owns (c : Thread nD
    τ) arg31 fullShare d)
        ∗ (iprop(owns (c : Thread nD τ) arg1 fullShare x.x0 ∗ owns (c : Thread nD τ) arg2 fullShare x.x1 ∗ owns (c : Thread nD τ) arg3 fullShare x.x2
        ∗ owns (c : Thread nD τ) arg4 fullShare x.x3 ∗ owns (c : Thread nD τ) arg5 fullShare x.x4 ∗ owns (c : Thread nD τ) arg6 fullShare x.x5 ∗ owns
        (c : Thread nD τ) arg7 fullShare x.x6 ∗ owns (c : Thread nD τ) arg8 fullShare x.x7 ∗ owns (c : Thread nD τ) arg9 fullShare x.x8 ∗ owns (c :
        Thread nD τ) arg10 fullShare x.x9 ∗ owns (c : Thread nD τ) arg11 fullShare x.x10 ∗ owns (c : Thread nD τ) arg12 fullShare x.x11 ∗ owns (c :
        Thread nD τ) arg13 fullShare x.x12 ∗ owns (c : Thread nD τ) arg14 fullShare x.x13 ∗ owns (c : Thread nD τ) arg15 fullShare x.x14 ∗ owns (c :
        Thread nD τ) arg16 fullShare x.x15 ∗ owns (c : Thread nD τ) arg17 fullShare x.x16 ∗ owns (c : Thread nD τ) arg18 fullShare x.x17 ∗ owns (c :
        Thread nD τ) arg19 fullShare x.x18 ∗ owns (c : Thread nD τ) arg20 fullShare x.x19 ∗ owns (c : Thread nD τ) arg21 fullShare x.x20 ∗ owns (c :
        Thread nD τ) arg22 fullShare x.x21 ∗ owns (c : Thread nD τ) arg23 fullShare x.x22 ∗ owns (c : Thread nD τ) arg24 fullShare x.x23 ∗ owns (c :
        Thread nD τ) arg25 fullShare x.out24 ∗ owns (c : Thread nD τ) arg26 fullShare x.out25 ∗ owns (c : Thread nD τ) arg27 fullShare x.out26 ∗ owns
        (c : Thread nD τ) arg28 fullShare x.out27 ∗ owns (c : Thread nD τ) arg29 fullShare x.out28 ∗ owns (c : Thread nD τ) arg30 fullShare x.out29 ∗
        owns (c : Thread nD τ) arg31 fullShare x.out30) -∗ K ⟨⟩))
      ⊢ wp frame (wpE (defs₀ (F := F)) Variants.none c none) E (cc0__ae_body i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 arg27 harg27 arg28 harg28 arg29 harg29
      arg30 harg30 arg31 harg31) K := by
  obtain ⟨x0, x1, x2, x3, x4, x5, x6, x7, x8, x9, x10, x11, x12, x13, x14, x15, x16, x17, x18, x19, x20, x21, x22, x23⟩ := x
  simp only [cc0__ae_body_eq_skeleton]; unfold cc0__ae_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15,
    H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩,
    ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -,
    H29⟩, ⟨%d30, %f30, -, H30⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    exact View.read_writes_eq_canon _ _ _ (cover0a _)
  isplitl [H25]
  · iexists _; isplitr
    swap; · iexact H25
    ipureintro
    exact View.read_writes_eq_canon _ _ _ (cover0a _)
  isplitl [H26]
  · iexists _; isplitr
    swap; · iexact H26
    ipureintro
    exact View.read_writes_eq_canon _ _ _ (cover0a _)
  isplitl [H27]
  · iexists _; isplitr
    swap; · iexact H27
    ipureintro
    exact View.read_writes_eq_canon _ _ _ (cover0b _)
  isplitl [H28]
  · iexists _; isplitr
    swap; · iexact H28
    ipureintro
    exact View.read_writes_eq_canon _ _ _ (cover0c _)
  isplitl [H29]
  · iexists _; isplitr
    swap; · iexact H29
    ipureintro
    exact View.read_writes_eq_canon _ _ _ (cover0d _)
  iexists _; isplitr
  swap; · iexact H30
  ipureintro
  exact View.read_writes_eq_canon _ _ _ (cover0e _ _ _)

end Cert.KernelIdeal.Rel

end
-- ==== Proof.Region0.lean ====
/- The first call of the kernel as a region: what it finds, what it leaves, and its body at every point. -/
module

public import proofs.«01_k».proof.Proof.Body0

@[expose] public section

set_option maxRecDepth 16384

noncomputable section

namespace Cert.KernelIdeal.Rel

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (Cert.Rel.U2 sig nD τ) ℕ

/-- What the body reads at point `t`: the three row blocks filled up with `d0`, `d1`, `d2`, the other windows' blocks. -/
def in0 (c : Dev nD) (W : Valuation τ sig (Elt F)) (t : Fin cfg0.N) (d0 d1 d2 : S2048x128.Idx → Elt F .f32) : In0 F where
  x0 := fblk0 c W 0 t d0
  x1 := fblk0 c W 1 t d1
  x2 := fblk0 c W 2 t d2
  x3 := iblk0 c W 3 t
  x4 := iblk0 c W 4 t
  x5 := iblk0 c W 5 t
  x6 := iblk0 c W 6 t
  x7 := iblk0 c W 7 t
  x8 := iblk0 c W 8 t
  x9 := iblk0 c W 9 t
  x10 := iblk0 c W 10 t
  x11 := iblk0 c W 11 t
  x12 := iblk0 c W 12 t
  x13 := iblk0 c W 13 t
  x14 := iblk0 c W 14 t
  x15 := iblk0 c W 15 t
  x16 := iblk0 c W 16 t
  x17 := iblk0 c W 17 t
  x18 := iblk0 c W 18 t
  x19 := iblk0 c W 19 t
  x20 := iblk0 c W 20 t
  x21 := iblk0 c W 21 t
  x22 := iblk0 c W 22 t
  x23 := iblk0 c W 23 t

/-- The call's proof data at the entry contents `W`: only the resident windows' contents are stated exactly. -/
def dat0 (c : Dev nD) (W : Valuation τ sig (Elt F)) : Dat τ (Elt F) Unit ℕ (Cert.Rel.U2 sig nD τ) ℕ cfg0 c where
  A w := W (Proc.devRef .tc (Pipeline.arrRef spec0 w))
  after w t := match w with
    | ⟨0, _⟩ => fun _ => Classical.arbitrary _
    | ⟨1, _⟩ => fun _ => Classical.arbitrary _
    | ⟨2, _⟩ => fun _ => Classical.arbitrary _
    | ⟨3, _⟩ => iblk0 c W 3 t
    | ⟨4, _⟩ => iblk0 c W 4 t
    | ⟨5, _⟩ => iblk0 c W 5 t
    | ⟨6, _⟩ => iblk0 c W 6 t
    | ⟨7, _⟩ => iblk0 c W 7 t
    | ⟨8, _⟩ => iblk0 c W 8 t
    | ⟨9, _⟩ => iblk0 c W 9 t
    | ⟨10, _⟩ => iblk0 c W 10 t
    | ⟨11, _⟩ => iblk0 c W 11 t
    | ⟨12, _⟩ => iblk0 c W 12 t
    | ⟨13, _⟩ => iblk0 c W 13 t
    | ⟨14, _⟩ => iblk0 c W 14 t
    | ⟨15, _⟩ => iblk0 c W 15 t
    | ⟨16, _⟩ => iblk0 c W 16 t
    | ⟨17, _⟩ => iblk0 c W 17 t
    | ⟨18, _⟩ => iblk0 c W 18 t
    | ⟨19, _⟩ => iblk0 c W 19 t
    | ⟨20, _⟩ => iblk0 c W 20 t
    | ⟨21, _⟩ => iblk0 c W 21 t
    | ⟨22, _⟩ => iblk0 c W 22 t
    | ⟨23, _⟩ => iblk0 c W 23 t
    | ⟨24, _⟩ => fun _ => Classical.arbitrary _
    | ⟨25, _⟩ => fun _ => Classical.arbitrary _
    | ⟨26, _⟩ => fun _ => Classical.arbitrary _
    | ⟨27, _⟩ => fun _ => Classical.arbitrary _
    | ⟨28, _⟩ => fun _ => Classical.arbitrary _
    | ⟨29, _⟩ => fun _ => Classical.arbitrary _
    | ⟨30, _⟩ => fun _ => Classical.arbitrary _
    | ⟨n + 31, h⟩ => absurd h (Nat.not_lt.mpr (Nat.le_add_left 31 n))
  Φ _ := Pipeline.ΦA spec0 c
  q _ := fullShare
  owed _ := 0

/-- The windows described by a relation: the three row blocks read and the seven written. -/
def fgt0 (w : Fin cfg0.W) : Bool := Nat.blt w.val 3 || Nat.ble 24 w.val

/-- What the output blocks may be, from the arrays the call finds. -/
def Rl0 (c : Dev nD) (W : Valuation τ sig (Elt F)) : (w : Fin cfg0.W) → Fin cfg0.N → ((cfg0.win w).block.Idx → Elt F (cfg0.win w).elt) → Prop
  | ⟨24, _⟩ => fun t X => ∃ d0 d1 d2, X = (in0 c W t d0 d1 d2).out24
  | ⟨25, _⟩ => fun t X => ∃ d0 d1 d2, X = (in0 c W t d0 d1 d2).out25
  | ⟨26, _⟩ => fun t X => ∃ d0 d1 d2, X = (in0 c W t d0 d1 d2).out26
  | ⟨27, _⟩ => fun t X => ∃ d0 d1 d2, X = (in0 c W t d0 d1 d2).out27
  | ⟨28, _⟩ => fun t X => ∃ d0 d1 d2, X = (in0 c W t d0 d1 d2).out28
  | ⟨29, _⟩ => fun t X => ∃ d0 d1 d2, X = (in0 c W t d0 d1 d2).out29
  | ⟨30, _⟩ => fun t X => ∃ d0 d1 d2, X = (in0 c W t d0 d1 d2).out30
  | _ => fun _ _ => True

theorem before0_3 (c : Dev nD) (W : Valuation τ sig (Elt F)) (t : Fin cfg0.N) (d) : (dat0 c W).before 3 t d = iblk0 c W 3 t :=
  ((dat0 c W).before_in_eq_fetched 3 rfl (fun _ => rfl) (fun _ _ _ => rfl) (fun t => rfl) t d).trans rfl
theorem before0_4 (c : Dev nD) (W : Valuation τ sig (Elt F)) (t : Fin cfg0.N) (d) : (dat0 c W).before 4 t d = iblk0 c W 4 t :=
  ((dat0 c W).before_in_eq_fetched 4 rfl (fun _ => rfl) (fun _ _ _ => rfl) (fun t => rfl) t d).trans rfl
theorem before0_5 (c : Dev nD) (W : Valuation τ sig (Elt F)) (t : Fin cfg0.N) (d) : (dat0 c W).before 5 t d = iblk0 c W 5 t :=
  ((dat0 c W).before_in_eq_fetched 5 rfl (fun _ => rfl) (fun _ _ _ => rfl) (fun t => rfl) t d).trans rfl
theorem before0_6 (c : Dev nD) (W : Valuation τ sig (Elt F)) (t : Fin cfg0.N) (d) : (dat0 c W).before 6 t d = iblk0 c W 6 t :=
  ((dat0 c W).before_in_eq_fetched 6 rfl (fun _ => rfl) (fun _ _ _ => rfl) (fun t => rfl) t d).trans rfl
theorem before0_7 (c : Dev nD) (W : Valuation τ sig (Elt F)) (t : Fin cfg0.N) (d) : (dat0 c W).before 7 t d = iblk0 c W 7 t :=
  ((dat0 c W).before_in_eq_fetched 7 rfl (fun _ => rfl) (fun _ _ _ => rfl) (fun t => rfl) t d).trans rfl
theorem before0_8 (c : Dev nD) (W : Valuation τ sig (Elt F)) (t : Fin cfg0.N) (d) : (dat0 c W).before 8 t d = iblk0 c W 8 t :=
  ((dat0 c W).before_in_eq_fetched 8 rfl (fun _ => rfl) (fun _ _ _ => rfl) (fun t => rfl) t d).trans rfl
theorem before0_9 (c : Dev nD) (W : Valuation τ sig (Elt F)) (t : Fin cfg0.N) (d) : (dat0 c W).before 9 t d = iblk0 c W 9 t :=
  ((dat0 c W).before_in_eq_fetched 9 rfl (fun _ => rfl) (fun _ _ _ => rfl) (fun t => rfl) t d).trans rfl
theorem before0_10 (c : Dev nD) (W : Valuation τ sig (Elt F)) (t : Fin cfg0.N) (d) : (dat0 c W).before 10 t d = iblk0 c W 10 t :=
  ((dat0 c W).before_in_eq_fetched 10 rfl (fun _ => rfl) (fun _ _ _ => rfl) (fun t => rfl) t d).trans rfl
theorem before0_11 (c : Dev nD) (W : Valuation τ sig (Elt F)) (t : Fin cfg0.N) (d) : (dat0 c W).before 11 t d = iblk0 c W 11 t :=
  ((dat0 c W).before_in_eq_fetched 11 rfl (fun _ => rfl) (fun _ _ _ => rfl) (fun t => rfl) t d).trans rfl
theorem before0_12 (c : Dev nD) (W : Valuation τ sig (Elt F)) (t : Fin cfg0.N) (d) : (dat0 c W).before 12 t d = iblk0 c W 12 t :=
  ((dat0 c W).before_in_eq_fetched 12 rfl (fun _ => rfl) (fun _ _ _ => rfl) (fun t => rfl) t d).trans rfl
theorem before0_13 (c : Dev nD) (W : Valuation τ sig (Elt F)) (t : Fin cfg0.N) (d) : (dat0 c W).before 13 t d = iblk0 c W 13 t :=
  ((dat0 c W).before_in_eq_fetched 13 rfl (fun _ => rfl) (fun _ _ _ => rfl) (fun t => rfl) t d).trans rfl
theorem before0_14 (c : Dev nD) (W : Valuation τ sig (Elt F)) (t : Fin cfg0.N) (d) : (dat0 c W).before 14 t d = iblk0 c W 14 t :=
  ((dat0 c W).before_in_eq_fetched 14 rfl (fun _ => rfl) (fun _ _ _ => rfl) (fun t => rfl) t d).trans rfl
theorem before0_15 (c : Dev nD) (W : Valuation τ sig (Elt F)) (t : Fin cfg0.N) (d) : (dat0 c W).before 15 t d = iblk0 c W 15 t :=
  ((dat0 c W).before_in_eq_fetched 15 rfl (fun _ => rfl) (fun _ _ _ => rfl) (fun t => rfl) t d).trans rfl
theorem before0_16 (c : Dev nD) (W : Valuation τ sig (Elt F)) (t : Fin cfg0.N) (d) : (dat0 c W).before 16 t d = iblk0 c W 16 t :=
  ((dat0 c W).before_in_eq_fetched 16 rfl (fun _ => rfl) (fun _ _ _ => rfl) (fun t => rfl) t d).trans rfl
theorem before0_17 (c : Dev nD) (W : Valuation τ sig (Elt F)) (t : Fin cfg0.N) (d) : (dat0 c W).before 17 t d = iblk0 c W 17 t :=
  ((dat0 c W).before_in_eq_fetched 17 rfl (fun _ => rfl) (fun _ _ _ => rfl) (fun t => rfl) t d).trans rfl
theorem before0_18 (c : Dev nD) (W : Valuation τ sig (Elt F)) (t : Fin cfg0.N) (d) : (dat0 c W).before 18 t d = iblk0 c W 18 t :=
  ((dat0 c W).before_in_eq_fetched 18 rfl (fun _ => rfl) (fun _ _ _ => rfl) (fun t => rfl) t d).trans rfl
theorem before0_19 (c : Dev nD) (W : Valuation τ sig (Elt F)) (t : Fin cfg0.N) (d) : (dat0 c W).before 19 t d = iblk0 c W 19 t :=
  ((dat0 c W).before_in_eq_fetched 19 rfl (fun _ => rfl) (fun _ _ _ => rfl) (fun t => rfl) t d).trans rfl
theorem before0_20 (c : Dev nD) (W : Valuation τ sig (Elt F)) (t : Fin cfg0.N) (d) : (dat0 c W).before 20 t d = iblk0 c W 20 t :=
  ((dat0 c W).before_in_eq_fetched 20 rfl (fun _ => rfl) (fun _ _ _ => rfl) (fun t => rfl) t d).trans rfl
theorem before0_21 (c : Dev nD) (W : Valuation τ sig (Elt F)) (t : Fin cfg0.N) (d) : (dat0 c W).before 21 t d = iblk0 c W 21 t :=
  ((dat0 c W).before_in_eq_fetched 21 rfl (fun _ => rfl) (fun _ _ _ => rfl) (fun t => rfl) t d).trans rfl
theorem before0_22 (c : Dev nD) (W : Valuation τ sig (Elt F)) (t : Fin cfg0.N) (d) : (dat0 c W).before 22 t d = iblk0 c W 22 t :=
  ((dat0 c W).before_in_eq_fetched 22 rfl (fun _ => rfl) (fun _ _ _ => rfl) (fun t => rfl) t d).trans rfl
theorem before0_23 (c : Dev nD) (W : Valuation τ sig (Elt F)) (t : Fin cfg0.N) (d) : (dat0 c W).before 23 t d = iblk0 c W 23 t :=
  ((dat0 c W).before_in_eq_fetched 23 rfl (fun _ => rfl) (fun _ _ _ => rfl) (fun t => rfl) t d).trans rfl

/-- A row block the body is handed: its array's block, filled up with anything. -/
theorem finds0_0 (c : Dev nD) (W : Valuation τ sig (Elt F)) (t : Fin cfg0.N) (Y) (h : ((dat0 c W).toRRel fgt0 (Rl0 c W)).Finds 0 t Y) :
    ∃ d, Y = fblk0 c W 0 t d := (RDat.finds_of_fetch _ (fetch0_0 t) Y).mp h
theorem finds0_1 (c : Dev nD) (W : Valuation τ sig (Elt F)) (t : Fin cfg0.N) (Y) (h : ((dat0 c W).toRRel fgt0 (Rl0 c W)).Finds 1 t Y) :
    ∃ d, Y = fblk0 c W 1 t d := (RDat.finds_of_fetch _ (fetch0_1 t) Y).mp h
theorem finds0_2 (c : Dev nD) (W : Valuation τ sig (Elt F)) (t : Fin cfg0.N) (Y) (h : ((dat0 c W).toRRel fgt0 (Rl0 c W)).Finds 2 t Y) :
    ∃ d, Y = fblk0 c W 2 t d := (RDat.finds_of_fetch _ (fetch0_2 t) Y).mp h

set_option maxHeartbeats 4000000 in
/-- The body at any point. -/
theorem sound_body0 (c : Dev nD) (W : Valuation τ sig (Elt F)) (t : Fin cfg0.N) :
    iprop((dat0 c W).Φ t.castSucc ∗ (dat0 c W).owesAt () t.castSucc
      ∗ (∃ Y, ⌜((dat0 c W).toRRel fgt0 (Rl0 c W)).Finds 0 t Y⌝ ∗ owns (c : Thread nD τ) (st0_0 t) fullShare Y)
      ∗ (∃ Y, ⌜((dat0 c W).toRRel fgt0 (Rl0 c W)).Finds 1 t Y⌝ ∗ owns (c : Thread nD τ) (st0_1 t) fullShare Y)
      ∗ (∃ Y, ⌜((dat0 c W).toRRel fgt0 (Rl0 c W)).Finds 2 t Y⌝ ∗ owns (c : Thread nD τ) (st0_2 t) fullShare Y)
      ∗ (∃ d, owns (c : Thread nD τ) (st0_3 t) fullShare ((dat0 c W).before 3 t d))
      ∗ (∃ d, owns (c : Thread nD τ) (st0_4 t) fullShare ((dat0 c W).before 4 t d))
      ∗ (∃ d, owns (c : Thread nD τ) (st0_5 t) fullShare ((dat0 c W).before 5 t d))
      ∗ (∃ d, owns (c : Thread nD τ) (st0_6 t) fullShare ((dat0 c W).before 6 t d))
      ∗ (∃ d, owns (c : Thread nD τ) (st0_7 t) fullShare ((dat0 c W).before 7 t d))
      ∗ (∃ d, owns (c : Thread nD τ) (st0_8 t) fullShare ((dat0 c W).before 8 t d))
      ∗ (∃ d, owns (c : Thread nD τ) (st0_9 t) fullShare ((dat0 c W).before 9 t d))
      ∗ (∃ d, owns (c : Thread nD τ) (st0_10 t) fullShare ((dat0 c W).before 10 t d))
      ∗ (∃ d, owns (c : Thread nD τ) (st0_11 t) fullShare ((dat0 c W).before 11 t d))
      ∗ (∃ d, owns (c : Thread nD τ) (st0_12 t) fullShare ((dat0 c W).before 12 t d))
      ∗ (∃ d, owns (c : Thread nD τ) (st0_13 t) fullShare ((dat0 c W).before 13 t d))
      ∗ (∃ d, owns (c : Thread nD τ) (st0_14 t) fullShare ((dat0 c W).before 14 t d))
      ∗ (∃ d, owns (c : Thread nD τ) (st0_15 t) fullShare ((dat0 c W).before 15 t d))
      ∗ (∃ d, owns (c : Thread nD τ) (st0_16 t) fullShare ((dat0 c W).before 16 t d))
      ∗ (∃ d, owns (c : Thread nD τ) (st0_17 t) fullShare ((dat0 c W).before 17 t d))
      ∗ (∃ d, owns (c : Thread nD τ) (st0_18 t) fullShare ((dat0 c W).before 18 t d))
      ∗ (∃ d, owns (c : Thread nD τ) (st0_19 t) fullShare ((dat0 c W).before 19 t d))
      ∗ (∃ d, owns (c : Thread nD τ) (st0_20 t) fullShare ((dat0 c W).before 20 t d))
      ∗ (∃ d, owns (c : Thread nD τ) (st0_21 t) fullShare ((dat0 c W).before 21 t d))
      ∗ (∃ d, owns (c : Thread nD τ) (st0_22 t) fullShare ((dat0 c W).before 22 t d))
      ∗ (∃ d, owns (c : Thread nD τ) (st0_23 t) fullShare ((dat0 c W).before 23 t d))
      ∗ (∃ Y, ⌜((dat0 c W).toRRel fgt0 (Rl0 c W)).Finds 24 t Y⌝ ∗ owns (c : Thread nD τ) (st0_24 t) fullShare Y)
      ∗ (∃ Y, ⌜((dat0 c W).toRRel fgt0 (Rl0 c W)).Finds 25 t Y⌝ ∗ owns (c : Thread nD τ) (st0_25 t) fullShare Y)
      ∗ (∃ Y, ⌜((dat0 c W).toRRel fgt0 (Rl0 c W)).Finds 26 t Y⌝ ∗ owns (c : Thread nD τ) (st0_26 t) fullShare Y)
      ∗ (∃ Y, ⌜((dat0 c W).toRRel fgt0 (Rl0 c W)).Finds 27 t Y⌝ ∗ owns (c : Thread nD τ) (st0_27 t) fullShare Y)
      ∗ (∃ Y, ⌜((dat0 c W).toRRel fgt0 (Rl0 c W)).Finds 28 t Y⌝ ∗ owns (c : Thread nD τ) (st0_28 t) fullShare Y)
      ∗ (∃ Y, ⌜((dat0 c W).toRRel fgt0 (Rl0 c W)).Finds 29 t Y⌝ ∗ owns (c : Thread nD τ) (st0_29 t) fullShare Y)
      ∗ (∃ Y, ⌜((dat0 c W).toRRel fgt0 (Rl0 c W)).Finds 30 t Y⌝ ∗ owns (c : Thread nD τ) (st0_30 t) fullShare Y))
    ⊢ wp frame (wpE (defs₀ (F := F)) Variants.none c none) Set.univ (bodyAt0 t) (fun _ =>
      iprop((dat0 c W).Φ t.succ ∗ (dat0 c W).owesAt () t.succ
        ∗ (∃ X, ⌜Rl0 c W 0 t X⌝ ∗ owns (c : Thread nD τ) (st0_0 t) fullShare X)
        ∗ (∃ X, ⌜Rl0 c W 1 t X⌝ ∗ owns (c : Thread nD τ) (st0_1 t) fullShare X)
        ∗ (∃ X, ⌜Rl0 c W 2 t X⌝ ∗ owns (c : Thread nD τ) (st0_2 t) fullShare X)
        ∗ owns (c : Thread nD τ) (st0_3 t) fullShare ((dat0 c W).after 3 t)
        ∗ owns (c : Thread nD τ) (st0_4 t) fullShare ((dat0 c W).after 4 t)
        ∗ owns (c : Thread nD τ) (st0_5 t) fullShare ((dat0 c W).after 5 t)
        ∗ owns (c : Thread nD τ) (st0_6 t) fullShare ((dat0 c W).after 6 t)
        ∗ owns (c : Thread nD τ) (st0_7 t) fullShare ((dat0 c W).after 7 t)
        ∗ owns (c : Thread nD τ) (st0_8 t) fullShare ((dat0 c W).after 8 t)
        ∗ owns (c : Thread nD τ) (st0_9 t) fullShare ((dat0 c W).after 9 t)
        ∗ owns (c : Thread nD τ) (st0_10 t) fullShare ((dat0 c W).after 10 t)
        ∗ owns (c : Thread nD τ) (st0_11 t) fullShare ((dat0 c W).after 11 t)
        ∗ owns (c : Thread nD τ) (st0_12 t) fullShare ((dat0 c W).after 12 t)
        ∗ owns (c : Thread nD τ) (st0_13 t) fullShare ((dat0 c W).after 13 t)
        ∗ owns (c : Thread nD τ) (st0_14 t) fullShare ((dat0 c W).after 14 t)
        ∗ owns (c : Thread nD τ) (st0_15 t) fullShare ((dat0 c W).after 15 t)
        ∗ owns (c : Thread nD τ) (st0_16 t) fullShare ((dat0 c W).after 16 t)
        ∗ owns (c : Thread nD τ) (st0_17 t) fullShare ((dat0 c W).after 17 t)
        ∗ owns (c : Thread nD τ) (st0_18 t) fullShare ((dat0 c W).after 18 t)
        ∗ owns (c : Thread nD τ) (st0_19 t) fullShare ((dat0 c W).after 19 t)
        ∗ owns (c : Thread nD τ) (st0_20 t) fullShare ((dat0 c W).after 20 t)
        ∗ owns (c : Thread nD τ) (st0_21 t) fullShare ((dat0 c W).after 21 t)
        ∗ owns (c : Thread nD τ) (st0_22 t) fullShare ((dat0 c W).after 22 t)
        ∗ owns (c : Thread nD τ) (st0_23 t) fullShare ((dat0 c W).after 23 t)
        ∗ (∃ X, ⌜Rl0 c W 24 t X⌝ ∗ owns (c : Thread nD τ) (st0_24 t) fullShare X)
        ∗ (∃ X, ⌜Rl0 c W 25 t X⌝ ∗ owns (c : Thread nD τ) (st0_25 t) fullShare X)
        ∗ (∃ X, ⌜Rl0 c W 26 t X⌝ ∗ owns (c : Thread nD τ) (st0_26 t) fullShare X)
        ∗ (∃ X, ⌜Rl0 c W 27 t X⌝ ∗ owns (c : Thread nD τ) (st0_27 t) fullShare X)
        ∗ (∃ X, ⌜Rl0 c W 28 t X⌝ ∗ owns (c : Thread nD τ) (st0_28 t) fullShare X)
        ∗ (∃ X, ⌜Rl0 c W 29 t X⌝ ∗ owns (c : Thread nD τ) (st0_29 t) fullShare X)
        ∗ (∃ X, ⌜Rl0 c W 30 t X⌝ ∗ owns (c : Thread nD τ) (st0_30 t) fullShare X))) := by
  unfold bodyAt0
  simp only [before0_3, before0_4, before0_5, before0_6, before0_7, before0_8, before0_9, before0_10, before0_11, before0_12, before0_13, before0_14,
    before0_15, before0_16, before0_17, before0_18, before0_19, before0_20, before0_21, before0_22, before0_23]
  rw [show (dat0 c W).Φ t.succ = (dat0 c W).Φ t.castSucc from rfl,
    show (dat0 c W).owesAt () t.succ = (dat0 c W).owesAt () t.castSucc from rfl,
    show (dat0 c W).after 3 t = iblk0 c W 3 t from rfl,
    show (dat0 c W).after 4 t = iblk0 c W 4 t from rfl,
    show (dat0 c W).after 5 t = iblk0 c W 5 t from rfl,
    show (dat0 c W).after 6 t = iblk0 c W 6 t from rfl,
    show (dat0 c W).after 7 t = iblk0 c W 7 t from rfl,
    show (dat0 c W).after 8 t = iblk0 c W 8 t from rfl,
    show (dat0 c W).after 9 t = iblk0 c W 9 t from rfl,
    show (dat0 c W).after 10 t = iblk0 c W 10 t from rfl,
    show (dat0 c W).after 11 t = iblk0 c W 11 t from rfl,
    show (dat0 c W).after 12 t = iblk0 c W 12 t from rfl,
    show (dat0 c W).after 13 t = iblk0 c W 13 t from rfl,
    show (dat0 c W).after 14 t = iblk0 c W 14 t from rfl,
    show (dat0 c W).after 15 t = iblk0 c W 15 t from rfl,
    show (dat0 c W).after 16 t = iblk0 c W 16 t from rfl,
    show (dat0 c W).after 17 t = iblk0 c W 17 t from rfl,
    show (dat0 c W).after 18 t = iblk0 c W 18 t from rfl,
    show (dat0 c W).after 19 t = iblk0 c W 19 t from rfl,
    show (dat0 c W).after 20 t = iblk0 c W 20 t from rfl,
    show (dat0 c W).after 21 t = iblk0 c W 21 t from rfl,
    show (dat0 c W).after 22 t = iblk0 c W 22 t from rfl,
    show (dat0 c W).after 23 t = iblk0 c W 23 t from rfl]
  iintro ⟨HΦ, Ho, ⟨%Y0, %h0, H0⟩, ⟨%Y1, %h1, H1⟩, ⟨%Y2, %h2, H2⟩, ⟨%d3, H3⟩, ⟨%d4, H4⟩, ⟨%d5, H5⟩, ⟨%d6, H6⟩, ⟨%d7, H7⟩, ⟨%d8, H8⟩, ⟨%d9, H9⟩, ⟨%d10,
    H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩,
    ⟨%d22, H22⟩, ⟨%d23, H23⟩, ⟨%Y24, -, H24⟩, ⟨%Y25, -, H25⟩, ⟨%Y26, -, H26⟩, ⟨%Y27, -, H27⟩, ⟨%Y28, -, H28⟩, ⟨%Y29, -, H29⟩, ⟨%Y30, -, H30⟩⟩
  obtain ⟨d0, rfl⟩ := finds0_0 c W t Y0 h0
  obtain ⟨d1, rfl⟩ := finds0_1 c W t Y1 h1
  obtain ⟨d2, rfl⟩ := finds0_2 c W t Y2 h2
  iapply (sound_kernel0 c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (in0 c W t d0 d1 d2) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29,
  H30⟩
  isplitl [HΦ]; · iexact HΦ
  isplitl [Ho]; · iexact Ho
  isplitl [H0]
  · iexists (fblk0 c W 0 t d0); isplitr; · ipureintro; exact trivial
    iexact H0
  isplitl [H1]
  · iexists (fblk0 c W 1 t d1); isplitr; · ipureintro; exact trivial
    iexact H1
  isplitl [H2]
  · iexists (fblk0 c W 2 t d2); isplitr; · ipureintro; exact trivial
    iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · iexists (in0 c W t d0 d1 d2).out24; isplitr; · ipureintro; exact ⟨d0, d1, d2, rfl⟩
    iexact H24
  isplitl [H25]
  · iexists (in0 c W t d0 d1 d2).out25; isplitr; · ipureintro; exact ⟨d0, d1, d2, rfl⟩
    iexact H25
  isplitl [H26]
  · iexists (in0 c W t d0 d1 d2).out26; isplitr; · ipureintro; exact ⟨d0, d1, d2, rfl⟩
    iexact H26
  isplitl [H27]
  · iexists (in0 c W t d0 d1 d2).out27; isplitr; · ipureintro; exact ⟨d0, d1, d2, rfl⟩
    iexact H27
  isplitl [H28]
  · iexists (in0 c W t d0 d1 d2).out28; isplitr; · ipureintro; exact ⟨d0, d1, d2, rfl⟩
    iexact H28
  isplitl [H29]
  · iexists (in0 c W t d0 d1 d2).out29; isplitr; · ipureintro; exact ⟨d0, d1, d2, rfl⟩
    iexact H29
  iexists (in0 c W t d0 d1 d2).out30; isplitr; · ipureintro; exact ⟨d0, d1, d2, rfl⟩
  iexact H30

theorem defs₀_row0 (t : Fin cfg0.N) : defs₀ (F := F) .tc cfg0.body (cfg0.bodyArgs t (cfg0.slots t)) = bodyAt0 t := by
  unfold defs₀; rw [Defs.onTc_tc]

set_option maxHeartbeats 4000000 in
theorem body_obligation0 (c : Dev nD) (W : Valuation τ sig (Elt F)) :
    BodyObligationRel (dat0 c W) (defs₀ (F := F)) Variants.none () Set.univ fgt0 (Rl0 c W) := fun t => by
  rw [bigSep_W0, bigSep_W0, defs₀_row0]
  exact triple_restated (sound_body0 c W t) rfl .rfl fun _ => .rfl

set_option backward.isDefEq.respectTransparency.types false in
/-- The call as a region. -/
def reg0 : Cert.Rel.Region (pcfgs (F := F)) adm (defs₀ (F := F)) 0 where
  win := launch0.win
  block_pos := launch0.block_pos
  arr_whole := launch0.arr_whole
  stage_whole := launch0.stage_whole
  hpref c := by unfold Pipeline.prefHeld; rw [show (Finset.univ : Finset (Fin 0)) = ∅ from rfl, BI.bigSep_empty]
  dat := dat0
  hA _ _ _ := rfl
  hshare c W := (dat0 c W).share_full fun _ => rfl
  hΦ _ _ _ := rfl
  howed _ _ _ := rfl
  hrec _ _ _ := rfl
  fgt := fgt0
  Rl := Rl0
  hbody := body_obligation0

end Cert.KernelIdeal.Rel

end
-- ==== Proof.Region1.lean ====
/- The second call of the kernel (the adjacency cast and the first graph layer): its body's triple, and the call as a region whose output blocks
are known from the input blocks and whatever the two row blocks hold past the end of their arrays. -/
module

public import proofs.«01_k».proof.Proof.Setup

@[expose] public section

set_option maxRecDepth 16384

noncomputable section

namespace Cert.KernelIdeal.Rel

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (Cert.Rel.U2 sig nD τ) ℕ

/-- Window `w`'s block at point `t`, read off its array as the region finds it. -/
def iblk1 (c : Dev nD) (W : Valuation τ sig (Elt F)) (w : Fin cfg1.W) (t : Fin cfg1.N) :
    ((cfg1.win w).xblock (cfg1.grid.coords t)).Idx → Elt F (cfg1.win w).elt :=
  ((cfg1.win w).blk t).view.read (Elt F) (W (Proc.devRef .tc (Pipeline.arrRef spec1 w)))

/-- The block with whatever the staging buffer held (`d`) past the end of the array. -/
def fblk1 (c : Dev nD) (W : Valuation τ sig (Elt F)) (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 c W w t)

abbrev r1_0 : Rect S480x10000 := Rect.unit (s := S480x10000) ![0, 0] S480x10000.size inb_S480x10000_S480x10000_0_0
abbrev r1_1 : Rect S10000x128 := Rect.unit (s := S10000x128) ![0, 0] S10000x128.size inb_S10000x128_S10000x128_0_0
abbrev r1_2 : Rect S480x128 := Rect.unit (s := S480x128) ![0, 0] S480x128.size inb_S480x128_S480x128_0_0
abbrev r1_3 : Rect S128x128 := Rect.unit (s := S128x128) ![0, 0] S128x128.size inb_S128x128_S128x128_0_0

/-- The cast adjacency block after the body, and the next layer's feature block, from the input blocks. -/
def out1_4 (x0 : Vec F S480x10000 .f32) : Vec F S480x10000 .fp8e4m3 :=
  View.canon [⟨r1_0, k1_pay1 (View.ld x0 r1_0)⟩]
def out1_5 (x0 : Vec F S480x10000 .f32) (x1 : Vec F S10000x128 .fp8e4m3) (x2 : Vec F S480x128 .f32) (x3 : Vec F S128x128 .f32) :
    Vec F S480x128 .fp8e4m3 :=
  View.canon [⟨r1_2, k1_pay2 (View.ld x0 r1_0) (View.ld x1 r1_1) (View.ld x2 r1_2) (View.ld x3 r1_3)⟩]

theorem cover1_4 (p0 : Vec F S480x10000 .fp8e4m3) (y : S480x10000.Idx) :
    ∃ pc ∈ ([⟨r1_0, p0⟩] : List (View.Piece (Elt F) S480x10000 .fp8e4m3)), y ∈ pc.1.set :=
  View.cover_of_tiled [⟨r1_0, p0⟩] S480x10000.size (by rfl) y
theorem cover1_5 (p0 : Vec F S480x128 .fp8e4m3) (y : S480x128.Idx) :
    ∃ pc ∈ ([⟨r1_2, p0⟩] : List (View.Piece (Elt F) S480x128 .fp8e4m3)), y ∈ pc.1.set :=
  View.cover_of_tiled [⟨r1_2, p0⟩] S480x128.size (by rfl) y

set_option maxHeartbeats 1000000 in
/-- The body on whole staging memrefs: the inputs stay as they were, the outputs end at `out1_4` and `out1_5` of them. -/
theorem sound_kernel1 (c : Dev nD) (E : Set ℕ) (i : grid1.Coords)
    (arg1 : Memref sig .tc .vmem S480x10000 .f32) (harg1 : arg1.IsWhole) (arg2 : Memref sig .tc .vmem S10000x128 .fp8e4m3) (harg2 : arg2.IsWhole)
    (arg3 : Memref sig .tc .vmem S480x128 .f32) (harg3 : arg3.IsWhole) (arg4 : Memref sig .tc .vmem S128x128 .f32) (harg4 : arg4.IsWhole)
    (arg5 : Memref sig .tc .vmem S480x10000 .fp8e4m3) (harg5 : arg5.IsWhole) (arg6 : Memref sig .tc .vmem S480x128 .fp8e4m3) (harg6 : arg6.IsWhole)
    (x0 : Vec F S480x10000 .f32) (x1 : Vec F S10000x128 .fp8e4m3) (x2 : Vec F S480x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0) ∗ owns (c : Thread nD τ) arg6 fullShare (out1_5 x0 x1 x2 x3)) -∗ K ⟨⟩))
      ⊢ wp frame (wpE (defs₀ (F := F)) Variants.none c none) E (cc1__gcn_first_body i arg1 harg1 arg2 harg2 arg3 harg3 arg4 harg4 arg5 harg5 arg6 harg6) K := by
  simp only [cc1__gcn_first_body_eq_skeleton]; unfold cc1__gcn_first_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-- The call's proof data at the entry contents `W`: only the two resident windows' contents are stated exactly. -/
def dat1 (c : Dev nD) (W : Valuation τ sig (Elt F)) : Dat τ (Elt F) Unit ℕ (Cert.Rel.U2 sig nD τ) ℕ cfg1 c where
  A w := W (Proc.devRef .tc (Pipeline.arrRef spec1 w))
  after w t := match w with
    | ⟨0, _⟩ => fun _ => Classical.arbitrary _
    | ⟨1, _⟩ => iblk1 c W 1 t
    | ⟨2, _⟩ => fun _ => Classical.arbitrary _
    | ⟨3, _⟩ => iblk1 c W 3 t
    | ⟨4, _⟩ => fun _ => Classical.arbitrary _
    | ⟨5, _⟩ => fun _ => Classical.arbitrary _
  Φ _ := Pipeline.ΦA spec1 c
  q _ := fullShare
  owed _ := 0

/-- The windows described by a relation: the two row blocks read and the two written. -/
def fgt1 : Fin cfg1.W → Bool
  | ⟨0, _⟩ => true
  | ⟨1, _⟩ => false
  | ⟨2, _⟩ => true
  | ⟨3, _⟩ => false
  | ⟨4, _⟩ => true
  | ⟨5, _⟩ => true

/-- What the output blocks may be, from the arrays the call finds. -/
def Rl1 (c : Dev nD) (W : Valuation τ sig (Elt F)) : (w : Fin cfg1.W) → Fin cfg1.N → ((cfg1.win w).block.Idx → Elt F (cfg1.win w).elt) → Prop
  | ⟨4, _⟩ => fun t X => ∃ d0, X = out1_4 (fblk1 c W 0 t d0)
  | ⟨5, _⟩ => fun t X => ∃ d0 d2, X = out1_5 (fblk1 c W 0 t d0) (iblk1 c W 1 t) (fblk1 c W 2 t d2) (iblk1 c W 3 t)
  | _ => fun _ _ => True

theorem before1_1 (c : Dev nD) (W : Valuation τ sig (Elt F)) (t : Fin cfg1.N) (d) : (dat1 c W).before 1 t d = iblk1 c W 1 t :=
  ((dat1 c W).before_in_eq_fetched 1 rfl (fun _ => rfl) (fun _ _ _ => rfl) (fun t => rfl) t d).trans rfl
theorem before1_3 (c : Dev nD) (W : Valuation τ sig (Elt F)) (t : Fin cfg1.N) (d) : (dat1 c W).before 3 t d = iblk1 c W 3 t :=
  ((dat1 c W).before_in_eq_fetched 3 rfl (fun _ => rfl) (fun _ _ _ => rfl) (fun t => rfl) t d).trans rfl

/-- A row block the body is handed: its array's block, filled up with anything. -/
theorem finds1_0 (c : Dev nD) (W : Valuation τ sig (Elt F)) (t : Fin cfg1.N) (Y) (h : ((dat1 c W).toRRel fgt1 (Rl1 c W)).Finds 0 t Y) :
    ∃ d, Y = fblk1 c W 0 t d := (RDat.finds_of_fetch _ (fetch1_0 t) Y).mp h
theorem finds1_2 (c : Dev nD) (W : Valuation τ sig (Elt F)) (t : Fin cfg1.N) (Y) (h : ((dat1 c W).toRRel fgt1 (Rl1 c W)).Finds 2 t Y) :
    ∃ d, Y = fblk1 c W 2 t d := (RDat.finds_of_fetch _ (fetch1_2 t) Y).mp h

/-- The body at any point. -/
theorem sound_body1 (c : Dev nD) (W : Valuation τ sig (Elt F)) (t : Fin cfg1.N) :
    iprop((dat1 c W).Φ t.castSucc ∗ (dat1 c W).owesAt () t.castSucc
      ∗ (∃ Y, ⌜((dat1 c W).toRRel fgt1 (Rl1 c W)).Finds 0 t Y⌝ ∗ owns (c : Thread nD τ) (st1_0 t) fullShare Y)
      ∗ (∃ d, owns (c : Thread nD τ) (st1_1 t) fullShare ((dat1 c W).before 1 t d))
      ∗ (∃ Y, ⌜((dat1 c W).toRRel fgt1 (Rl1 c W)).Finds 2 t Y⌝ ∗ owns (c : Thread nD τ) (st1_2 t) fullShare Y)
      ∗ (∃ d, owns (c : Thread nD τ) (st1_3 t) fullShare ((dat1 c W).before 3 t d))
      ∗ (∃ Y, ⌜((dat1 c W).toRRel fgt1 (Rl1 c W)).Finds 4 t Y⌝ ∗ owns (c : Thread nD τ) (st1_4 t) fullShare Y)
      ∗ (∃ Y, ⌜((dat1 c W).toRRel fgt1 (Rl1 c W)).Finds 5 t Y⌝ ∗ owns (c : Thread nD τ) (st1_5 t) fullShare Y))
    ⊢ wp frame (wpE (defs₀ (F := F)) Variants.none c none) Set.univ (bodyAt1 t) (fun _ =>
      iprop((dat1 c W).Φ t.succ ∗ (dat1 c W).owesAt () t.succ
        ∗ (∃ X, ⌜Rl1 c W 0 t X⌝ ∗ owns (c : Thread nD τ) (st1_0 t) fullShare X)
        ∗ owns (c : Thread nD τ) (st1_1 t) fullShare ((dat1 c W).after 1 t)
        ∗ (∃ X, ⌜Rl1 c W 2 t X⌝ ∗ owns (c : Thread nD τ) (st1_2 t) fullShare X)
        ∗ owns (c : Thread nD τ) (st1_3 t) fullShare ((dat1 c W).after 3 t)
        ∗ (∃ X, ⌜Rl1 c W 4 t X⌝ ∗ owns (c : Thread nD τ) (st1_4 t) fullShare X)
        ∗ (∃ X, ⌜Rl1 c W 5 t X⌝ ∗ owns (c : Thread nD τ) (st1_5 t) fullShare X))) := by
  unfold bodyAt1
  simp only [before1_1, before1_3]
  rw [show (dat1 c W).Φ t.succ = (dat1 c W).Φ t.castSucc from rfl,
    show (dat1 c W).owesAt () t.succ = (dat1 c W).owesAt () t.castSucc from rfl,
    show (dat1 c W).after 1 t = iblk1 c W 1 t from rfl, show (dat1 c W).after 3 t = iblk1 c W 3 t from rfl]
  iintro ⟨HΦ, Ho, ⟨%Y0, %h0, H0⟩, ⟨%d1, H1⟩, ⟨%Y2, %h2, H2⟩, ⟨%d3, H3⟩, ⟨%Y4, -, H4⟩, ⟨%Y5, -, H5⟩⟩
  obtain ⟨d0, rfl⟩ := finds1_0 c W t Y0 h0
  obtain ⟨d2, rfl⟩ := finds1_2 c W t Y2 h2
  iapply (sound_kernel1 c Set.univ (grid1.coords t) _ _ _ _ _ _ _ _ _ _ _ _ (fblk1 c W 0 t d0) (iblk1 c W 1 t) (fblk1 c W 2 t d2) (iblk1 c W 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]
  · iexists (fblk1 c W 0 t d0); isplitr; · ipureintro; exact trivial
    iexact H0
  isplitl [H1]; · iexact H1
  isplitl [H2]
  · iexists (fblk1 c W 2 t d2); isplitr; · ipureintro; exact trivial
    iexact H2
  isplitl [H3]; · iexact H3
  isplitl [H4]
  · iexists (out1_4 (fblk1 c W 0 t d0)); isplitr
    · ipureintro; exact ⟨d0, rfl⟩
    iexact H4
  iexists _; isplitr
  swap; · iexact H5
  ipureintro
  exact ⟨d0, d2, rfl⟩

theorem defs₀_row1 (t : Fin cfg1.N) : defs₀ (F := F) .tc cfg1.body (cfg1.bodyArgs t (cfg1.slots t)) = bodyAt1 t := by
  unfold defs₀; rw [Defs.onTc_tc]

theorem body_obligation1 (c : Dev nD) (W : Valuation τ sig (Elt F)) :
    BodyObligationRel (dat1 c W) (defs₀ (F := F)) Variants.none () Set.univ fgt1 (Rl1 c W) := fun t => by
  rw [bigSep_W1, bigSep_W1, defs₀_row1]
  exact triple_restated (sound_body1 c W t) rfl .rfl fun _ => .rfl

set_option backward.isDefEq.respectTransparency.types false in
/-- The call as a region. -/
def reg1 : Cert.Rel.Region (pcfgs (F := F)) adm (defs₀ (F := F)) 1 where
  win := launch1.win
  block_pos := launch1.block_pos
  arr_whole := launch1.arr_whole
  stage_whole := launch1.stage_whole
  hpref c := by unfold Pipeline.prefHeld; rw [show (Finset.univ : Finset (Fin 0)) = ∅ from rfl, BI.bigSep_empty]
  dat := dat1
  hA _ _ _ := rfl
  hshare c W := (dat1 c W).share_full fun _ => rfl
  hΦ _ _ _ := rfl
  howed _ _ _ := rfl
  hrec _ _ _ := rfl
  fgt := fgt1
  Rl := Rl1
  hbody := body_obligation1

end Cert.KernelIdeal.Rel

end
-- ==== Proof.Region2.lean ====
/- The third call of the kernel (the second graph layer): its body's triple, and the call as a region whose output block
is known from the input blocks and whatever the two row blocks hold past the end of their arrays. -/
module

public import proofs.«01_k».proof.Proof.Setup

@[expose] public section

set_option maxRecDepth 16384

noncomputable section

namespace Cert.KernelIdeal.Rel

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (Cert.Rel.U2 sig nD τ) ℕ

/-- Window `w`'s block at point `t`, read off its array as the region finds it. -/
def iblk2 (c : Dev nD) (W : Valuation τ sig (Elt F)) (w : Fin cfg2.W) (t : Fin cfg2.N) :
    ((cfg2.win w).xblock (cfg2.grid.coords t)).Idx → Elt F (cfg2.win w).elt :=
  ((cfg2.win w).blk t).view.read (Elt F) (W (Proc.devRef .tc (Pipeline.arrRef spec2 w)))

/-- The block with whatever the staging buffer held (`d`) past the end of the array. -/
def fblk2 (c : Dev nD) (W : Valuation τ sig (Elt F)) (w : Fin cfg2.W) (t : Fin cfg2.N) (d : (cfg2.win w).block.Idx → Elt F (cfg2.win w).elt) :
    (cfg2.win w).block.Idx → Elt F (cfg2.win w).elt :=
  (cfg2.win w).fill (cfg2.grid.coords t) d (iblk2 c W w t)

abbrev r2_0 : Rect S1920x10000 := Rect.unit (s := S1920x10000) ![0, 0] S1920x10000.size inb_S1920x10000_S1920x10000_0_0
abbrev r2_1 : Rect S10000x128 := Rect.unit (s := S10000x128) ![0, 0] S10000x128.size inb_S10000x128_S10000x128_0_0
abbrev r2_2 : Rect S1920x128 := Rect.unit (s := S1920x128) ![0, 0] S1920x128.size inb_S1920x128_S1920x128_0_0
abbrev r2_3 : Rect S128x256 := Rect.unit (s := S128x256) ![0, 0] S128x256.size inb_S128x256_S128x256_0_0
abbrev r2_4 : Rect S1920x256 := Rect.unit (s := S1920x256) ![0, 0] S1920x256.size inb_S1920x256_S1920x256_0_0

/-- The output block after the body, from the input blocks. -/
def out2_4 (x0 : Vec F S1920x10000 .fp8e4m3) (x1 : Vec F S10000x128 .fp8e4m3) (x2 : Vec F S1920x128 .f32) (x3 : Vec F S128x256 .f32) :
    Vec F S1920x256 .fp8e4m3 :=
  View.canon [⟨r2_4, k2_pay1 (View.ld x0 r2_0) (View.ld x1 r2_1) (View.ld x2 r2_2) (View.ld x3 r2_3)⟩]

theorem cover2_4 (p0 : Vec F S1920x256 .fp8e4m3) (y : S1920x256.Idx) :
    ∃ pc ∈ ([⟨r2_4, p0⟩] : List (View.Piece (Elt F) S1920x256 .fp8e4m3)), y ∈ pc.1.set :=
  View.cover_of_tiled [⟨r2_4, p0⟩] S1920x256.size (by rfl) y

set_option maxHeartbeats 1000000 in
/-- The body on whole staging memrefs: the inputs stay as they were, the output ends at `out2_4` of them. -/
theorem sound_kernel2 (c : Dev nD) (E : Set ℕ) (i : grid2.Coords)
    (arg1 : Memref sig .tc .vmem S1920x10000 .fp8e4m3) (harg1 : arg1.IsWhole) (arg2 : Memref sig .tc .vmem S10000x128 .fp8e4m3) (harg2 : arg2.IsWhole)
    (arg3 : Memref sig .tc .vmem S1920x128 .f32) (harg3 : arg3.IsWhole) (arg4 : Memref sig .tc .vmem S128x256 .f32) (harg4 : arg4.IsWhole)
    (arg5 : Memref sig .tc .vmem S1920x256 .fp8e4m3) (harg5 : arg5.IsWhole)
    (x0 : Vec F S1920x10000 .fp8e4m3) (x1 : Vec F S10000x128 .fp8e4m3) (x2 : Vec F S1920x128 .f32) (x3 : Vec F S128x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__gcn_mid_body i arg1 harg1 arg2 harg2 arg3 harg3 arg4 harg4 arg5 harg5) K := by
  simp only [cc2__gcn_mid_body_eq_skeleton]; unfold cc2__gcn_mid_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The call's proof data at the entry contents `W`: only the two resident windows' contents are stated exactly. -/
def dat2 (c : Dev nD) (W : Valuation τ sig (Elt F)) : Dat τ (Elt F) Unit ℕ (Cert.Rel.U2 sig nD τ) ℕ cfg2 c where
  A w := W (Proc.devRef .tc (Pipeline.arrRef spec2 w))
  after w t := match w with
    | ⟨0, _⟩ => fun _ => Classical.arbitrary _
    | ⟨1, _⟩ => iblk2 c W 1 t
    | ⟨2, _⟩ => fun _ => Classical.arbitrary _
    | ⟨3, _⟩ => iblk2 c W 3 t
    | ⟨4, _⟩ => fun _ => Classical.arbitrary _
  Φ _ := Pipeline.ΦA spec2 c
  q _ := fullShare
  owed _ := 0

/-- The windows described by a relation: the two row blocks read and the one written. -/
def fgt2 : Fin cfg2.W → Bool
  | ⟨0, _⟩ => true
  | ⟨1, _⟩ => false
  | ⟨2, _⟩ => true
  | ⟨3, _⟩ => false
  | ⟨4, _⟩ => true

/-- What the output block may be, from the arrays the call finds. -/
def Rl2 (c : Dev nD) (W : Valuation τ sig (Elt F)) : (w : Fin cfg2.W) → Fin cfg2.N → ((cfg2.win w).block.Idx → Elt F (cfg2.win w).elt) → Prop
  | ⟨4, _⟩ => fun t X => ∃ d0 d2, X = out2_4 (fblk2 c W 0 t d0) (iblk2 c W 1 t) (fblk2 c W 2 t d2) (iblk2 c W 3 t)
  | _ => fun _ _ => True

theorem before2_1 (c : Dev nD) (W : Valuation τ sig (Elt F)) (t : Fin cfg2.N) (d) : (dat2 c W).before 1 t d = iblk2 c W 1 t :=
  ((dat2 c W).before_in_eq_fetched 1 rfl (fun _ => rfl) (fun _ _ _ => rfl) (fun t => rfl) t d).trans rfl
theorem before2_3 (c : Dev nD) (W : Valuation τ sig (Elt F)) (t : Fin cfg2.N) (d) : (dat2 c W).before 3 t d = iblk2 c W 3 t :=
  ((dat2 c W).before_in_eq_fetched 3 rfl (fun _ => rfl) (fun _ _ _ => rfl) (fun t => rfl) t d).trans rfl

/-- A row block the body is handed: its array's block, filled up with anything. -/
theorem finds2_0 (c : Dev nD) (W : Valuation τ sig (Elt F)) (t : Fin cfg2.N) (Y) (h : ((dat2 c W).toRRel fgt2 (Rl2 c W)).Finds 0 t Y) :
    ∃ d, Y = fblk2 c W 0 t d := (RDat.finds_of_fetch _ (fetch2_0 t) Y).mp h
theorem finds2_2 (c : Dev nD) (W : Valuation τ sig (Elt F)) (t : Fin cfg2.N) (Y) (h : ((dat2 c W).toRRel fgt2 (Rl2 c W)).Finds 2 t Y) :
    ∃ d, Y = fblk2 c W 2 t d := (RDat.finds_of_fetch _ (fetch2_2 t) Y).mp h

/-- The body at any point. -/
theorem sound_body2 (c : Dev nD) (W : Valuation τ sig (Elt F)) (t : Fin cfg2.N) :
    iprop((dat2 c W).Φ t.castSucc ∗ (dat2 c W).owesAt () t.castSucc
      ∗ (∃ Y, ⌜((dat2 c W).toRRel fgt2 (Rl2 c W)).Finds 0 t Y⌝ ∗ owns (c : Thread nD τ) (st2_0 t) fullShare Y)
      ∗ (∃ d, owns (c : Thread nD τ) (st2_1 t) fullShare ((dat2 c W).before 1 t d))
      ∗ (∃ Y, ⌜((dat2 c W).toRRel fgt2 (Rl2 c W)).Finds 2 t Y⌝ ∗ owns (c : Thread nD τ) (st2_2 t) fullShare Y)
      ∗ (∃ d, owns (c : Thread nD τ) (st2_3 t) fullShare ((dat2 c W).before 3 t d))
      ∗ (∃ Y, ⌜((dat2 c W).toRRel fgt2 (Rl2 c W)).Finds 4 t Y⌝ ∗ owns (c : Thread nD τ) (st2_4 t) fullShare Y))
    ⊢ wp frame (wpE (defs₀ (F := F)) Variants.none c none) Set.univ (bodyAt2 t) (fun _ =>
      iprop((dat2 c W).Φ t.succ ∗ (dat2 c W).owesAt () t.succ
        ∗ (∃ X, ⌜Rl2 c W 0 t X⌝ ∗ owns (c : Thread nD τ) (st2_0 t) fullShare X)
        ∗ owns (c : Thread nD τ) (st2_1 t) fullShare ((dat2 c W).after 1 t)
        ∗ (∃ X, ⌜Rl2 c W 2 t X⌝ ∗ owns (c : Thread nD τ) (st2_2 t) fullShare X)
        ∗ owns (c : Thread nD τ) (st2_3 t) fullShare ((dat2 c W).after 3 t)
        ∗ (∃ X, ⌜Rl2 c W 4 t X⌝ ∗ owns (c : Thread nD τ) (st2_4 t) fullShare X))) := by
  unfold bodyAt2
  simp only [before2_1, before2_3]
  rw [show (dat2 c W).Φ t.succ = (dat2 c W).Φ t.castSucc from rfl,
    show (dat2 c W).owesAt () t.succ = (dat2 c W).owesAt () t.castSucc from rfl,
    show (dat2 c W).after 1 t = iblk2 c W 1 t from rfl, show (dat2 c W).after 3 t = iblk2 c W 3 t from rfl]
  iintro ⟨HΦ, Ho, ⟨%Y0, %h0, H0⟩, ⟨%d1, H1⟩, ⟨%Y2, %h2, H2⟩, ⟨%d3, H3⟩, ⟨%Y4, -, H4⟩⟩
  obtain ⟨d0, rfl⟩ := finds2_0 c W t Y0 h0
  obtain ⟨d2, rfl⟩ := finds2_2 c W t Y2 h2
  iapply (sound_kernel2 c Set.univ (grid2.coords t) _ _ _ _ _ _ _ _ _ _ (fblk2 c W 0 t d0) (iblk2 c W 1 t) (fblk2 c W 2 t d2) (iblk2 c W 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists (fblk2 c W 0 t d0); isplitr; · ipureintro; exact trivial
    iexact H0
  isplitl [H1]; · iexact H1
  isplitl [H2]
  · iexists (fblk2 c W 2 t d2); isplitr; · ipureintro; exact trivial
    iexact H2
  isplitl [H3]; · iexact H3
  iexists _; isplitr
  swap; · iexact H4
  ipureintro
  exact ⟨d0, d2, rfl⟩

theorem defs₀_row2 (t : Fin cfg2.N) : defs₀ (F := F) .tc cfg2.body (cfg2.bodyArgs t (cfg2.slots t)) = bodyAt2 t := by
  unfold defs₀; rw [Defs.onTc_tc]

theorem body_obligation2 (c : Dev nD) (W : Valuation τ sig (Elt F)) :
    BodyObligationRel (dat2 c W) (defs₀ (F := F)) Variants.none () Set.univ fgt2 (Rl2 c W) := fun t => by
  rw [bigSep_W2, bigSep_W2, defs₀_row2]
  exact triple_restated (sound_body2 c W t) rfl .rfl fun _ => .rfl

set_option backward.isDefEq.respectTransparency.types false in
/-- The call as a region. -/
def reg2 : Cert.Rel.Region (pcfgs (F := F)) adm (defs₀ (F := F)) 2 where
  win := launch2.win
  block_pos := launch2.block_pos
  arr_whole := launch2.arr_whole
  stage_whole := launch2.stage_whole
  hpref c := by unfold Pipeline.prefHeld; rw [show (Finset.univ : Finset (Fin 0)) = ∅ from rfl, BI.bigSep_empty]
  dat := dat2
  hA _ _ _ := rfl
  hshare c W := (dat2 c W).share_full fun _ => rfl
  hΦ _ _ _ := rfl
  howed _ _ _ := rfl
  hrec _ _ _ := rfl
  fgt := fgt2
  Rl := Rl2
  hbody := body_obligation2

end Cert.KernelIdeal.Rel

end
-- ==== Proof.Region3.lean ====
/- The fourth call of the kernel (the third graph layer): its body's triple, and the call as a region whose output block
is known from the input blocks and whatever the two row blocks hold past the end of their arrays. -/
module

public import proofs.«01_k».proof.Proof.Setup

@[expose] public section

set_option maxRecDepth 16384

noncomputable section

namespace Cert.KernelIdeal.Rel

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (Cert.Rel.U2 sig nD τ) ℕ

/-- Window `w`'s block at point `t`, read off its array as the region finds it. -/
def iblk3 (c : Dev nD) (W : Valuation τ sig (Elt F)) (w : Fin cfg3.W) (t : Fin cfg3.N) :
    ((cfg3.win w).xblock (cfg3.grid.coords t)).Idx → Elt F (cfg3.win w).elt :=
  ((cfg3.win w).blk t).view.read (Elt F) (W (Proc.devRef .tc (Pipeline.arrRef spec3 w)))

/-- The block with whatever the staging buffer held (`d`) past the end of the array. -/
def fblk3 (c : Dev nD) (W : Valuation τ sig (Elt F)) (w : Fin cfg3.W) (t : Fin cfg3.N) (d : (cfg3.win w).block.Idx → Elt F (cfg3.win w).elt) :
    (cfg3.win w).block.Idx → Elt F (cfg3.win w).elt :=
  (cfg3.win w).fill (cfg3.grid.coords t) d (iblk3 c W w t)

abbrev r3_0 : Rect S1024x10000 := Rect.unit (s := S1024x10000) ![0, 0] S1024x10000.size inb_S1024x10000_S1024x10000_0_0
abbrev r3_1 : Rect S10000x256 := Rect.unit (s := S10000x256) ![0, 0] S10000x256.size inb_S10000x256_S10000x256_0_0
abbrev r3_2 : Rect S1024x256 := Rect.unit (s := S1024x256) ![0, 0] S1024x256.size inb_S1024x256_S1024x256_0_0
abbrev r3_3 : Rect S256x32 := Rect.unit (s := S256x32) ![0, 0] S256x32.size inb_S256x32_S256x32_0_0
abbrev r3_4 : Rect S1024x32 := Rect.unit (s := S1024x32) ![0, 0] S1024x32.size inb_S1024x32_S1024x32_0_0

/-- The output block after the body, from the input blocks. -/
def out3_4 (x0 : Vec F S1024x10000 .fp8e4m3) (x1 : Vec F S10000x256 .fp8e4m3) (x2 : Vec F S1024x256 .f32) (x3 : Vec F S256x32 .f32) :
    Vec F S1024x32 .fp8e4m3 :=
  View.canon [⟨r3_4, k3_pay1 (View.ld x0 r3_0) (View.ld x1 r3_1) (View.ld x2 r3_2) (View.ld x3 r3_3)⟩]

theorem cover3_4 (p0 : Vec F S1024x32 .fp8e4m3) (y : S1024x32.Idx) :
    ∃ pc ∈ ([⟨r3_4, p0⟩] : List (View.Piece (Elt F) S1024x32 .fp8e4m3)), y ∈ pc.1.set :=
  View.cover_of_tiled [⟨r3_4, p0⟩] S1024x32.size (by rfl) y

set_option maxHeartbeats 1000000 in
/-- The body on whole staging memrefs: the inputs stay as they were, the output ends at `out3_4` of them. -/
theorem sound_kernel3 (c : Dev nD) (E : Set ℕ) (i : grid3.Coords)
    (arg1 : Memref sig .tc .vmem S1024x10000 .fp8e4m3) (harg1 : arg1.IsWhole) (arg2 : Memref sig .tc .vmem S10000x256 .fp8e4m3) (harg2 : arg2.IsWhole)
    (arg3 : Memref sig .tc .vmem S1024x256 .f32) (harg3 : arg3.IsWhole) (arg4 : Memref sig .tc .vmem S256x32 .f32) (harg4 : arg4.IsWhole)
    (arg5 : Memref sig .tc .vmem S1024x32 .fp8e4m3) (harg5 : arg5.IsWhole)
    (x0 : Vec F S1024x10000 .fp8e4m3) (x1 : Vec F S10000x256 .fp8e4m3) (x2 : Vec F S1024x256 .f32) (x3 : Vec F S256x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__gcn_mid_body i arg1 harg1 arg2 harg2 arg3 harg3 arg4 harg4 arg5 harg5) K := by
  simp only [cc3__gcn_mid_body_eq_skeleton]; unfold cc3__gcn_mid_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The call's proof data at the entry contents `W`: only the two resident windows' contents are stated exactly. -/
def dat3 (c : Dev nD) (W : Valuation τ sig (Elt F)) : Dat τ (Elt F) Unit ℕ (Cert.Rel.U2 sig nD τ) ℕ cfg3 c where
  A w := W (Proc.devRef .tc (Pipeline.arrRef spec3 w))
  after w t := match w with
    | ⟨0, _⟩ => fun _ => Classical.arbitrary _
    | ⟨1, _⟩ => iblk3 c W 1 t
    | ⟨2, _⟩ => fun _ => Classical.arbitrary _
    | ⟨3, _⟩ => iblk3 c W 3 t
    | ⟨4, _⟩ => fun _ => Classical.arbitrary _
  Φ _ := Pipeline.ΦA spec3 c
  q _ := fullShare
  owed _ := 0

/-- The windows described by a relation: the two row blocks read and the one written. -/
def fgt3 : Fin cfg3.W → Bool
  | ⟨0, _⟩ => true
  | ⟨1, _⟩ => false
  | ⟨2, _⟩ => true
  | ⟨3, _⟩ => false
  | ⟨4, _⟩ => true

/-- What the output block may be, from the arrays the call finds. -/
def Rl3 (c : Dev nD) (W : Valuation τ sig (Elt F)) : (w : Fin cfg3.W) → Fin cfg3.N → ((cfg3.win w).block.Idx → Elt F (cfg3.win w).elt) → Prop
  | ⟨4, _⟩ => fun t X => ∃ d0 d2, X = out3_4 (fblk3 c W 0 t d0) (iblk3 c W 1 t) (fblk3 c W 2 t d2) (iblk3 c W 3 t)
  | _ => fun _ _ => True

theorem before3_1 (c : Dev nD) (W : Valuation τ sig (Elt F)) (t : Fin cfg3.N) (d) : (dat3 c W).before 1 t d = iblk3 c W 1 t :=
  ((dat3 c W).before_in_eq_fetched 1 rfl (fun _ => rfl) (fun _ _ _ => rfl) (fun t => rfl) t d).trans rfl
theorem before3_3 (c : Dev nD) (W : Valuation τ sig (Elt F)) (t : Fin cfg3.N) (d) : (dat3 c W).before 3 t d = iblk3 c W 3 t :=
  ((dat3 c W).before_in_eq_fetched 3 rfl (fun _ => rfl) (fun _ _ _ => rfl) (fun t => rfl) t d).trans rfl

/-- A row block the body is handed: its array's block, filled up with anything. -/
theorem finds3_0 (c : Dev nD) (W : Valuation τ sig (Elt F)) (t : Fin cfg3.N) (Y) (h : ((dat3 c W).toRRel fgt3 (Rl3 c W)).Finds 0 t Y) :
    ∃ d, Y = fblk3 c W 0 t d := (RDat.finds_of_fetch _ (fetch3_0 t) Y).mp h
theorem finds3_2 (c : Dev nD) (W : Valuation τ sig (Elt F)) (t : Fin cfg3.N) (Y) (h : ((dat3 c W).toRRel fgt3 (Rl3 c W)).Finds 2 t Y) :
    ∃ d, Y = fblk3 c W 2 t d := (RDat.finds_of_fetch _ (fetch3_2 t) Y).mp h

/-- The body at any point. -/
theorem sound_body3 (c : Dev nD) (W : Valuation τ sig (Elt F)) (t : Fin cfg3.N) :
    iprop((dat3 c W).Φ t.castSucc ∗ (dat3 c W).owesAt () t.castSucc
      ∗ (∃ Y, ⌜((dat3 c W).toRRel fgt3 (Rl3 c W)).Finds 0 t Y⌝ ∗ owns (c : Thread nD τ) (st3_0 t) fullShare Y)
      ∗ (∃ d, owns (c : Thread nD τ) (st3_1 t) fullShare ((dat3 c W).before 1 t d))
      ∗ (∃ Y, ⌜((dat3 c W).toRRel fgt3 (Rl3 c W)).Finds 2 t Y⌝ ∗ owns (c : Thread nD τ) (st3_2 t) fullShare Y)
      ∗ (∃ d, owns (c : Thread nD τ) (st3_3 t) fullShare ((dat3 c W).before 3 t d))
      ∗ (∃ Y, ⌜((dat3 c W).toRRel fgt3 (Rl3 c W)).Finds 4 t Y⌝ ∗ owns (c : Thread nD τ) (st3_4 t) fullShare Y))
    ⊢ wp frame (wpE (defs₀ (F := F)) Variants.none c none) Set.univ (bodyAt3 t) (fun _ =>
      iprop((dat3 c W).Φ t.succ ∗ (dat3 c W).owesAt () t.succ
        ∗ (∃ X, ⌜Rl3 c W 0 t X⌝ ∗ owns (c : Thread nD τ) (st3_0 t) fullShare X)
        ∗ owns (c : Thread nD τ) (st3_1 t) fullShare ((dat3 c W).after 1 t)
        ∗ (∃ X, ⌜Rl3 c W 2 t X⌝ ∗ owns (c : Thread nD τ) (st3_2 t) fullShare X)
        ∗ owns (c : Thread nD τ) (st3_3 t) fullShare ((dat3 c W).after 3 t)
        ∗ (∃ X, ⌜Rl3 c W 4 t X⌝ ∗ owns (c : Thread nD τ) (st3_4 t) fullShare X))) := by
  unfold bodyAt3
  simp only [before3_1, before3_3]
  rw [show (dat3 c W).Φ t.succ = (dat3 c W).Φ t.castSucc from rfl,
    show (dat3 c W).owesAt () t.succ = (dat3 c W).owesAt () t.castSucc from rfl,
    show (dat3 c W).after 1 t = iblk3 c W 1 t from rfl, show (dat3 c W).after 3 t = iblk3 c W 3 t from rfl]
  iintro ⟨HΦ, Ho, ⟨%Y0, %h0, H0⟩, ⟨%d1, H1⟩, ⟨%Y2, %h2, H2⟩, ⟨%d3, H3⟩, ⟨%Y4, -, H4⟩⟩
  obtain ⟨d0, rfl⟩ := finds3_0 c W t Y0 h0
  obtain ⟨d2, rfl⟩ := finds3_2 c W t Y2 h2
  iapply (sound_kernel3 c Set.univ (grid3.coords t) _ _ _ _ _ _ _ _ _ _ (fblk3 c W 0 t d0) (iblk3 c W 1 t) (fblk3 c W 2 t d2) (iblk3 c W 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists (fblk3 c W 0 t d0); isplitr; · ipureintro; exact trivial
    iexact H0
  isplitl [H1]; · iexact H1
  isplitl [H2]
  · iexists (fblk3 c W 2 t d2); isplitr; · ipureintro; exact trivial
    iexact H2
  isplitl [H3]; · iexact H3
  iexists _; isplitr
  swap; · iexact H4
  ipureintro
  exact ⟨d0, d2, rfl⟩

theorem defs₀_row3 (t : Fin cfg3.N) : defs₀ (F := F) .tc cfg3.body (cfg3.bodyArgs t (cfg3.slots t)) = bodyAt3 t := by
  unfold defs₀; rw [Defs.onTc_tc]

theorem body_obligation3 (c : Dev nD) (W : Valuation τ sig (Elt F)) :
    BodyObligationRel (dat3 c W) (defs₀ (F := F)) Variants.none () Set.univ fgt3 (Rl3 c W) := fun t => by
  rw [bigSep_W3, bigSep_W3, defs₀_row3]
  exact triple_restated (sound_body3 c W t) rfl .rfl fun _ => .rfl

set_option backward.isDefEq.respectTransparency.types false in
/-- The call as a region. -/
def reg3 : Cert.Rel.Region (pcfgs (F := F)) adm (defs₀ (F := F)) 3 where
  win := launch3.win
  block_pos := launch3.block_pos
  arr_whole := launch3.arr_whole
  stage_whole := launch3.stage_whole
  hpref c := by unfold Pipeline.prefHeld; rw [show (Finset.univ : Finset (Fin 0)) = ∅ from rfl, BI.bigSep_empty]
  dat := dat3
  hA _ _ _ := rfl
  hshare c W := (dat3 c W).share_full fun _ => rfl
  hΦ _ _ _ := rfl
  howed _ _ _ := rfl
  hrec _ _ _ := rfl
  fgt := fgt3
  Rl := Rl3
  hbody := body_obligation3

end Cert.KernelIdeal.Rel

end
-- ==== Proof.Region4.lean ====
/- The fifth call of the kernel (the last graph layer and the classifier): its body's triple, and the call as a region whose output block
is known from the input blocks and whatever the two row blocks hold past the end of their arrays. -/
module

public import proofs.«01_k».proof.Proof.Setup

@[expose] public section

set_option maxRecDepth 16384

noncomputable section

namespace Cert.KernelIdeal.Rel

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (Cert.Rel.U2 sig nD τ) ℕ

/-- Window `w`'s block at point `t`, read off its array as the region finds it. -/
def iblk4 (c : Dev nD) (W : Valuation τ sig (Elt F)) (w : Fin cfg4.W) (t : Fin cfg4.N) :
    ((cfg4.win w).xblock (cfg4.grid.coords t)).Idx → Elt F (cfg4.win w).elt :=
  ((cfg4.win w).blk t).view.read (Elt F) (W (Proc.devRef .tc (Pipeline.arrRef spec4 w)))

/-- The block with whatever the staging buffer held (`d`) past the end of the array. -/
def fblk4 (c : Dev nD) (W : Valuation τ sig (Elt F)) (w : Fin cfg4.W) (t : Fin cfg4.N) (d : (cfg4.win w).block.Idx → Elt F (cfg4.win w).elt) :
    (cfg4.win w).block.Idx → Elt F (cfg4.win w).elt :=
  (cfg4.win w).fill (cfg4.grid.coords t) d (iblk4 c W w t)

abbrev r4_0 : Rect S1920x10000 := Rect.unit (s := S1920x10000) ![0, 0] S1920x10000.size inb_S1920x10000_S1920x10000_0_0
abbrev r4_1 : Rect S10000x32 := Rect.unit (s := S10000x32) ![0, 0] S10000x32.size inb_S10000x32_S10000x32_0_0
abbrev r4_2 : Rect S1920x32 := Rect.unit (s := S1920x32) ![0, 0] S1920x32.size inb_S1920x32_S1920x32_0_0
abbrev r4_3 : Rect S10x32 := Rect.unit (s := S10x32) ![0, 0] S10x32.size inb_S10x32_S10x32_0_0
abbrev r4_4 : Rect S1x10 := Rect.unit (s := S1x10) ![0, 0] S1x10.size inb_S1x10_S1x10_0_0
abbrev r4_5 : Rect S1920x10 := Rect.unit (s := S1920x10) ![0, 0] S1920x10.size inb_S1920x10_S1920x10_0_0

/-- The output block after the body, from the input blocks. -/
def out4_5 (x0 : Vec F S1920x10000 .fp8e4m3) (x1 : Vec F S10000x32 .fp8e4m3) (x2 : Vec F S1920x32 .f32) (x3 : Vec F S10x32 .f32) (x4 : Vec F S1x10 .f32) :
    Vec F S1920x10 .f32 :=
  View.canon [⟨r4_5, k4_pay1 (View.ld x0 r4_0) (View.ld x1 r4_1) (View.ld x2 r4_2) (View.ld x3 r4_3) (View.ld x4 r4_4)⟩]

theorem cover4_5 (p0 : Vec F S1920x10 .f32) (y : S1920x10.Idx) :
    ∃ pc ∈ ([⟨r4_5, p0⟩] : List (View.Piece (Elt F) S1920x10 .f32)), y ∈ pc.1.set :=
  View.cover_of_tiled [⟨r4_5, p0⟩] S1920x10.size (by rfl) y

set_option maxHeartbeats 1000000 in
/-- The body on whole staging memrefs: the inputs stay as they were, the output ends at `out4_5` of them. -/
theorem sound_kernel4 (c : Dev nD) (E : Set ℕ) (i : grid4.Coords)
    (arg1 : Memref sig .tc .vmem S1920x10000 .fp8e4m3) (harg1 : arg1.IsWhole) (arg2 : Memref sig .tc .vmem S10000x32 .fp8e4m3) (harg2 : arg2.IsWhole)
    (arg3 : Memref sig .tc .vmem S1920x32 .f32) (harg3 : arg3.IsWhole) (arg4 : Memref sig .tc .vmem S10x32 .f32) (harg4 : arg4.IsWhole)
    (arg5 : Memref sig .tc .vmem S1x10 .f32) (harg5 : arg5.IsWhole) (arg6 : Memref sig .tc .vmem S1920x10 .f32) (harg6 : arg6.IsWhole)
    (x0 : Vec F S1920x10000 .fp8e4m3) (x1 : Vec F S10000x32 .fp8e4m3) (x2 : Vec F S1920x32 .f32) (x3 : Vec F S10x32 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__gcn_last_body i arg1 harg1 arg2 harg2 arg3 harg3 arg4 harg4 arg5 harg5 arg6 harg6) K := by
  simp only [cc4__gcn_last_body_eq_skeleton]; unfold cc4__gcn_last_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The call's proof data at the entry contents `W`: only the three resident windows' contents are stated exactly. -/
def dat4 (c : Dev nD) (W : Valuation τ sig (Elt F)) : Dat τ (Elt F) Unit ℕ (Cert.Rel.U2 sig nD τ) ℕ cfg4 c where
  A w := W (Proc.devRef .tc (Pipeline.arrRef spec4 w))
  after w t := match w with
    | ⟨0, _⟩ => fun _ => Classical.arbitrary _
    | ⟨1, _⟩ => iblk4 c W 1 t
    | ⟨2, _⟩ => fun _ => Classical.arbitrary _
    | ⟨3, _⟩ => iblk4 c W 3 t
    | ⟨4, _⟩ => iblk4 c W 4 t
    | ⟨5, _⟩ => fun _ => Classical.arbitrary _
  Φ _ := Pipeline.ΦA spec4 c
  q _ := fullShare
  owed _ := 0

/-- The windows described by a relation: the two row blocks read and the one written. -/
def fgt4 : Fin cfg4.W → Bool
  | ⟨0, _⟩ => true
  | ⟨1, _⟩ => false
  | ⟨2, _⟩ => true
  | ⟨3, _⟩ => false
  | ⟨4, _⟩ => false
  | ⟨5, _⟩ => true

/-- What the output block may be, from the arrays the call finds. -/
def Rl4 (c : Dev nD) (W : Valuation τ sig (Elt F)) : (w : Fin cfg4.W) → Fin cfg4.N → ((cfg4.win w).block.Idx → Elt F (cfg4.win w).elt) → Prop
  | ⟨5, _⟩ => fun t X => ∃ d0 d2, X = out4_5 (fblk4 c W 0 t d0) (iblk4 c W 1 t) (fblk4 c W 2 t d2) (iblk4 c W 3 t) (iblk4 c W 4 t)
  | _ => fun _ _ => True

theorem before4_1 (c : Dev nD) (W : Valuation τ sig (Elt F)) (t : Fin cfg4.N) (d) : (dat4 c W).before 1 t d = iblk4 c W 1 t :=
  ((dat4 c W).before_in_eq_fetched 1 rfl (fun _ => rfl) (fun _ _ _ => rfl) (fun t => rfl) t d).trans rfl
theorem before4_3 (c : Dev nD) (W : Valuation τ sig (Elt F)) (t : Fin cfg4.N) (d) : (dat4 c W).before 3 t d = iblk4 c W 3 t :=
  ((dat4 c W).before_in_eq_fetched 3 rfl (fun _ => rfl) (fun _ _ _ => rfl) (fun t => rfl) t d).trans rfl
theorem before4_4 (c : Dev nD) (W : Valuation τ sig (Elt F)) (t : Fin cfg4.N) (d) : (dat4 c W).before 4 t d = iblk4 c W 4 t :=
  ((dat4 c W).before_in_eq_fetched 4 rfl (fun _ => rfl) (fun _ _ _ => rfl) (fun t => rfl) t d).trans rfl

/-- A row block the body is handed: its array's block, filled up with anything. -/
theorem finds4_0 (c : Dev nD) (W : Valuation τ sig (Elt F)) (t : Fin cfg4.N) (Y) (h : ((dat4 c W).toRRel fgt4 (Rl4 c W)).Finds 0 t Y) :
    ∃ d, Y = fblk4 c W 0 t d := (RDat.finds_of_fetch _ (fetch4_0 t) Y).mp h
theorem finds4_2 (c : Dev nD) (W : Valuation τ sig (Elt F)) (t : Fin cfg4.N) (Y) (h : ((dat4 c W).toRRel fgt4 (Rl4 c W)).Finds 2 t Y) :
    ∃ d, Y = fblk4 c W 2 t d := (RDat.finds_of_fetch _ (fetch4_2 t) Y).mp h

/-- The body at any point. -/
theorem sound_body4 (c : Dev nD) (W : Valuation τ sig (Elt F)) (t : Fin cfg4.N) :
    iprop((dat4 c W).Φ t.castSucc ∗ (dat4 c W).owesAt () t.castSucc
      ∗ (∃ Y, ⌜((dat4 c W).toRRel fgt4 (Rl4 c W)).Finds 0 t Y⌝ ∗ owns (c : Thread nD τ) (st4_0 t) fullShare Y)
      ∗ (∃ d, owns (c : Thread nD τ) (st4_1 t) fullShare ((dat4 c W).before 1 t d))
      ∗ (∃ Y, ⌜((dat4 c W).toRRel fgt4 (Rl4 c W)).Finds 2 t Y⌝ ∗ owns (c : Thread nD τ) (st4_2 t) fullShare Y)
      ∗ (∃ d, owns (c : Thread nD τ) (st4_3 t) fullShare ((dat4 c W).before 3 t d))
      ∗ (∃ d, owns (c : Thread nD τ) (st4_4 t) fullShare ((dat4 c W).before 4 t d))
      ∗ (∃ Y, ⌜((dat4 c W).toRRel fgt4 (Rl4 c W)).Finds 5 t Y⌝ ∗ owns (c : Thread nD τ) (st4_5 t) fullShare Y))
    ⊢ wp frame (wpE (defs₀ (F := F)) Variants.none c none) Set.univ (bodyAt4 t) (fun _ =>
      iprop((dat4 c W).Φ t.succ ∗ (dat4 c W).owesAt () t.succ
        ∗ (∃ X, ⌜Rl4 c W 0 t X⌝ ∗ owns (c : Thread nD τ) (st4_0 t) fullShare X)
        ∗ owns (c : Thread nD τ) (st4_1 t) fullShare ((dat4 c W).after 1 t)
        ∗ (∃ X, ⌜Rl4 c W 2 t X⌝ ∗ owns (c : Thread nD τ) (st4_2 t) fullShare X)
        ∗ owns (c : Thread nD τ) (st4_3 t) fullShare ((dat4 c W).after 3 t)
        ∗ owns (c : Thread nD τ) (st4_4 t) fullShare ((dat4 c W).after 4 t)
        ∗ (∃ X, ⌜Rl4 c W 5 t X⌝ ∗ owns (c : Thread nD τ) (st4_5 t) fullShare X))) := by
  unfold bodyAt4
  simp only [before4_1, before4_3, before4_4]
  rw [show (dat4 c W).Φ t.succ = (dat4 c W).Φ t.castSucc from rfl,
    show (dat4 c W).owesAt () t.succ = (dat4 c W).owesAt () t.castSucc from rfl,
    show (dat4 c W).after 1 t = iblk4 c W 1 t from rfl, show (dat4 c W).after 3 t = iblk4 c W 3 t from rfl,
    show (dat4 c W).after 4 t = iblk4 c W 4 t from rfl]
  iintro ⟨HΦ, Ho, ⟨%Y0, %h0, H0⟩, ⟨%d1, H1⟩, ⟨%Y2, %h2, H2⟩, ⟨%d3, H3⟩, ⟨%d4, H4⟩, ⟨%Y5, -, H5⟩⟩
  obtain ⟨d0, rfl⟩ := finds4_0 c W t Y0 h0
  obtain ⟨d2, rfl⟩ := finds4_2 c W t Y2 h2
  iapply (sound_kernel4 c Set.univ (grid4.coords t) _ _ _ _ _ _ _ _ _ _ _ _ (fblk4 c W 0 t d0) (iblk4 c W 1 t) (fblk4 c W 2 t d2) (iblk4 c W 3 t) (iblk4 c W 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists (fblk4 c W 0 t d0); isplitr; · ipureintro; exact trivial
    iexact H0
  isplitl [H1]; · iexact H1
  isplitl [H2]
  · iexists (fblk4 c W 2 t d2); isplitr; · ipureintro; exact trivial
    iexact H2
  isplitl [H3]; · iexact H3
  isplitl [H4]; · iexact H4
  iexists _; isplitr
  swap; · iexact H5
  ipureintro
  exact ⟨d0, d2, rfl⟩

theorem defs₀_row4 (t : Fin cfg4.N) : defs₀ (F := F) .tc cfg4.body (cfg4.bodyArgs t (cfg4.slots t)) = bodyAt4 t := by
  unfold defs₀; rw [Defs.onTc_tc]

theorem body_obligation4 (c : Dev nD) (W : Valuation τ sig (Elt F)) :
    BodyObligationRel (dat4 c W) (defs₀ (F := F)) Variants.none () Set.univ fgt4 (Rl4 c W) := fun t => by
  rw [bigSep_W4, bigSep_W4, defs₀_row4]
  exact triple_restated (sound_body4 c W t) rfl .rfl fun _ => .rfl

set_option backward.isDefEq.respectTransparency.types false in
/-- The call as a region. -/
def reg4 : Cert.Rel.Region (pcfgs (F := F)) adm (defs₀ (F := F)) 4 where
  win := launch4.win
  block_pos := launch4.block_pos
  arr_whole := launch4.arr_whole
  stage_whole := launch4.stage_whole
  hpref c := by unfold Pipeline.prefHeld; rw [show (Finset.univ : Finset (Fin 0)) = ∅ from rfl, BI.bigSep_empty]
  dat := dat4
  hA _ _ _ := rfl
  hshare c W := (dat4 c W).share_full fun _ => rfl
  hΦ _ _ _ := rfl
  howed _ _ _ := rfl
  hrec _ _ _ := rfl
  fgt := fgt4
  Rl := Rl4
  hbody := body_obligation4

end Cert.KernelIdeal.Rel

end
-- ==== Proof.Steps.lean ====
/- What a region's step says buffer by buffer: an array the region writes holds what its blocks left, every other buffer is
as it was. -/
module

public import proofs.«01_k».proof.Proof.RelRegion

@[expose] public section

noncomputable section

namespace Cert.Rel.Region

open Idealize.ShloMosaic Idealize.ShloMosaic.TcCoe Idealize.ShloMosaic.Pipeline
open Idealize.SL.Sem

variable {nD : Nat} {τ : Topo} {sig : RefSig} {Val : EltTy → Type} [∀ e, Nonempty (Val e)]
variable {Λ₀ : Idealize.SL.Sem.Labels} {P : Type} [Fintype P] [DecidableEq P]
variable {pcs : P → PCfg sig Λ₀ Val} {a : (p : P) → (pcs p).Adm} {defs₀ : Defs nD τ sig Val Λ₀}
variable {p : P} {R : Region pcs a defs₀ p} {c : Dev nD} {W W' : Valuation τ sig Val}

/-- Every array of the region ends at its write-backs, from contents that meet the relation. -/
theorem Step.arr (h : R.Step c W W') :
    ∃ after, (∀ w u, R.fgt w = true → ((pin pcs a p).win w).flush u = true → R.Rl c W w u (after w u))
      ∧ ∀ w, W' (Proc.devRef .tc (arrRef (pin pcs a p).spec w)) = ((R.rdat c W).withAfter after).arrAt w (pin pcs a p).N := by
  obtain ⟨after, h1, rfl⟩ := h
  exact ⟨after, h1, fun w => withArrays_arr _ R.win.arr_inj c _ _ w⟩

/-- A buffer that is none of the region's output arrays is as it was. -/
theorem Step.keep (h : R.Step c W W') (r : Ref sig .tc)
    (hr : ∀ w, arrRef (pin pcs a p).spec w = r → ((pin pcs a p).win w).isOut = false) :
    W' (Proc.devRef .tc r) = W (Proc.devRef .tc r) := by
  obtain ⟨after, h1, rfl⟩ := h
  unfold exitAt
  by_cases hw : ∃ w, arrRef (pin pcs a p).spec w = r
  · obtain ⟨w, rfl⟩ := hw
    rw [withArrays_arr _ R.win.arr_inj c _ _ w, Dat.arrAt_in _ w (hr w rfl)]
    exact R.hA c W w
  · exact withArrays_of_ne _ c _ _ r fun w e => hw ⟨w, e⟩

end Cert.Rel.Region

end
-- ==== Proof.Run.lean ====
/- The run of the whole program: its host stretches and its five calls one after another, the contents of memory between
them known up to the calls' relations; and that no argument array changes. -/
module

public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.Steps

@[expose] public section

set_option maxRecDepth 16384

noncomputable section

namespace Cert.KernelIdeal.Rel

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27]

theorem fresh0 : (hostOps0 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor
theorem fresh5 : (hostOps5 : List (HloOp τ sig (Elt F))).Forall fun op => op.fresh = ∅ := by
  simp only [List.Forall]; repeat' constructor

/-- The buffers the host stretches write. -/
abbrev writes0 : List (Ref sig .tc) := [main_v0, main_v1, main_v2, main_v3, main_v4, main_v5, main_v6, main_v7, main_v8, main_v9, main_v10, main_v11, main_v12, main_v13]
theorem writes0_sub : (hostOps0 : List (HloOp τ sig (Elt F))).Forall fun op => op.writes ⊆ (writes0.map (Proc.devRef (τ := τ) .tc)).toFinset :=
  StableHlo.forall_writes_sub_of_map rfl
theorem writes4_sub : (hostOps4 : List (HloOp τ sig (Elt F))).Forall fun op => op.writes ⊆ ([main_v18].map (Proc.devRef (τ := τ) .tc)).toFinset :=
  StableHlo.forall_writes_sub_of_map rfl
theorem writes5_sub : (hostOps5 : List (HloOp τ sig (Elt F))).Forall fun op => op.writes ⊆ ([main_v20].map (Proc.devRef (τ := τ) .tc)).toFinset :=
  StableHlo.forall_writes_sub_of_map rfl

/-- A host stretch as a segment. -/
abbrev hseg (Good : Dev nD → Valuation τ sig (Elt F) → Prop) (S : Finset (Fin 5)) (ops : List (HloOp τ sig (Elt F)))
    (hsub : ops.Forall fun op => op.bufs ⊆ StableHlo.tcRefs τ sig) (hfresh : ops.Forall fun op => op.fresh = ∅) :=
  Cert.Rel.hostOps (pcfgs (F := F)) adm (defs₀ (F := F)) Good S ops
    (fun op h => Pipeline.sub_ucRefs op ((List.forall_iff_forall_mem.mp hsub) op h))
    (fun op h => (List.forall_iff_forall_mem.mp hfresh) op h)

variable (m : (ℓ : Loc nD τ sig) → Buf (Elt F) ℓ)

/-- What memory may hold at each boundary. -/
abbrev G0 (c : Dev nD) (W : Valuation τ sig (Elt F)) : Prop := W = fun b => m (c, b)
abbrev G1 (c : Dev nD) (W' : Valuation τ sig (Elt F)) : Prop := ∃ W, G0 m c W ∧ W' = StableHlo.after hostOps0 W
abbrev G2 (c : Dev nD) (W' : Valuation τ sig (Elt F)) : Prop := ∃ W, G1 m c W ∧ reg0.Step c W W'
abbrev G3 (c : Dev nD) (W' : Valuation τ sig (Elt F)) : Prop := ∃ W, G2 m c W ∧ reg1.Step c W W'
abbrev G4 (c : Dev nD) (W' : Valuation τ sig (Elt F)) : Prop := ∃ W, G3 m c W ∧ reg2.Step c W W'
abbrev G5 (c : Dev nD) (W' : Valuation τ sig (Elt F)) : Prop := ∃ W, G4 m c W ∧ reg3.Step c W W'
abbrev G6 (c : Dev nD) (W' : Valuation τ sig (Elt F)) : Prop := ∃ W, G5 m c W ∧ W' = StableHlo.after hostOps4 W
abbrev G7 (c : Dev nD) (W' : Valuation τ sig (Elt F)) : Prop := ∃ W, G6 m c W ∧ reg4.Step c W W'
abbrev G8 (c : Dev nD) (W' : Valuation τ sig (Elt F)) : Prop := ∃ W, G7 m c W ∧ W' = StableHlo.after hostOps5 W

abbrev S0 : Finset (Fin 5) := Finset.univ
abbrev S1 : Finset (Fin 5) := S0.erase 0
abbrev S2 : Finset (Fin 5) := S1.erase 1
abbrev S3 : Finset (Fin 5) := S2.erase 2
abbrev S4 : Finset (Fin 5) := S3.erase 3
abbrev S5 : Finset (Fin 5) := S4.erase 4

set_option backward.isDefEq.respectTransparency.types false in
/-- The program's segments. -/
abbrev segs : Cert.Rel.Segs (pcfgs (F := F)) adm (defs₀ (F := F)) :=
  [ .host (hseg (G0 m) S0 hostOps0 hostOps0_sub fresh0),
    .host (reg0.host cellOf_inj (G1 m) S0 (by decide)),
    .host (reg1.host cellOf_inj (G2 m) S1 (by decide)),
    .host (reg2.host cellOf_inj (G3 m) S2 (by decide)),
    .host (reg3.host cellOf_inj (G4 m) S3 (by decide)),
    .host (hseg (G5 m) S4 hostOps4 hostOps4_sub fresh4),
    .host (reg4.host cellOf_inj (G6 m) S4 (by decide)),
    .host (hseg (G7 m) S5 hostOps5 hostOps5_sub fresh5) ]

theorem main_run (c : Dev nD) : main (F := F) c = RDat.Seg.run (segs m) := (main_chain c).trans (by chain_rfl)

theorem no_unscoped : ∀ sm : SemLoc sig, sm.isScoped .tc = true := by decide

variable (g : Dev nD → PrngReg)

set_option backward.isDefEq.respectTransparency.types false in
/-- The program terminates, nothing faulting, every counter at zero, memory at contents that meet `G8`. -/
theorem run_ends : θ_run defs (onTc (τ := τ) (main (F := F))) ⟨m, fun _ => 0, g⟩ fun r =>
    (∀ c : Dev nD, ∃ W, G8 m c W ∧ ∀ b ∈ Pipeline.ucRefs τ sig, r.2.mem (c, b) = W b) ∧ r.2.sem = fun _ => 0 :=
  Cert.Rel.run (pcfgs (F := F)) adm (defs₀ (F := F)) cellOf_inj no_unscoped m g (main (F := F)) (segs m) (main_run m)
    (by simp only [segs, RDat.Seg.pipes_host, RDat.Seg.pipes_nil]; decide) (G0 m) (G8 m) S5 (fun _ => rfl)
    ⟨fun _ => .rfl, fun _ => .rfl, fun _ => .rfl, fun _ => .rfl, fun _ => .rfl, fun _ => .rfl, fun _ => .rfl, fun _ => .rfl, fun _ => .rfl⟩

end Cert.KernelIdeal.Rel

end
-- ==== Proof.Args.lean ====
/- No argument array changes over the run: no host stretch writes one, and every call has it among its inputs or not at all. -/
module

public import proofs.«01_k».proof.Proof.Run

@[expose] public section

set_option maxRecDepth 16384

noncomputable section

namespace Cert.KernelIdeal.Rel

open Cert.KernelIdeal.Gen
open Idealize.ShloMosaic Idealize.ShloMosaic.TcCoe Idealize.SL.Sem

variable {F : FTy → Type} [FloatOps F]
variable (m : (ℓ : Loc nD τ sig) → Buf (Elt F) ℓ)

theorem args_writes0 : ∀ a ∈ argRefs, a ∉ writes0 := ListAll.forall_mem_of_all_decide (by decide +kernel)
theorem args_writes4 : ∀ a ∈ argRefs, a ∉ [main_v18] := ListAll.forall_mem_of_all_decide (by decide +kernel)
theorem args_writes5 : ∀ a ∈ argRefs, a ∉ [main_v20] := ListAll.forall_mem_of_all_decide (by decide +kernel)
theorem args_in0 : ∀ a ∈ argRefs, ∀ w : Fin cfg0.W, Pipeline.arrRef spec0 w = a → (cfg0.win w).isOut = false :=
  ListAll.forall_mem_of_all_decide (by decide +kernel)
theorem args_in1 : ∀ a ∈ argRefs, ∀ w : Fin cfg1.W, Pipeline.arrRef spec1 w = a → (cfg1.win w).isOut = false :=
  ListAll.forall_mem_of_all_decide (by decide +kernel)
theorem args_in2 : ∀ a ∈ argRefs, ∀ w : Fin cfg2.W, Pipeline.arrRef spec2 w = a → (cfg2.win w).isOut = false :=
  ListAll.forall_mem_of_all_decide (by decide +kernel)
theorem args_in3 : ∀ a ∈ argRefs, ∀ w : Fin cfg3.W, Pipeline.arrRef spec3 w = a → (cfg3.win w).isOut = false :=
  ListAll.forall_mem_of_all_decide (by decide +kernel)
theorem args_in4 : ∀ a ∈ argRefs, ∀ w : Fin cfg4.W, Pipeline.arrRef spec4 w = a → (cfg4.win w).isOut = false :=
  ListAll.forall_mem_of_all_decide (by decide +kernel)

variable {m}

/-- The arguments at each boundary are the launch's. -/
theorem args1 {c : Dev nD} {W : Valuation τ sig (Elt F)} (h : G1 m c W) (a) (ha : a ∈ argRefs) :
    W (Proc.devRef .tc a) = m (c, Proc.devRef .tc a) := by
  obtain ⟨W0, rfl, rfl⟩ := h
  exact StableHlo.after_of_writes_sub _ _ writes0_sub (args_writes0 a ha)
theorem args2 {c : Dev nD} {W : Valuation τ sig (Elt F)} (h : G2 m c W) (a) (ha : a ∈ argRefs) :
    W (Proc.devRef .tc a) = m (c, Proc.devRef .tc a) := by
  obtain ⟨W0, h0, h1⟩ := h
  exact (h1.keep a (args_in0 a ha)).trans (args1 h0 a ha)
theorem args3 {c : Dev nD} {W : Valuation τ sig (Elt F)} (h : G3 m c W) (a) (ha : a ∈ argRefs) :
    W (Proc.devRef .tc a) = m (c, Proc.devRef .tc a) := by
  obtain ⟨W0, h0, h1⟩ := h
  exact (h1.keep a (args_in1 a ha)).trans (args2 h0 a ha)
theorem args4 {c : Dev nD} {W : Valuation τ sig (Elt F)} (h : G4 m c W) (a) (ha : a ∈ argRefs) :
    W (Proc.devRef .tc a) = m (c, Proc.devRef .tc a) := by
  obtain ⟨W0, h0, h1⟩ := h
  exact (h1.keep a (args_in2 a ha)).trans (args3 h0 a ha)
theorem args5 {c : Dev nD} {W : Valuation τ sig (Elt F)} (h : G5 m c W) (a) (ha : a ∈ argRefs) :
    W (Proc.devRef .tc a) = m (c, Proc.devRef .tc a) := by
  obtain ⟨W0, h0, h1⟩ := h
  exact (h1.keep a (args_in3 a ha)).trans (args4 h0 a ha)
theorem args6 {c : Dev nD} {W : Valuation τ sig (Elt F)} (h : G6 m c W) (a) (ha : a ∈ argRefs) :
    W (Proc.devRef .tc a) = m (c, Proc.devRef .tc a) := by
  obtain ⟨W0, h0, rfl⟩ := h
  exact (StableHlo.after_of_writes_sub _ _ writes4_sub (args_writes4 a ha)).trans (args5 h0 a ha)
theorem args7 {c : Dev nD} {W : Valuation τ sig (Elt F)} (h : G7 m c W) (a) (ha : a ∈ argRefs) :
    W (Proc.devRef .tc a) = m (c, Proc.devRef .tc a) := by
  obtain ⟨W0, h0, h1⟩ := h
  exact (h1.keep a (args_in4 a ha)).trans (args6 h0 a ha)
theorem args8 {c : Dev nD} {W : Valuation τ sig (Elt F)} (h : G8 m c W) (a) (ha : a ∈ argRefs) :
    W (Proc.devRef .tc a) = m (c, Proc.devRef .tc a) := by
  obtain ⟨W0, h0, rfl⟩ := h
  exact (StableHlo.after_of_writes_sub _ _ writes5_sub (args_writes5 a ha)).trans (args7 h0 a ha)

/-- An unscoped buffer is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem args_uc : ∀ a ∈ argRefs, ¬ (Proc.devRef .tc a : DevRef τ sig).isScoped :=
  ListAll.forall_mem_of_all_decide (by decide +kernel)

variable (m) (g : Dev nD → PrngReg)

/-- The frame: the program terminates with the arguments as launched and every counter at zero, and memory holds what some
    contents that meet `G8` hold. -/
theorem frame_ends : θ_run defs (onTc (τ := τ) (main (F := F))) ⟨m, fun _ => 0, g⟩ fun r =>
    (∀ c : Dev nD, (argRefs.Forall fun a => r.2.mem ((c.tc : Thread nD τ).loc a) = m ((c.tc : Thread nD τ).loc a))
      ∧ ∃ W, G8 m c W ∧ ∀ b ∈ Pipeline.ucRefs τ sig, r.2.mem (c, b) = W b) ∧ r.2.sem = fun _ => 0 :=
  (θ_run defs _ _).mono (fun r h => ⟨fun c => by
    obtain ⟨W, hW, hm⟩ := h.1 c
    exact ⟨List.forall_iff_forall_mem.mpr fun a ha => (hm _ (mem_uc a (args_uc a ha))).trans (args8 hW a ha), W, hW, hm⟩, h.2⟩) (run_ends m g)

/-- The frame alone. -/
theorem frame : θ_run defs (onTc (τ := τ) (main (F := F))) ⟨m, fun _ => 0, g⟩ fun r =>
    (∀ c : Dev nD, argRefs.Forall fun a => r.2.mem ((c.tc : Thread nD τ).loc a) = m ((c.tc : Thread nD τ).loc a))
      ∧ r.2.sem = fun _ => 0 :=
  (θ_run defs _ _).mono (fun r h => ⟨fun c => (h.1 c).1, h.2⟩) (frame_ends m g)

end Cert.KernelIdeal.Rel

end
-- ==== Proof.Frames.lean ====
/- The frame claims of the three programs.  The program as compiled and the program read at the ideal instance are the same
text, so the run proved at any float instance is a run of either; the reference's is its generated run. -/
module

public import proofs.«01_k».proof.Defs
public import proofs.«01_k».proof.Proof.Args
public import proofs.«01_k».proof.Proof.Gen.Kernel
public import proofs.«01_k».proof.Proof.Gen.ReferenceIdeal.Run
public import Idealize.ShloMosaic.Lib.Tactic

@[expose] public section

noncomputable section

namespace Cert.Proof

open Idealize.ShloMosaic Idealize.SL.Sem

open Cert.KernelIdeal in
/-- The frame at the bits, of the program printed for the ideal instance. -/
def FrameAtBits : Prop := ∀ (m : (ℓ : Loc nD τ sig) → Buf (Elt Bits) ℓ) (g : Dev nD → PrngReg), True →
  θ_run (defs (F := Bits)) (onTc (τ := τ) (main (F := Bits))) ⟨m, fun _ => 0, g⟩ fun r =>
    (∀ c : Dev nD, Cert.KernelIdeal.Rel.argRefs.Forall fun a => r.2.mem ((c.tc : Thread nD τ).loc a) = m ((c.tc : Thread nD τ).loc a))
      ∧ r.2.sem = fun _ => 0

set_option maxRecDepth 65536 in
/-- The two printed programs are one. -/
theorem same_text : FrameAtBits = Cert.quiescent_Kernel := by sl_kernel_rfl

theorem frame_kernel : Cert.quiescent_Kernel :=
  same_text.mp fun m g _ => Cert.KernelIdeal.Rel.frame m g

theorem frame_ideal : Cert.quiescent_KernelIdeal := fun m g _ => Cert.KernelIdeal.Rel.frame m g

theorem frame_reference : Cert.quiescent_ReferenceIdeal := fun m g _ => by
  refine (θ_run _ _ _).mono ?_ (Cert.ReferenceIdeal.Value.run m g)
  intro r h
  exact ⟨fun c => (h c).2.2.2.2, sem_eq_zero_of_no_sems rfl _⟩

end Cert.Proof

end
-- ==== Proof.Arith.lean ====
/- The arithmetic of the extended reals the value claim rests on: a banded matrix product is a three-tap convolution, powers of
two that scale the factors of a sum of products cancel against the one that scales the sum, and clipping a value inside the
range changes nothing. -/
module

public import Idealize.ShloMosaic.Lib.ValueIdx
public import Idealize.ShloMosaic.PureOps.Ideal.Laws
public import Idealize.ShloMosaic.Lib.MatmulPlain
public import Idealize.ShloMosaic.Lib.ValueLayout
public import Idealize.ShloMosaic.Lib.KernelVsHost

@[expose] public section

noncomputable section

namespace Cert.Math

open Idealize.ShloMosaic Idealize.ShloMosaic.ValueIdx
open scoped BigOperators

/-- Lane `l + k - 1` of a row, zero beyond its ends. -/
def tap (v : Fin 128 → EReal) (k : Fin 3) (l : Fin 128) : EReal :=
  if h : 1 ≤ l.val + k.val ∧ l.val + k.val ≤ 128 then v ⟨l.val + k.val - 1, by omega⟩ else 0

/-- The three-tap convolution along a row. -/
def conv (v : Fin 128 → EReal) (w : Fin 3 → EReal) (l : Fin 128) : EReal :=
  tap v 0 l * w 0 + tap v 1 l * w 1 + tap v 2 l * w 2

/-- The banded matrix of three taps. -/
def band (w : Fin 3 → EReal) (i l : Fin 128) : EReal :=
  (if l.val = i.val + 1 then w 0 else 0) + (if l.val = i.val then w 1 else 0) + (if l.val + 1 = i.val then w 2 else 0)

theorem mul_band (v : EReal) (w : Fin 3 → EReal) (i l : Fin 128) : v * band w i l =
    (if l.val = i.val + 1 then v * w 0 else 0) + (if l.val = i.val then v * w 1 else 0) + (if l.val + 1 = i.val then v * w 2 else 0) := by
  unfold band
  split_ifs <;> first | omega | simp

theorem sum_tap (v : Fin 128 → EReal) (k : Fin 3) (l : Fin 128) (c : EReal) (p : Fin 128 → Prop) [DecidablePred p]
    (hp : ∀ i, p i ↔ l.val + k.val = i.val + 1) : (∑ i, if p i then v i * c else 0) = tap v k l * c := by
  unfold tap
  split_ifs with h
  · rw [Finset.sum_eq_single ⟨l.val + k.val - 1, by omega⟩, if_pos ((hp _).mpr (by show _ = l.val + k.val - 1 + 1; omega))]
    · intro b _ hb
      rw [if_neg fun hpb => hb (Fin.ext (by have := (hp _).mp hpb; show b.val = l.val + k.val - 1; omega))]
    · intro h'; exact absurd (Finset.mem_univ _) h'
  · rw [zero_mul]
    refine Finset.sum_eq_zero fun i _ => if_neg fun hpi => h ?_
    have := (hp _).mp hpi
    have := i.isLt
    omega

/-- A banded matrix product is a convolution. -/
theorem sum_band (v : Fin 128 → EReal) (w : Fin 3 → EReal) (l : Fin 128) : (∑ i, v i * band w i l) = conv v w l := by
  simp only [mul_band, Finset.sum_add_distrib]
  rw [sum_tap v 0 l (w 0) _ fun i => by show _ ↔ l.val + 0 = _; omega, sum_tap v 1 l (w 1) _ fun i => by show _ ↔ l.val + 1 = _; omega,
    sum_tap v 2 l (w 2) _ fun i => by show _ ↔ l.val + 2 = _; omega]
  rfl

/-- The words of the program's constants. -/
theorem word_adj : Ideal.ofBits .f32 0x47000000#32 = ((32768 : ℝ) : EReal) := by
  simp [Ideal.ofBits, Ideal.ieee, -EReal.coe_mul, -EReal.coe_neg]; norm_num
theorem word_feat : Ideal.ofBits .f32 0x43800000#32 = ((256 : ℝ) : EReal) := by
  simp [Ideal.ofBits, Ideal.ieee, -EReal.coe_mul, -EReal.coe_neg]; norm_num
theorem word_acc : Ideal.ofBits .f32 0x34000000#32 = ((1 / 8388608 : ℝ) : EReal) := by
  simp [Ideal.ofBits, Ideal.ieee, -EReal.coe_mul, -EReal.coe_neg]; norm_num
theorem word_hi : Ideal.ofBits .f32 0x43DC0000#32 = ((440 : ℝ) : EReal) := by
  simp [Ideal.ofBits, Ideal.ieee, -EReal.coe_mul, -EReal.coe_neg]; norm_num
theorem word_lo : Ideal.ofBits .f32 0xC3DC0000#32 = ((-440 : ℝ) : EReal) := by
  simp [Ideal.ofBits, Ideal.ieee, -EReal.coe_mul, -EReal.coe_neg]; norm_num
theorem word_range : Ideal.ofBits .f32 0x3FDC0000#32 = ((55 / 32 : ℝ) : EReal) := by
  simp [Ideal.ofBits, Ideal.ieee, -EReal.coe_mul, -EReal.coe_neg]; norm_num
theorem word_zero : Ideal.ofBits .f32 0x00000000#32 = 0 := by
  simp [Ideal.ofBits, Ideal.ieee]

theorem sum_mul_real {ι : Type} (s : Finset ι) (f : ι → EReal) (c : ℝ) (hc : 0 ≤ c) : (∑ k ∈ s, f k * (c : EReal)) = (∑ k ∈ s, f k) * (c : EReal) := by
  classical
  induction s using Finset.induction_on with
  | empty => simp
  | insert a s ha ih =>
    rw [Finset.sum_insert ha, Finset.sum_insert ha, ih]
    exact (EReal.right_distrib_of_nonneg_of_ne_top (EReal.coe_nonneg.mpr hc) (EReal.coe_ne_top c) _ _).symm

/-- The scalings of the two factors and of the sum cancel. -/
theorem scaled_sum {n : ℕ} (f g : Fin n → EReal) :
    (∑ k, (f k * ((32768 : ℝ) : EReal)) * (g k * ((256 : ℝ) : EReal))) * ((1 / 8388608 : ℝ) : EReal) = ∑ k, f k * g k := by
  have h : ∀ k, (f k * ((32768 : ℝ) : EReal)) * (g k * ((256 : ℝ) : EReal)) = (f k * g k) * ((8388608 : ℝ) : EReal) := fun k => by
    rw [mul_mul_mul_comm, ← EReal.coe_mul]; norm_num
  simp only [h]
  rw [sum_mul_real _ _ _ (by norm_num), mul_assoc, ← EReal.coe_mul]
  norm_num

/-- Clipping, as the kernel does before it stores a feature. -/
def clip (s : EReal) : EReal := min ((440 : ℝ) : EReal) (max ((-440 : ℝ) : EReal) (s * ((256 : ℝ) : EReal)))

/-- A feature inside the range. -/
def InRange (s : EReal) : Prop := max s (-s) ≤ ((55 / 32 : ℝ) : EReal)

theorem clip_eq {s : EReal} (h : InRange s) : clip s = s * ((256 : ℝ) : EReal) := by
  unfold InRange at h
  obtain ⟨h1, h2⟩ := max_le_iff.mp h
  induction s using EReal.rec with
  | bot => exact absurd h2 (by simp)
  | top => exact absurd h1 (by simp)
  | coe s =>
    rw [← EReal.coe_neg, EReal.coe_le_coe_iff] at h2
    rw [EReal.coe_le_coe_iff] at h1
    unfold clip
    rw [← EReal.coe_mul, max_eq_right (EReal.coe_le_coe_iff.mpr (by linarith)), min_eq_right (EReal.coe_le_coe_iff.mpr (by linarith))]

/-! ## The two matrix products at an index -/

theorem mm {M K N : ℕ} {φ₁ φ₂ : FTy} (a : FVec Ideal ⟨2, ![M, K]⟩ φ₁) (b : FVec Ideal ⟨2, ![K, N]⟩ φ₂) (r : Fin M) (c : Fin N) :
    matmul (DotDims.plain M K N) none a b (constant (F := Ideal) ⟨2, ![M, N]⟩ .f32 0x00000000#32) (ix2 r c) = ∑ k, a (ix2 r k) * b (ix2 k c) :=
  (Ideal.matmul_plain_apply none a b _ r c).trans (by rw [constant_apply, word_zero, zero_add])

theorem mmT {M K N : ℕ} {φ₁ φ₂ : FTy} (a : FVec Ideal ⟨2, ![M, K]⟩ φ₁) (b : FVec Ideal ⟨2, ![N, K]⟩ φ₂) (r : Fin M) (c : Fin N) :
    matmul (DotDims.transposedRhs M K N) none a b (constant (F := Ideal) ⟨2, ![M, N]⟩ .f32 0x00000000#32) (ix2 r c) = ∑ k, a (ix2 r k) * b (ix2 c k) :=
  (Ideal.matmul_transposedRhs_apply none a b _ r c).trans (by rw [constant_apply, word_zero, zero_add])

theorem dg {M K N : ℕ} {φ₁ φ₂ : FTy} (a : FVec Ideal ⟨2, ![M, K]⟩ φ₁) (b : FVec Ideal ⟨2, ![K, N]⟩ φ₂) (r : Fin M) (c : Fin N) :
    Host.dotGeneral (DotDims.plain M K N) none a b (ix2 r c) = ∑ k, a (ix2 r k) * b (ix2 k c) := by
  rw [← matmul_zero_eq_dotGeneral]; exact mm a b r c

end Cert.Math

end
-- ==== Proof.Net.lean ====
/- The network, row by row, over the extended reals: the functions both programs are shown to compute. -/
module

public import proofs.«01_k».proof.Proof.Arith

@[expose] public section

noncomputable section

namespace Cert.Math

open Idealize.ShloMosaic Idealize.ShloMosaic.ValueIdx
open scoped BigOperators

/-- A dense layer before its activation. -/
def lin {n k : ℕ} (w : Fin n → Fin k → EReal) (b : Fin n → EReal) (v : Fin k → EReal) (o : Fin n) : EReal :=
  (∑ j, v j * w o j) + b o

/-- The activation. -/
def relu {n : ℕ} (v : Fin n → EReal) (o : Fin n) : EReal := max (v o) 0

/-- A row times a matrix. -/
def proj {k n : ℕ} (g : Fin k → Fin n → EReal) (v : Fin k → EReal) (o : Fin n) : EReal := ∑ j, v j * g j o

/-- The two mixing weights. -/
def c7 : EReal := Ideal.ofBits .f32 0x3F333333#32
def c3 : EReal := Ideal.ofBits .f32 0x3E99999A#32

/-- A row's softmax. -/
def peak {n : ℕ} (f : Fin n → EReal) : EReal := (Finset.univ : Finset (Fin n)).fold max (FloatOps.ofBits (F := Ideal) .f32 0xFF800000#32) f
def expo {n : ℕ} (f : Fin n → EReal) (o : Fin n) : EReal := Ideal.exp (f o - peak f)
def soft {n : ℕ} (f : Fin n → EReal) (o : Fin n) : EReal := Ideal.div (expo f o) (∑ j, expo f j)

/-- The arguments, by coordinates. -/
structure Net where
  x : Fin 10000 → Fin 3 → Fin 128 → EReal
  adj : Fin 10000 → Fin 10000 → EReal
  cw : Fin 3 → Fin 3 → EReal
  cb : EReal
  dw : Fin 3 → Fin 3 → EReal
  db : Fin 3 → EReal
  w1 : Fin 128 → Fin 128 → EReal
  b1 : Fin 128 → EReal
  w2 : Fin 128 → Fin 128 → EReal
  b2 : Fin 128 → EReal
  w3 : Fin 256 → Fin 128 → EReal
  b3 : Fin 256 → EReal
  wz : Fin 32 → Fin 256 → EReal
  bz : Fin 32 → EReal
  v1 : Fin 256 → Fin 32 → EReal
  a1 : Fin 256 → EReal
  v2 : Fin 128 → Fin 256 → EReal
  a2 : Fin 128 → EReal
  v3 : Fin 128 → Fin 128 → EReal
  a3 : Fin 128 → EReal
  vx : Fin 128 → Fin 128 → EReal
  ax : Fin 128 → EReal
  g1 : Fin 128 → Fin 128 → EReal
  g2 : Fin 128 → Fin 128 → EReal
  g3 : Fin 128 → Fin 256 → EReal
  g4 : Fin 256 → Fin 32 → EReal
  wf : Fin 10 → Fin 32 → EReal
  bf : Fin 10 → EReal

namespace Net

variable (N : Net)

/-- The projected input, the encoder, the code, the decoder and its three planes. -/
def pro (r : Fin 10000) (l : Fin 128) : EReal :=
  conv (N.x r 0) (N.cw 0) l + conv (N.x r 1) (N.cw 1) l + conv (N.x r 2) (N.cw 2) l + N.cb
def h1 (r : Fin 10000) : Fin 128 → EReal := relu (lin N.w1 N.b1 (N.pro r))
def h2 (r : Fin 10000) : Fin 128 → EReal := relu (lin N.w2 N.b2 (N.h1 r))
def h3 (r : Fin 10000) : Fin 256 → EReal := relu (lin N.w3 N.b3 (N.h2 r))
def z (r : Fin 10000) : Fin 32 → EReal := lin N.wz N.bz (N.h3 r)
def d1 (r : Fin 10000) : Fin 256 → EReal := relu (lin N.v1 N.a1 (N.z r))
def d2 (r : Fin 10000) : Fin 128 → EReal := relu (lin N.v2 N.a2 (N.d1 r))
def d3 (r : Fin 10000) : Fin 128 → EReal := relu (lin N.v3 N.a3 (N.d2 r))
def dec (r : Fin 10000) : Fin 128 → EReal := relu (lin N.vx N.ax (N.d3 r))
def xbar (r : Fin 10000) (o : Fin 3) (l : Fin 128) : EReal := conv (N.dec r) (N.dw o) l + N.db o

/-- A graph layer's propagation, its mixture with the encoder's layer, and the next features. -/
def prop {n : ℕ} (s : Fin 10000 → Fin n → EReal) (r : Fin 10000) (o : Fin n) : EReal := ∑ k, N.adj r k * s k o
def mix {n : ℕ} (a h : Fin n → EReal) (o : Fin n) : EReal := c7 * max (a o) 0 + c3 * h o
def s1 (r : Fin 10000) : Fin 128 → EReal := proj N.g1 (N.pro r)
def s2 (r : Fin 10000) : Fin 128 → EReal := proj N.g2 (mix (N.prop N.s1 r) (N.h1 r))
def s3 (r : Fin 10000) : Fin 256 → EReal := proj N.g3 (mix (N.prop N.s2 r) (N.h2 r))
def s4 (r : Fin 10000) : Fin 32 → EReal := proj N.g4 (mix (N.prop N.s3 r) (N.h3 r))
def u (r : Fin 10000) (o : Fin 32) : EReal := c7 * N.prop N.s4 r o + c3 * N.z r o
def logit (r : Fin 10000) : Fin 10 → EReal := lin N.wf N.bf (N.u r)
def predict (r : Fin 10000) : Fin 10 → EReal := soft (N.logit r)

/-- The features the kernel stores in eight bits lie inside its range. -/
structure Ranges : Prop where
  s1 : ∀ r o, InRange (N.s1 r o)
  s2 : ∀ r o, InRange (N.s2 r o)
  s3 : ∀ r o, InRange (N.s3 r o)
  s4 : ∀ r o, InRange (N.s4 r o)

end Net

/-- The arguments as arrays, and the network they make. -/
structure Args where
  a0 : (⟨3, ![10000, 3, 128]⟩ : Shape).Idx → EReal
  a1 : (⟨2, ![10000, 10000]⟩ : Shape).Idx → EReal
  a2 : (⟨3, ![1, 3, 3]⟩ : Shape).Idx → EReal
  a3 : (⟨1, ![1]⟩ : Shape).Idx → EReal
  a4 : (⟨3, ![3, 1, 3]⟩ : Shape).Idx → EReal
  a5 : (⟨1, ![3]⟩ : Shape).Idx → EReal
  a6 : (⟨2, ![128, 128]⟩ : Shape).Idx → EReal
  a7 : (⟨1, ![128]⟩ : Shape).Idx → EReal
  a8 : (⟨2, ![128, 128]⟩ : Shape).Idx → EReal
  a9 : (⟨1, ![128]⟩ : Shape).Idx → EReal
  a10 : (⟨2, ![256, 128]⟩ : Shape).Idx → EReal
  a11 : (⟨1, ![256]⟩ : Shape).Idx → EReal
  a12 : (⟨2, ![32, 256]⟩ : Shape).Idx → EReal
  a13 : (⟨1, ![32]⟩ : Shape).Idx → EReal
  a14 : (⟨2, ![256, 32]⟩ : Shape).Idx → EReal
  a15 : (⟨1, ![256]⟩ : Shape).Idx → EReal
  a16 : (⟨2, ![128, 256]⟩ : Shape).Idx → EReal
  a17 : (⟨1, ![128]⟩ : Shape).Idx → EReal
  a18 : (⟨2, ![128, 128]⟩ : Shape).Idx → EReal
  a19 : (⟨1, ![128]⟩ : Shape).Idx → EReal
  a20 : (⟨2, ![128, 128]⟩ : Shape).Idx → EReal
  a21 : (⟨1, ![128]⟩ : Shape).Idx → EReal
  a22 : (⟨2, ![128, 128]⟩ : Shape).Idx → EReal
  a23 : (⟨2, ![128, 128]⟩ : Shape).Idx → EReal
  a24 : (⟨2, ![128, 256]⟩ : Shape).Idx → EReal
  a25 : (⟨2, ![256, 32]⟩ : Shape).Idx → EReal
  a26 : (⟨2, ![10, 32]⟩ : Shape).Idx → EReal
  a27 : (⟨1, ![10]⟩ : Shape).Idx → EReal

def Args.net (A : Args) : Net where
  x r k l := A.a0 (ix3 r k l)
  adj r k := A.a1 (ix2 r k)
  cw a b := A.a2 (ix3 0 a b)
  cb := A.a3 (ix1 0)
  dw a b := A.a4 (ix3 a 0 b)
  db a := A.a5 (ix1 a)
  w1 o k := A.a6 (ix2 o k)
  b1 o := A.a7 (ix1 o)
  w2 o k := A.a8 (ix2 o k)
  b2 o := A.a9 (ix1 o)
  w3 o k := A.a10 (ix2 o k)
  b3 o := A.a11 (ix1 o)
  wz o k := A.a12 (ix2 o k)
  bz o := A.a13 (ix1 o)
  v1 o k := A.a14 (ix2 o k)
  a1 o := A.a15 (ix1 o)
  v2 o k := A.a16 (ix2 o k)
  a2 o := A.a17 (ix1 o)
  v3 o k := A.a18 (ix2 o k)
  a3 o := A.a19 (ix1 o)
  vx o k := A.a20 (ix2 o k)
  ax o := A.a21 (ix1 o)
  g1 o k := A.a22 (ix2 o k)
  g2 o k := A.a23 (ix2 o k)
  g3 o k := A.a24 (ix2 o k)
  g4 o k := A.a25 (ix2 o k)
  wf o k := A.a26 (ix2 o k)
  bf o := A.a27 (ix1 o)

end Cert.Math

end
-- ==== Proof.Payload.lean ====
/- The bodies' arithmetic, read at an index of the block. -/
module

public import proofs.«01_k».proof.Proof.Net
public import proofs.«01_k».proof.Proof.Region0
public import Idealize.ShloMosaic.Lib.Pipeline.Value
public import Idealize.ShloMosaic.Lib.KernelVsHost
public import Idealize.ShloMosaic.Lib.ValueLayoutCasts

@[expose] public section

set_option maxRecDepth 16384

noncomputable section

namespace Cert.KernelIdeal.Rel

open Cert.KernelIdeal.Gen Cert.Math
open Idealize.ShloMosaic Idealize.ShloMosaic.ValueIdx
open scoped BigOperators

/-! ## The products -/

theorem dot0a (a : FVec Ideal S2048x128 .f32) (b : FVec Ideal S128x128 .f32) (r c) :
    matmul dot_S2048x128_S128x128_S2048x128_1_0_0_1_n_n none a b (constant (F := Ideal) S2048x128 .f32 0x00000000#32) (ix2 r c)
      = ∑ k : Fin 128, a (ix2 r k) * b (ix2 k c) := mm a b r c
theorem dot0b (a : FVec Ideal S2048x128 .f32) (b : FVec Ideal S128x128 .f32) (r c) :
    matmul dot_S2048x128_S128x128_S2048x128_1_1_0_0_n_n none a b (constant (F := Ideal) S2048x128 .f32 0x00000000#32) (ix2 r c)
      = ∑ k : Fin 128, a (ix2 r k) * b (ix2 c k) := mmT a b r c
theorem dot0c (a : FVec Ideal S2048x128 .f32) (b : FVec Ideal S256x128 .f32) (r c) :
    matmul dot_S2048x128_S256x128_S2048x256_1_1_0_0_n_n none a b (constant (F := Ideal) S2048x256 .f32 0x00000000#32) (ix2 r c)
      = ∑ k : Fin 128, a (ix2 r k) * b (ix2 c k) := mmT a b r c
theorem dot0d (a : FVec Ideal S2048x256 .f32) (b : FVec Ideal S32x256 .f32) (r c) :
    matmul dot_S2048x256_S32x256_S2048x32_1_1_0_0_n_n none a b (constant (F := Ideal) S2048x32 .f32 0x00000000#32) (ix2 r c)
      = ∑ k : Fin 256, a (ix2 r k) * b (ix2 c k) := mmT a b r c
theorem dot0e (a : FVec Ideal S2048x32 .f32) (b : FVec Ideal S256x32 .f32) (r c) :
    matmul dot_S2048x32_S256x32_S2048x256_1_1_0_0_n_n none a b (constant (F := Ideal) S2048x256 .f32 0x00000000#32) (ix2 r c)
      = ∑ k : Fin 32, a (ix2 r k) * b (ix2 c k) := mmT a b r c
theorem dot0f (a : FVec Ideal S2048x256 .f32) (b : FVec Ideal S128x256 .f32) (r c) :
    matmul dot_S2048x256_S128x256_S2048x128_1_1_0_0_n_n none a b (constant (F := Ideal) S2048x128 .f32 0x00000000#32) (ix2 r c)
      = ∑ k : Fin 256, a (ix2 r k) * b (ix2 c k) := mmT a b r c
theorem dot1a (a : FVec Ideal S480x10000 .fp8e4m3) (b : FVec Ideal S10000x128 .fp8e4m3) (r c) :
    matmul dot_S480x10000_S10000x128_S480x128_1_0_0_1_n_n none a b (constant (F := Ideal) S480x128 .f32 0x00000000#32) (ix2 r c)
      = ∑ k : Fin 10000, a (ix2 r k) * b (ix2 k c) := mm a b r c
theorem dot1b (a : FVec Ideal S480x128 .f32) (b : FVec Ideal S128x128 .f32) (r c) :
    matmul dot_S480x128_S128x128_S480x128_1_0_0_1_n_n none a b (constant (F := Ideal) S480x128 .f32 0x00000000#32) (ix2 r c)
      = ∑ k : Fin 128, a (ix2 r k) * b (ix2 k c) := mm a b r c
theorem dot2a (a : FVec Ideal S1920x10000 .fp8e4m3) (b : FVec Ideal S10000x128 .fp8e4m3) (r c) :
    matmul dot_S1920x10000_S10000x128_S1920x128_1_0_0_1_n_n none a b (constant (F := Ideal) S1920x128 .f32 0x00000000#32) (ix2 r c)
      = ∑ k : Fin 10000, a (ix2 r k) * b (ix2 k c) := mm a b r c
theorem dot2b (a : FVec Ideal S1920x128 .f32) (b : FVec Ideal S128x256 .f32) (r c) :
    matmul dot_S1920x128_S128x256_S1920x256_1_0_0_1_n_n none a b (constant (F := Ideal) S1920x256 .f32 0x00000000#32) (ix2 r c)
      = ∑ k : Fin 128, a (ix2 r k) * b (ix2 k c) := mm a b r c
theorem dot3a (a : FVec Ideal S1024x10000 .fp8e4m3) (b : FVec Ideal S10000x256 .fp8e4m3) (r c) :
    matmul dot_S1024x10000_S10000x256_S1024x256_1_0_0_1_n_n none a b (constant (F := Ideal) S1024x256 .f32 0x00000000#32) (ix2 r c)
      = ∑ k : Fin 10000, a (ix2 r k) * b (ix2 k c) := mm a b r c
theorem dot3b (a : FVec Ideal S1024x256 .f32) (b : FVec Ideal S256x32 .f32) (r c) :
    matmul dot_S1024x256_S256x32_S1024x32_1_0_0_1_n_n none a b (constant (F := Ideal) S1024x32 .f32 0x00000000#32) (ix2 r c)
      = ∑ k : Fin 256, a (ix2 r k) * b (ix2 k c) := mm a b r c
theorem dot4a (a : FVec Ideal S1920x10000 .fp8e4m3) (b : FVec Ideal S10000x32 .fp8e4m3) (r c) :
    matmul dot_S1920x10000_S10000x32_S1920x32_1_0_0_1_n_n none a b (constant (F := Ideal) S1920x32 .f32 0x00000000#32) (ix2 r c)
      = ∑ k : Fin 10000, a (ix2 r k) * b (ix2 k c) := mm a b r c
theorem dot4b (a : FVec Ideal S1920x32 .f32) (b : FVec Ideal S10x32 .f32) (r c) :
    matmul dot_S1920x32_S10x32_S1920x10_1_1_0_0_n_n none a b (constant (F := Ideal) S1920x10 .f32 0x00000000#32) (ix2 r c)
      = ∑ k : Fin 32, a (ix2 r k) * b (ix2 c k) := mmT a b r c

/-! ## Layout, constants, the bands -/

theorem scalar_word (b : BitVec 32) : (Scalar.ofBits (F := Ideal) .f32 b : EReal) = Ideal.ofBits .f32 b := rfl

theorem cast_self {s : Shape} {α : Type} (v : s.Idx → α) (h : s.ShapeCasts s) (i : s.Idx) : shapeCast s v h i = v i :=
  congrFun (shapeCast_self v h) i

theorem pay2 (i l : Fin 128) : k0_pay2 (ix2 i l) = BitVec.ofNat 32 l.val - BitVec.ofNat 32 i.val := by
  unfold k0_pay2
  show IntOp.subi _ _ = _
  rw [iota_single_apply, iota_single_apply]
  rfl

theorem select_if (c : Prop) [Decidable c] (m : BitVec 32) (i l : Fin 128) (hc : BitVec.ofNat 32 l.val - BitVec.ofNat 32 i.val = m ↔ c) (w : EReal) :
    select (cmpi .eq k0_pay2 (broadcast S128x128 m)) (broadcast S128x128 w) (k0_pay3 (F := Ideal)) (ix2 i l) = if c then w else 0 := by
  have h0 : (k0_pay3 (F := Ideal)) (ix2 i l) = 0 := by
    unfold k0_pay3
    exact (scalar_word _).trans word_zero
  have hm : (cmpi .eq k0_pay2 (broadcast S128x128 m)) (ix2 i l) = BitVec.ofBool (decide c) := by
    show IntOp.cmpi .eq (k0_pay2 (ix2 i l)) m = _
    rw [pay2]
    show BitVec.ofBool (_ == m) = _
    rw [beq_eq_decide, decide_eq_decide.mpr hc]
  rw [select_apply, hm, h0]
  by_cases h : c
  · simp [h, Scalar.select, broadcast_apply]
  · simp [h, Scalar.select]

theorem select_up (i l : Fin 128) (w : EReal) :
    select (cmpi .eq k0_pay2 (broadcast S128x128 1#32)) (broadcast S128x128 w) (k0_pay3 (F := Ideal)) (ix2 i l) = if l.val = i.val + 1 then w else 0 :=
  select_if _ _ i l (ofNat_sub_ofNat_eq_iff (n := 128) (s := 1) l.isLt i.isLt (by norm_num)) w
theorem select_mid (i l : Fin 128) (w : EReal) :
    select (cmpi .eq k0_pay2 (broadcast S128x128 0#32)) (broadcast S128x128 w) (k0_pay3 (F := Ideal)) (ix2 i l) = if l.val = i.val then w else 0 :=
  select_if _ _ i l (ofNat_sub_ofNat_eq_iff (n := 128) (s := 0) l.isLt i.isLt (by norm_num)) w
theorem select_down (i l : Fin 128) (w : EReal) :
    select (cmpi .eq k0_pay2 (broadcast S128x128 4294967295#32)) (broadcast S128x128 w) (k0_pay3 (F := Ideal)) (ix2 i l) = if l.val + 1 = i.val then w else 0 :=
  select_if _ _ i l (by
    have hi := i.isLt
    have hl := l.isLt
    constructor
    · intro h
      have := congrArg BitVec.toNat h
      simp only [BitVec.toNat_sub, BitVec.toNat_ofNat] at this
      omega
    · intro h
      apply BitVec.eq_of_toNat_eq
      simp only [BitVec.toNat_sub, BitVec.toNat_ofNat]
      omega) w

/-! ## The first body -/

theorem pay4 (w0 w1 w2 : EReal) (x : Vec Ideal S2048x128 .f32) (i l) :
    k0_pay4 (F := Ideal) w0 w1 w2 x (ix2 i l) = conv (fun m => x (ix2 i m)) ![w0, w1, w2] l := by
  unfold k0_pay4
  simp only [addf_apply, broadcast_apply, scalar_word, word_zero, dot0a, cast_self, select_up, select_mid, select_down, zero_add]
  exact sum_band _ ![w0, w1, w2] l

theorem pay7 (v : FVec Ideal S2048x128 .f32) (a0 a1 a2 b0 b1 b2 b : EReal) (x1 x2 : Vec Ideal S2048x128 .f32) (i l) :
    k0_pay7 (F := Ideal) k0_pay2 k0_pay3 v a1 a2 k0_pay5 (k0_pay6 a0) x1 b0 b1 b2 x2 b (ix2 i l)
      = v (ix2 i l) + conv (fun m => x1 (ix2 i m)) ![a0, a1, a2] l + conv (fun m => x2 (ix2 i m)) ![b0, b1, b2] l + b := by
  unfold k0_pay7 k0_pay5 k0_pay6
  simp only [addf_apply, broadcast_apply, dot0a, cast_self, select_up, select_mid, select_down]
  rw [← sum_band _ ![a0, a1, a2] l, ← sum_band _ ![b0, b1, b2] l]
  rfl

theorem plane {v : FVec Ideal S2048x128 .f32} (i : Fin 2048) (l : Fin 128) (u : Fin 1) (h) : shapeCast S1x2048x128 v h (ix3 u i l) = v (ix2 i l) :=
  shapeCast_ab_1ab_apply v h u i l

theorem pay14 (v : FVec Ideal S2048x128 .f32) (a0 a1 a2 b : EReal) (u i l) :
    k0_pay14 (F := Ideal) k0_pay2 k0_pay3 v a0 a1 a2 b (ix3 u i l) = conv (fun m => v (ix2 i m)) ![a0, a1, a2] l + b := by
  unfold k0_pay14
  simp only [plane, addf_apply, broadcast_apply, dot0a, select_up, select_mid, select_down]
  rw [← sum_band _ ![a0, a1, a2] l]
  rfl

theorem pay16 (v : FVec Ideal S2048x128 .f32) (a0 a1 a2 b : EReal) (u i l) :
    k0_pay16 (F := Ideal) v (k0_pay15 k0_pay2 k0_pay3 a0 a1 a2) b (ix3 u i l) = conv (fun m => v (ix2 i m)) ![a0, a1, a2] l + b := by
  unfold k0_pay16 k0_pay15
  simp only [plane, addf_apply, broadcast_apply, dot0a, select_up, select_mid, select_down]
  rw [← sum_band _ ![a0, a1, a2] l]
  rfl

theorem pay17 (v : FVec Ideal S2048x128 .f32) (a0 a1 a2 b : EReal) (u i l) :
    k0_pay17 (F := Ideal) k0_pay2 k0_pay3 v a0 a1 a2 b (ix3 u i l) = conv (fun m => v (ix2 i m)) ![a0, a1, a2] l + b := pay14 v a0 a1 a2 b u i l

theorem bias {a b : ℕ} (v : FVec Ideal ⟨2, ![1, b]⟩ .f32) (h) (p : Fin a) (c : Fin b) :
    broadcastTo ⟨2, ![a, b]⟩ v h (ix2 p c) = v (ix2 (0 : Fin 1) c) := broadcastTo_1b_ab_apply v h p c

/-- An argument's block by its coordinates. -/
abbrev cols {a b : ℕ} (v : (⟨2, ![a, b]⟩ : Shape).Idx → EReal) (i : Fin a) (j : Fin b) : EReal := v (ix2 i j)

theorem pay8 (v : FVec Ideal S2048x128 .f32) (w : Vec Ideal S128x128 .f32) (b : Vec Ideal S1x128 .f32) (i o) :
    k0_pay8 (F := Ideal) v w b (ix2 i o) = relu (lin (cols w) (cols b 0) (cols v i)) o := by
  unfold k0_pay8
  simp only [addf_apply, maximumf_apply, broadcast_apply, scalar_word, word_zero, dot0b, bias, cast_self]
  rfl

theorem pay9 (v w b w2 b2) (i o) :
    k0_pay9 (F := Ideal) v w b w2 b2 (ix2 i o) = relu (lin (cols w2) (cols b2 0) (cols (k0_pay8 (F := Ideal) v w b) i)) o := by
  unfold k0_pay9
  simp only [addf_apply, maximumf_apply, broadcast_apply, scalar_word, word_zero, dot0b, bias, cast_self]
  rfl

theorem pay10 (v w b w2 b2 w3 b3) (i o) :
    k0_pay10 (F := Ideal) v w b w2 b2 w3 b3 (ix2 i o) = relu (lin (cols w3) (cols b3 0) (cols (k0_pay9 (F := Ideal) v w b w2 b2) i)) o := by
  unfold k0_pay10
  simp only [addf_apply, maximumf_apply, broadcast_apply, scalar_word, word_zero, dot0c, bias, cast_self]
  rfl

theorem pay11 (v w b w2 b2 w3 b3 wz bz) (i o) :
    k0_pay11 (F := Ideal) v w b w2 b2 w3 b3 wz bz (ix2 i o) = lin (cols wz) (cols bz 0) (cols (k0_pay10 (F := Ideal) v w b w2 b2 w3 b3) i) o := by
  unfold k0_pay11
  simp only [addf_apply, dot0d, bias, cast_self]
  rfl

theorem pay12 (v w b w2 b2 w3 b3 wz bz w4) (i o) :
    k0_pay12 (F := Ideal) v w b w2 b2 w3 b3 wz bz w4 (ix2 i o) = ∑ k, k0_pay11 (F := Ideal) v w b w2 b2 w3 b3 wz bz (ix2 i k) * w4 (ix2 o k) := by
  unfold k0_pay12
  simp only [dot0e]

theorem pay13 (e : FVec Ideal S2048x256 .f32) (b1 w2 b2 w3 b3 wx bx) (i o) :
    k0_pay13 (F := Ideal) e b1 w2 b2 w3 b3 wx bx (ix2 i o)
      = relu (lin (cols wx) (cols bx 0) (relu (lin (cols w3) (cols b3 0) (relu (lin (cols w2) (cols b2 0) (fun j => max (e (ix2 i j) + b1 (ix2 0 j)) 0)))))) o := by
  unfold k0_pay13
  simp only [addf_apply, maximumf_apply, broadcast_apply, scalar_word, word_zero, dot0b, dot0f, bias, cast_self]
  rfl

theorem pay1 (v : FVec Ideal S2048x128 .f32) (g : Vec Ideal S128x128 .f32) (i o) :
    k0_pay1 (F := Ideal) v g (ix2 i o) = clip (proj (cols g) (cols v i) o) := by
  unfold k0_pay1
  simp only [truncf_apply, mulf_apply, maximumf_apply, minimumf_apply, broadcast_apply, scalar_word, word_feat, word_hi, word_lo, dot0a]
  rfl

/-! ## The graph layers' bodies -/

/-- What a layer's product leaves after its rescaling. -/
def acc {n : ℕ} (q : Fin 10000 → EReal) (t : Fin 10000 → Fin n → EReal) (j : Fin n) : EReal :=
  (∑ k : Fin 10000, q k * t k j) * ((1 / 8388608 : ℝ) : EReal)

theorem pay1_1 (a : Vec Ideal S480x10000 .f32) (i l) : k1_pay1 (F := Ideal) a (ix2 i l) = a (ix2 i l) * ((32768 : ℝ) : EReal) := by
  unfold k1_pay1
  simp only [truncf_apply, mulf_apply, broadcast_apply, scalar_word, word_adj]

theorem pay1_2 (a : Vec Ideal S480x10000 .f32) (t : Vec Ideal S10000x128 .fp8e4m3) (h : Vec Ideal S480x128 .f32) (g : Vec Ideal S128x128 .f32) (i o) :
    k1_pay2 (F := Ideal) a t h g (ix2 i o)
      = clip (proj (cols g) (Net.mix (acc (fun k => a (ix2 i k) * ((32768 : ℝ) : EReal)) (cols t)) (cols h i)) o) := by
  unfold k1_pay2
  simp only [truncf_apply, mulf_apply, addf_apply, maximumf_apply, minimumf_apply, broadcast_apply, scalar_word, dot1a, dot1b, pay1_1, cast_self,
    word_acc, word_feat, word_hi, word_lo, word_zero]
  rfl

theorem pay2_1 (q : Vec Ideal S1920x10000 .fp8e4m3) (t : Vec Ideal S10000x128 .fp8e4m3) (h : Vec Ideal S1920x128 .f32) (g : Vec Ideal S128x256 .f32) (i o) :
    k2_pay1 (F := Ideal) q t h g (ix2 i o) = clip (proj (cols g) (Net.mix (acc (cols q i) (cols t)) (cols h i)) o) := by
  unfold k2_pay1
  simp only [truncf_apply, mulf_apply, addf_apply, maximumf_apply, minimumf_apply, broadcast_apply, scalar_word, dot2a, dot2b, cast_self,
    word_acc, word_feat, word_hi, word_lo, word_zero]
  rfl

theorem pay3_1 (q : Vec Ideal S1024x10000 .fp8e4m3) (t : Vec Ideal S10000x256 .fp8e4m3) (h : Vec Ideal S1024x256 .f32) (g : Vec Ideal S256x32 .f32) (i o) :
    k3_pay1 (F := Ideal) q t h g (ix2 i o) = clip (proj (cols g) (Net.mix (acc (cols q i) (cols t)) (cols h i)) o) := by
  unfold k3_pay1
  simp only [truncf_apply, mulf_apply, addf_apply, maximumf_apply, minimumf_apply, broadcast_apply, scalar_word, dot3a, dot3b, cast_self,
    word_acc, word_feat, word_hi, word_lo, word_zero]
  rfl

theorem lift_row {a b : ℕ} (h : (⟨2, ![a, b]⟩ : Shape).Reduces [1] (⟨1, ![a]⟩ : Shape)) (i : Fin a) (k : Fin b) :
    h.lift (ix1 i) k = ix2 i k := by
  funext c
  apply Fin.ext
  fin_cases c <;> rfl

theorem max_row {a b : ℕ} (v : FVec Ideal ⟨2, ![a, b]⟩ .f32) (h) (hφ) (hacc) (i : Fin a) :
    multiReduction .maximumf [1] ⟨1, ![a]⟩ v 0xFF800000#32 h hφ hacc (ix1 i) = peak (fun k => v (ix2 i k)) := by
  rw [Ideal.multiReduction_maximumf_single]
  exact congrArg (Finset.fold max _ · Finset.univ) (funext fun k => congrArg v (lift_row h i k))

theorem add_row {a b : ℕ} (v : FVec Ideal ⟨2, ![a, b]⟩ .f32) (h) (hφ) (hacc) (i : Fin a) :
    multiReduction .add [1] ⟨1, ![a]⟩ v 0x00000000#32 h hφ hacc (ix1 i) = ∑ k : Fin b, v (ix2 i k) := by
  rw [Ideal.multiReduction_add_single]
  exact Finset.sum_congr rfl fun k _ => congrArg v (lift_row h i k)

theorem column {a b : ℕ} (v : FVec Ideal ⟨2, ![a, 1]⟩ .f32) (h) (p : Fin a) (c : Fin b) :
    broadcastTo ⟨2, ![a, b]⟩ v h (ix2 p c) = v (ix2 p 0) := by
  refine broadcastTo_apply v h (ix2 p c) (ix2 p (0 : Fin 1)) fun ax => ?_
  match ax with
  | ⟨0, _⟩ =>
    show p.val = if a = 1 then 0 else p.val
    have := p.isLt
    split_ifs <;> omega
  | ⟨1, _⟩ => rfl

theorem column_of {a : ℕ} (v : FVec Ideal ⟨1, ![a]⟩ .f32) (h) (p : Fin a) (u : Fin 1) :
    shapeCast ⟨2, ![a, 1]⟩ v h (ix2 p u) = v (ix1 p) := shapeCast_a_a1_apply v h p u

theorem max4 (v : FVec Ideal S1920x10 .f32) (h) (hφ) (hacc) (i : Fin 1920) :
    multiReduction .maximumf [1] S1920 v 0xFF800000#32 h hφ hacc (ix1 i) = peak (fun k => v (ix2 i k)) := max_row v h hφ hacc i
theorem add4 (v : FVec Ideal S1920x10 .f32) (h) (hφ) (hacc) (i : Fin 1920) :
    multiReduction .add [1] S1920 v 0x00000000#32 h hφ hacc (ix1 i) = ∑ k : Fin 10, v (ix2 i k) := add_row v h hφ hacc i

theorem exp_at {s : Shape} (v : FVec Ideal s .f32) (i : s.Idx) : exp v i = Ideal.exp (v i) := rfl

theorem soft_block (v : FVec Ideal S1920x10 .f32) (hr hφ hm ha hc hb) (i o) :
    divf (exp (subf v (broadcastTo S1920x10 (shapeCast S1920x1 (multiReduction .maximumf [1] S1920 v 0xFF800000#32 hr hφ hm) hc) hb)))
        (broadcastTo S1920x10 (shapeCast S1920x1 (multiReduction .add [1] S1920
          (exp (subf v (broadcastTo S1920x10 (shapeCast S1920x1 (multiReduction .maximumf [1] S1920 v 0xFF800000#32 hr hφ hm) hc) hb))) 0x00000000#32 hr hφ ha) hc) hb)
        (ix2 i o) = soft (fun k => v (ix2 i k)) o := by
  have he : ∀ k, exp (subf v (broadcastTo S1920x10 (shapeCast S1920x1 (multiReduction .maximumf [1] S1920 v 0xFF800000#32 hr hφ hm) hc) hb)) (ix2 i k)
      = expo (fun k => v (ix2 i k)) k := fun k => by
    rw [exp_at, subf_apply, column, column_of, max4]
    rfl
  rw [divf_apply, column, column_of, add4, he]
  simp only [he]
  rfl

theorem pay4_1 (q : Vec Ideal S1920x10000 .fp8e4m3) (t : Vec Ideal S10000x32 .fp8e4m3) (z : Vec Ideal S1920x32 .f32) (w : Vec Ideal S10x32 .f32)
    (b : Vec Ideal S1x10 .f32) (i o) :
    k4_pay1 (F := Ideal) q t z w b (ix2 i o)
      = soft (lin (cols w) (cols b 0) (fun j => c7 * acc (cols q i) (cols t) j + c3 * z (ix2 i j))) o := by
  unfold k4_pay1
  refine (soft_block _ _ _ _ _ _ _ i o).trans (congrArg (soft · o) (funext fun k => ?_))
  simp only [mulf_apply, addf_apply, broadcast_apply, scalar_word, dot4a, dot4b, bias, cast_self, word_acc]
  rfl

end Cert.KernelIdeal.Rel

end
-- ==== Proof.Rows.lean ====
/- The first body's blocks as rows of the network: what each output block holds where its inputs hold a row of the arguments. -/
module

public import proofs.«01_k».proof.Proof.Payload

@[expose] public section

set_option maxRecDepth 16384

noncomputable section

namespace Cert.KernelIdeal.Rel

open Cert.KernelIdeal.Gen Cert.Math
open Idealize.ShloMosaic Idealize.ShloMosaic.ValueIdx
open scoped BigOperators

/-! ## Blocks read and written whole -/

theorem zero2 : (![0, 0] : Fin 2 → ℕ) = fun _ => 0 := by
  funext a
  fin_cases a <;> rfl

theorem ld_2048x128 (X : Vec Ideal S2048x128 .f32) : View.ld X qS2048x128 = X := View.ld_unit_zero (S := S2048x128) zero2 inb_S2048x128_S2048x128_0_0 X
theorem ld_128x128 (X : Vec Ideal S128x128 .f32) : View.ld X qS128x128 = X := View.ld_unit_zero (S := S128x128) zero2 inb_S128x128_S128x128_0_0 X
theorem ld_1x128 (X : Vec Ideal S1x128 .f32) : View.ld X qS1x128 = X := View.ld_unit_zero (S := S1x128) zero2 inb_S1x128_S1x128_0_0 X
theorem ld_256x128 (X : Vec Ideal S256x128 .f32) : View.ld X qS256x128 = X := View.ld_unit_zero (S := S256x128) zero2 inb_S256x128_S256x128_0_0 X
theorem ld_1x256 (X : Vec Ideal S1x256 .f32) : View.ld X qS1x256 = X := View.ld_unit_zero (S := S1x256) zero2 inb_S1x256_S1x256_0_0 X
theorem ld_32x256 (X : Vec Ideal S32x256 .f32) : View.ld X qS32x256 = X := View.ld_unit_zero (S := S32x256) zero2 inb_S32x256_S32x256_0_0 X
theorem ld_1x32 (X : Vec Ideal S1x32 .f32) : View.ld X qS1x32 = X := View.ld_unit_zero (S := S1x32) zero2 inb_S1x32_S1x32_0_0 X
theorem ld_256x32 (X : Vec Ideal S256x32 .f32) : View.ld X qS256x32 = X := View.ld_unit_zero (S := S256x32) zero2 inb_S256x32_S256x32_0_0 X
theorem ld_128x256 (X : Vec Ideal S128x256 .f32) : View.ld X qS128x256 = X := View.ld_unit_zero (S := S128x256) zero2 inb_S128x256_S128x256_0_0 X

theorem canon_whole {s : Shape} {e : EltTy} {off : Fin s.rank → ℕ} (h : off = fun _ => 0) (inb : ∀ a, off a + s.size a ≤ s.size a) (v : Vec Ideal s e) :
    View.canon (Val := Elt Ideal) (s := s) [⟨Rect.unit off s.size inb, v⟩] = v := by
  subst h
  funext y
  have e1 : (Rect.unit (s := s) (fun _ => 0) s.size inb).emb y = y := by
    funext a
    apply Fin.ext
    show 0 + 1 * (y a).val = (y a).val
    omega
  have e2 := View.canon_cons_emb (Val := Elt Ideal) (Rect.unit (s := s) (fun _ => 0) s.size inb) v [] y
  rw [e1] at e2
  exact e2

theorem slice_at (G : Fin 3 → Vec Ideal S1x2048x128 .f32) (o : Fin 3) (inb) (y : S1x2048x128.Idx) :
    G o y = (fun y : S3x2048x128.Idx => G (y 0) (ix3 0 (y 1) (y 2)))
      ((Rect.unit (s := S3x2048x128) ![o.val, 0, 0] S1x2048x128.size inb).emb y) := by
  have h0 : (y 0).val = 0 := by
    have : (y 0).val < 1 := (y 0).isLt
    omega
  have e0 : ((Rect.unit (s := S3x2048x128) ![o.val, 0, 0] S1x2048x128.size inb).emb y) 0 = o :=
    Fin.ext (by show o.val + 1 * (y 0).val = o.val; omega)
  have e1 : ((Rect.unit (s := S3x2048x128) ![o.val, 0, 0] S1x2048x128.size inb).emb y) 1 = y 1 :=
    Fin.ext (by show 0 + 1 * (y 1).val = (y 1).val; omega)
  have e2 : ((Rect.unit (s := S3x2048x128) ![o.val, 0, 0] S1x2048x128.size inb).emb y) 2 = y 2 :=
    Fin.ext (by show 0 + 1 * (y 2).val = (y 2).val; omega)
  have e : y = ix3 0 (y 1) (y 2) := by
    rw [eq_ix3 y]
    congr 1
    exact Fin.ext h0
  exact (congrArg (G o) e).trans (congr (congrArg G e0.symm) (congr (congrArg (ix3 0) e1.symm) e2.symm))

theorem slices (x : In0 Ideal) (o : Fin 3) (i l) : x.out30 (ix3 o i l) = (![x.xb0, x.xb1, x.xb2] o) (ix3 0 i l) := by
  unfold In0.out30
  refine View.canon_apply_of_pieces (Val := Elt Ideal) (S := S3x2048x128) (fun y => (![x.xb0, x.xb1, x.xb2] (y 0)) (ix3 0 (y 1) (y 2))) _ ?_ _ (cover0e _ _ _ _)
  intro p hp
  simp only [List.mem_cons, List.not_mem_nil, or_false] at hp
  rcases hp with rfl | rfl | rfl
  · exact slice_at ![x.xb0, x.xb1, x.xb2] 2 inb_S3x2048x128_S1x2048x128_2_0_0
  · exact slice_at ![x.xb0, x.xb1, x.xb2] 1 inb_S3x2048x128_S1x2048x128_1_0_0
  · exact slice_at ![x.xb0, x.xb1, x.xb2] 0 inb_S3x2048x128_S1x2048x128_0_0_0

theorem word_at {S : Shape} (X : S.Idx → Elt Ideal .f32) (r : Rect S) (h1) (j : S.Idx) (h : ∀ a, r.off a = (j a).val) : word X r h1 = X j :=
  congrArg X (funext fun a => Fin.ext (by
    show r.off a + r.stride a * 0 = _
    rw [h, Nat.mul_zero, Nat.add_zero]))

/-- The blocks hold the network's weights, and row `r` of the planes in their row `i`. -/
structure Fits (x : In0 Ideal) (N : Net) (i : Fin 2048) (r : Fin 10000) : Prop where
  x0 : ∀ m, x.x0 (ix2 i m) = N.x r 0 m
  x1 : ∀ m, x.x1 (ix2 i m) = N.x r 1 m
  x2 : ∀ m, x.x2 (ix2 i m) = N.x r 2 m
  cw : ∀ a b, x.x3 (ix3 0 a b) = N.cw a b
  cb : x.x4 (ix1 0) = N.cb
  dw : ∀ a b, x.x5 (ix3 a 0 b) = N.dw a b
  db : ∀ a, x.x6 (ix1 a) = N.db a
  w1 : cols x.x7 = N.w1
  b1 : cols x.x8 0 = N.b1
  w2 : cols x.x9 = N.w2
  b2 : cols x.x10 0 = N.b2
  w3 : cols x.x11 = N.w3
  b3 : cols x.x12 0 = N.b3
  wz : cols x.x13 = N.wz
  bz : cols x.x14 0 = N.bz
  v1 : cols x.x15 = N.v1
  a1 : cols x.x16 0 = N.a1
  v2 : cols x.x17 = N.v2
  a2 : cols x.x18 0 = N.a2
  v3 : cols x.x19 = N.v3
  a3 : cols x.x20 0 = N.a3
  vx : cols x.x21 = N.vx
  ax : cols x.x22 0 = N.ax
  g1 : cols x.x23 = N.g1

namespace Fits

variable {x : In0 Ideal} {N : Net} {i : Fin 2048} {r : Fin 10000} (h : Fits x N i r)
include h

theorem cw00 : x.cw00 = N.cw 0 0 := (word_at _ _ _ (ix3 0 0 0) (by decide)).trans (h.cw 0 0)
theorem cw01 : x.cw01 = N.cw 0 1 := (word_at _ _ _ (ix3 0 0 1) (by decide)).trans (h.cw 0 1)
theorem cw02 : x.cw02 = N.cw 0 2 := (word_at _ _ _ (ix3 0 0 2) (by decide)).trans (h.cw 0 2)
theorem cw10 : x.cw10 = N.cw 1 0 := (word_at _ _ _ (ix3 0 1 0) (by decide)).trans (h.cw 1 0)
theorem cw11 : x.cw11 = N.cw 1 1 := (word_at _ _ _ (ix3 0 1 1) (by decide)).trans (h.cw 1 1)
theorem cw12 : x.cw12 = N.cw 1 2 := (word_at _ _ _ (ix3 0 1 2) (by decide)).trans (h.cw 1 2)
theorem cw20 : x.cw20 = N.cw 2 0 := (word_at _ _ _ (ix3 0 2 0) (by decide)).trans (h.cw 2 0)
theorem cw21 : x.cw21 = N.cw 2 1 := (word_at _ _ _ (ix3 0 2 1) (by decide)).trans (h.cw 2 1)
theorem cw22 : x.cw22 = N.cw 2 2 := (word_at _ _ _ (ix3 0 2 2) (by decide)).trans (h.cw 2 2)
theorem dw00 : x.dw00 = N.dw 0 0 := (word_at _ _ _ (ix3 0 0 0) (by decide)).trans (h.dw 0 0)
theorem dw01 : x.dw01 = N.dw 0 1 := (word_at _ _ _ (ix3 0 0 1) (by decide)).trans (h.dw 0 1)
theorem dw02 : x.dw02 = N.dw 0 2 := (word_at _ _ _ (ix3 0 0 2) (by decide)).trans (h.dw 0 2)
theorem dw10 : x.dw10 = N.dw 1 0 := (word_at _ _ _ (ix3 1 0 0) (by decide)).trans (h.dw 1 0)
theorem dw11 : x.dw11 = N.dw 1 1 := (word_at _ _ _ (ix3 1 0 1) (by decide)).trans (h.dw 1 1)
theorem dw12 : x.dw12 = N.dw 1 2 := (word_at _ _ _ (ix3 1 0 2) (by decide)).trans (h.dw 1 2)
theorem dw20 : x.dw20 = N.dw 2 0 := (word_at _ _ _ (ix3 2 0 0) (by decide)).trans (h.dw 2 0)
theorem dw21 : x.dw21 = N.dw 2 1 := (word_at _ _ _ (ix3 2 0 1) (by decide)).trans (h.dw 2 1)
theorem dw22 : x.dw22 = N.dw 2 2 := (word_at _ _ _ (ix3 2 0 2) (by decide)).trans (h.dw 2 2)
theorem cb0 : x.cb = N.cb := (word_at _ _ _ (ix1 0) (by decide)).trans h.cb
theorem db0 : x.db0 = N.db 0 := (word_at _ _ _ (ix1 0) (by decide)).trans (h.db 0)
theorem db1 : x.db1 = N.db 1 := (word_at _ _ _ (ix1 1) (by decide)).trans (h.db 1)
theorem db2 : x.db2 = N.db 2 := (word_at _ _ _ (ix1 2) (by decide)).trans (h.db 2)

omit h in
theorem pro_eq : x.pro = k0_pay7 (F := Ideal) k0_pay2 k0_pay3 (k0_pay4 (F := Ideal) x.cw00 x.cw01 x.cw02 x.x0) x.cw11 x.cw12 k0_pay5 (k0_pay6 (F := Ideal) x.cw10) x.x1
    x.cw20 x.cw21 x.cw22 x.x2 x.cb := by
  unfold In0.pro
  simp only [ld_2048x128]

theorem pro (l) : x.pro (ix2 i l) = N.pro r l := by
  rw [pro_eq, pay7, pay4, h.cw00, h.cw01, h.cw02, h.cw10, h.cw11, h.cw12, h.cw20, h.cw21, h.cw22, h.cb0]
  simp only [h.x0, h.x1, h.x2]
  rfl

theorem l1 (l) : k0_pay8 (F := Ideal) x.pro x.x7 x.x8 (ix2 i l) = N.h1 r l := by
  rw [pay8, h.w1, h.b1, show cols x.pro i = N.pro r from funext h.pro]
  rfl

theorem l2 (l) : k0_pay9 (F := Ideal) x.pro x.x7 x.x8 x.x9 x.x10 (ix2 i l) = N.h2 r l := by
  rw [pay9, h.w2, h.b2, show cols (k0_pay8 (F := Ideal) x.pro x.x7 x.x8) i = N.h1 r from funext h.l1]
  rfl

theorem l3 (l) : k0_pay10 (F := Ideal) x.pro x.x7 x.x8 x.x9 x.x10 x.x11 x.x12 (ix2 i l) = N.h3 r l := by
  rw [pay10, h.w3, h.b3, show cols (k0_pay9 (F := Ideal) x.pro x.x7 x.x8 x.x9 x.x10) i = N.h2 r from funext h.l2]
  rfl

theorem l4 (l) : k0_pay11 (F := Ideal) x.pro x.x7 x.x8 x.x9 x.x10 x.x11 x.x12 x.x13 x.x14 (ix2 i l) = N.z r l := by
  rw [pay11, h.wz, h.bz, show cols (k0_pay10 (F := Ideal) x.pro x.x7 x.x8 x.x9 x.x10 x.x11 x.x12) i = N.h3 r from funext h.l3]
  rfl

theorem l5 (l) : max (k0_pay12 (F := Ideal) x.pro x.x7 x.x8 x.x9 x.x10 x.x11 x.x12 x.x13 x.x14 x.x15 (ix2 i l) + x.x16 (ix2 0 l)) 0 = N.d1 r l := by
  rw [pay12]
  have hw : ∀ k, x.x15 (ix2 l k) = N.v1 l k := fun k => congrFun (congrFun h.v1 l) k
  have hb : x.x16 (ix2 0 l) = N.a1 l := congrFun h.a1 l
  simp only [h.l4, hw, hb]
  rfl

omit h in
theorem h1_eq : x.h1 = k0_pay8 (F := Ideal) x.pro x.x7 x.x8 := by
  unfold In0.h1
  simp only [ld_2048x128, ld_128x128, ld_1x128, ld_256x128, ld_1x256, ld_32x256, ld_1x32, ld_256x32, ld_128x256]
omit h in
theorem h2_eq : x.h2 = k0_pay9 (F := Ideal) x.pro x.x7 x.x8 x.x9 x.x10 := by
  unfold In0.h2
  simp only [ld_2048x128, ld_128x128, ld_1x128, ld_256x128, ld_1x256, ld_32x256, ld_1x32, ld_256x32, ld_128x256]
omit h in
theorem h3_eq : x.h3 = k0_pay10 (F := Ideal) x.pro x.x7 x.x8 x.x9 x.x10 x.x11 x.x12 := by
  unfold In0.h3
  simp only [ld_2048x128, ld_128x128, ld_1x128, ld_256x128, ld_1x256, ld_32x256, ld_1x32, ld_256x32, ld_128x256]
omit h in
theorem z_eq : x.z = k0_pay11 (F := Ideal) x.pro x.x7 x.x8 x.x9 x.x10 x.x11 x.x12 x.x13 x.x14 := by
  unfold In0.z
  simp only [ld_2048x128, ld_128x128, ld_1x128, ld_256x128, ld_1x256, ld_32x256, ld_1x32, ld_256x32, ld_128x256]
omit h in
theorem e1_eq : x.e1 = k0_pay12 (F := Ideal) x.pro x.x7 x.x8 x.x9 x.x10 x.x11 x.x12 x.x13 x.x14 x.x15 := by
  unfold In0.e1
  simp only [ld_2048x128, ld_128x128, ld_1x128, ld_256x128, ld_1x256, ld_32x256, ld_1x32, ld_256x32, ld_128x256]
omit h in
theorem dec_eq : x.dec = k0_pay13 (F := Ideal) x.e1 x.x16 x.x17 x.x18 x.x19 x.x20 x.x21 x.x22 := by
  unfold In0.dec
  simp only [ld_2048x128, ld_128x128, ld_1x128, ld_256x128, ld_1x256, ld_32x256, ld_1x32, ld_256x32, ld_128x256]
omit h in
theorem t1_eq : x.t1 = k0_pay1 (F := Ideal) x.pro x.x23 := by
  unfold In0.t1
  simp only [ld_2048x128, ld_128x128, ld_1x128, ld_256x128, ld_1x256, ld_32x256, ld_1x32, ld_256x32, ld_128x256]

theorem h1 (l) : x.h1 (ix2 i l) = N.h1 r l := (congrFun h1_eq _).trans (h.l1 l)
theorem h2 (l) : x.h2 (ix2 i l) = N.h2 r l := (congrFun h2_eq _).trans (h.l2 l)
theorem h3 (l) : x.h3 (ix2 i l) = N.h3 r l := (congrFun h3_eq _).trans (h.l3 l)
theorem z (l) : x.z (ix2 i l) = N.z r l := (congrFun z_eq _).trans (h.l4 l)

theorem dec (l) : x.dec (ix2 i l) = N.dec r l := by
  rw [dec_eq, e1_eq, pay13, show (fun j => max (k0_pay12 (F := Ideal) x.pro x.x7 x.x8 x.x9 x.x10 x.x11 x.x12 x.x13 x.x14 x.x15 (ix2 i j) + x.x16 (ix2 0 j)) 0) = N.d1 r
    from funext h.l5, h.v2, h.a2, h.v3, h.a3, h.vx, h.ax]
  rfl

theorem t1 (l) : x.t1 (ix2 i l) = clip (N.s1 r l) := by
  rw [t1_eq, pay1, h.g1, show cols x.pro i = N.pro r from funext h.pro]
  rfl

theorem xb0 (l) (u) : x.xb0 (ix3 u i l) = N.xbar r 0 l := by
  unfold In0.xb0
  rw [pay14, h.dw00, h.dw01, h.dw02, h.db0]
  simp only [h.dec]
  rfl
theorem xb1 (l) (u) : x.xb1 (ix3 u i l) = N.xbar r 1 l := by
  unfold In0.xb1
  rw [pay16, h.dw10, h.dw11, h.dw12, h.db1]
  simp only [h.dec]
  rfl
theorem xb2 (l) (u) : x.xb2 (ix3 u i l) = N.xbar r 2 l := by
  unfold In0.xb2
  rw [pay17, h.dw20, h.dw21, h.dw22, h.db2]
  simp only [h.dec]
  rfl

theorem out24 (l) : x.out24 (ix2 i l) = N.pro r l := (congrFun (canon_whole zero2 _ _) _).trans (h.pro l)
theorem out25 (l) : x.out25 (ix2 i l) = N.h1 r l := (congrFun (canon_whole zero2 _ _) _).trans (h.h1 l)
theorem out26 (l) : x.out26 (ix2 i l) = N.h2 r l := (congrFun (canon_whole zero2 _ _) _).trans (h.h2 l)
theorem out27 (l) : x.out27 (ix2 i l) = N.h3 r l := (congrFun (canon_whole zero2 _ _) _).trans (h.h3 l)
theorem out28 (l) : x.out28 (ix2 i l) = N.z r l := (congrFun (canon_whole zero2 _ _) _).trans (h.z l)
theorem out29 (l) : x.out29 (ix2 i l) = clip (N.s1 r l) := (congrFun (canon_whole zero2 _ _) _).trans (h.t1 l)

theorem out30 (o : Fin 3) (l) : x.out30 (ix3 o i l) = N.xbar r o l := by
  rw [slices]
  fin_cases o
  · exact h.xb0 l 0
  · exact h.xb1 l 0
  · exact h.xb2 l 0

end Fits

end Cert.KernelIdeal.Rel

end
-- ==== Proof.Blocks.lean ====
/- Reading a call's blocks: an input block at an index inside the array is the array there, an output array is its blocks. -/
module

public import proofs.«01_k».proof.Proof.Args
public import proofs.«01_k».proof.Proof.Rows
public import Idealize.ShloMosaic.Lib.Pipeline.ValueKit.Geometry
public import Idealize.ShloMosaic.Lib.ValueIdx
public import Idealize.ShloMosaic.PureOps.Ideal

@[expose] public section

set_option maxRecDepth 16384

noncomputable section

namespace Idealize.ShloMosaic.Pipeline.Window

variable {sig : RefSig} {G : Grid} (w : Window sig G) {Val : EltTy → Type}

/-- A fetched block, filled up with anything, at an index that lies inside the array. -/
theorem fill_at (t : Fin G.N) (d : w.block.Idx → Val w.elt) (X : w.arr.view.ty.Contents Val)
    (j : w.block.Idx) (i : w.shape.Idx) (hi : ∀ a, (i a).val = w.kind.off (w.index t a) (w.size a) + (j a).val) :
    w.fill (G.coords t) d ((w.blk t).view.read Val X) j = w.arr.view.read Val X i := by
  have hj : ∀ a, (j a).val < w.xsize (G.coords t) a := fun a => by
    have h1 := w.hclip (G.coords t) a
    have h2 := (i a).isLt
    have h3 := hi a
    have h4 : (j a).val < w.size a := (j a).isLt
    change (i a).val = w.kind.off (w.indexMap (G.coords t) a) (w.size a) + (j a).val at h3
    show (j a).val < (w.clip (G.coords t) a).extent (w.size a)
    cases hc : w.clip (G.coords t) a with
    | none => exact h4
    | some n => rw [hc] at h1; unfold Clip.OkAt at h1; show (j a).val < n; omega
  have : j = w.xinj (G.coords t) (fun a => ⟨(j a).val, hj a⟩) := rfl
  rw [this, w.fill_xinj]
  show w.arr.view.read Val X ((w.rect t).emb fun a => ⟨(j a).val, hj a⟩) = w.arr.view.read Val X i
  congr 1
  funext a
  apply Fin.ext
  rw [hi a, Rect.emb_apply]
  show w.kind.off (w.index t a) (w.size a) + 1 * (j a).val = _
  omega

/-- A block at an index, without the fill: the array at the index the block places it at. -/
theorem read_at (t : Fin G.N) (X : w.arr.view.ty.Contents Val) (j : (w.xblock (G.coords t)).Idx) (i : w.shape.Idx)
    (hi : ∀ a, (i a).val = w.kind.off (w.index t a) (w.size a) + (j a).val) :
    (w.blk t).view.read Val X j = w.arr.view.read Val X i := by
  show w.arr.view.read Val X ((w.rect t).emb j) = w.arr.view.read Val X i
  congr 1
  funext a
  apply Fin.ext
  rw [hi a, Rect.emb_apply]
  show w.kind.off (w.index t a) (w.size a) + 1 * (j a).val = _
  omega

end Idealize.ShloMosaic.Pipeline.Window

namespace Cert.Rel.Region

open Idealize.ShloMosaic Idealize.ShloMosaic.TcCoe Idealize.ShloMosaic.Pipeline
open Idealize.SL.Sem

variable {nD : Nat} {τ : Topo} {sig : RefSig} {Val : EltTy → Type} [∀ e, Nonempty (Val e)]
variable {Λ₀ : Idealize.SL.Sem.Labels} {P : Type} [Fintype P] [DecidableEq P]
variable {pcs : P → PCfg sig Λ₀ Val} {a : (p : P) → (pcs p).Adm} {defs₀ : Defs nD τ sig Val Λ₀}
variable {p : P} {R : Region pcs a defs₀ p} {c : Dev nD} {W W' : Valuation τ sig Val}

/-- An array written by a region whose blocks cover it is `X`, where every block the body may leave agrees with `X`. -/
theorem Step.arr_eq (h : R.Step c W W') (w : Fin (pin pcs a p).W) (hf : R.fgt w = true) (hcov : ((pin pcs a p).win w).Covers)
    (X : Buf Val (((pin pcs a p).win w).arr.view.loc (c.tc : Thread nD τ)))
    (hX : ∀ t Y, R.Rl c W w t Y → ∀ (j : ((pin pcs a p).win w).block.Idx) (i : ((pin pcs a p).win w).shape.Idx),
      (∀ b, (i b).val = ((pin pcs a p).win w).kind.off (((pin pcs a p).win w).index t b) (((pin pcs a p).win w).size b) + (j b).val) →
      cast (congrArg Val ((pin pcs a p).win w).arr.view.elt_eq.symm) (Y j) = X (((pin pcs a p).win w).arr.view.emb i)) :
    W' (Proc.devRef .tc (arrRef (pin pcs a p).spec w)) = X := by
  obtain ⟨after, ha, he⟩ := h.arr
  refine (he w).trans ?_
  refine Dat.arrAt_eq_of_covers _ w X hcov (fun t hfl y => ?_) (R.arr_whole w)
  refine hX t _ (ha w t hf hfl) _ ((((pin pcs a p).win w).rect t).emb y) fun b => ?_
  rw [Rect.emb_apply]
  show _ + 1 * (y b).val = _ + (y b).val
  rw [Nat.one_mul]
  rfl

end Cert.Rel.Region

namespace Cert.KernelIdeal.Rel

open Cert.KernelIdeal.Gen Cert.Math
open Idealize.ShloMosaic Idealize.ShloMosaic.TcCoe Idealize.ShloMosaic.ValueIdx
open Idealize.ShloMosaic.Pipeline (Dat RDat Cfg Window cellOf)

/-- An array by its coordinates. -/
def mat {a b : ℕ} (f : Fin a → Fin b → EReal) : (⟨2, ![a, b]⟩ : Shape).Idx → EReal := fun i => f (i 0) (i 1)

theorem cols_mat {a b : ℕ} (f : Fin a → Fin b → EReal) : cols (mat f) = f := rfl

/-- Where a block begins along axis `a`: at `n` along its row axis, at the array's start along the others. -/
def shift (ax n a : ℕ) : ℕ := if a = ax then n else 0

/-- The row axis of each window (9: the window is its whole array). -/
def axes0 (w : Fin cfg0.W) : ℕ := if w.val = 30 then 1 else if w.val < 3 ∨ 24 ≤ w.val then 0 else 9
def axes1 (w : Fin cfg1.W) : ℕ := if w.val = 1 ∨ w.val = 3 then 9 else 0
def axes2 (w : Fin cfg2.W) : ℕ := if w.val = 1 ∨ w.val = 3 then 9 else 0
def axes3 (w : Fin cfg3.W) : ℕ := if w.val = 1 ∨ w.val = 3 then 9 else 0
def axes4 (w : Fin cfg4.W) : ℕ := if w.val = 1 ∨ w.val = 3 ∨ w.val = 4 then 9 else 0

theorem off0 : ∀ (w : Fin cfg0.W) (t : Fin cfg0.N) a,
    (cfg0.win w).kind.off ((cfg0.win w).index t a) ((cfg0.win w).size a) = shift (axes0 w) (t.val * 2048) a.val := by decide +kernel
theorem off1 : ∀ (w : Fin cfg1.W) (t : Fin cfg1.N) a,
    (cfg1.win w).kind.off ((cfg1.win w).index t a) ((cfg1.win w).size a) = shift (axes1 w) (t.val * 480) a.val := by decide +kernel
theorem off2 : ∀ (w : Fin cfg2.W) (t : Fin cfg2.N) a,
    (cfg2.win w).kind.off ((cfg2.win w).index t a) ((cfg2.win w).size a) = shift (axes2 w) (t.val * 1920) a.val := by decide +kernel
theorem off3 : ∀ (w : Fin cfg3.W) (t : Fin cfg3.N) a,
    (cfg3.win w).kind.off ((cfg3.win w).index t a) ((cfg3.win w).size a) = shift (axes3 w) (t.val * 1024) a.val := by decide +kernel
theorem off4 : ∀ (w : Fin cfg4.W) (t : Fin cfg4.N) a,
    (cfg4.win w).kind.off ((cfg4.win w).index t a) ((cfg4.win w).size a) = shift (axes4 w) (t.val * 1920) a.val := by decide +kernel

/-- A rank-two index with its row moved by `n`, and one not moved. -/
theorem at_row {a b a' : ℕ} {i : (⟨2, ![a, b]⟩ : Shape).Idx} {j : (⟨2, ![a', b]⟩ : Shape).Idx} {n : ℕ}
    (h0 : (i 0).val = n + (j 0).val) (h1 : (i 1).val = (j 1).val) (x : Fin 2) : (i x).val = shift 0 n x.val + (j x).val := by
  match x with
  | ⟨0, _⟩ => exact h0
  | ⟨1, _⟩ => exact h1.trans (Nat.zero_add _).symm
theorem of_row {a b a' : ℕ} {i : (⟨2, ![a, b]⟩ : Shape).Idx} {j : (⟨2, ![a', b]⟩ : Shape).Idx} {n : ℕ}
    (h : ∀ x : Fin 2, (i x).val = shift 0 n x.val + (j x).val) : (i 0).val = n + (j 0).val ∧ i 1 = j 1 :=
  ⟨h 0, Fin.ext ((h 1).trans (Nat.zero_add _))⟩

section
variable {c : Dev nD} {W W' : Valuation τ sig (Elt Ideal)}

theorem fblk0_at (w) (t : Fin cfg0.N) (d) (j : (cfg0.win w).block.Idx) (i : (cfg0.win w).shape.Idx)
    (hi : ∀ a, (i a).val = shift (axes0 w) (t.val * 2048) a.val + (j a).val) :
    fblk0 c W w t d j = (cfg0.win w).arr.view.read (Elt Ideal) (W (Proc.devRef .tc (Pipeline.arrRef spec0 w))) i :=
  Window.fill_at (cfg0.win w) t d _ j i fun a => by rw [off0]; exact hi a
theorem fblk1_at (w) (t : Fin cfg1.N) (d) (j : (cfg1.win w).block.Idx) (i : (cfg1.win w).shape.Idx)
    (hi : ∀ a, (i a).val = shift (axes1 w) (t.val * 480) a.val + (j a).val) :
    fblk1 c W w t d j = (cfg1.win w).arr.view.read (Elt Ideal) (W (Proc.devRef .tc (Pipeline.arrRef spec1 w))) i :=
  Window.fill_at (cfg1.win w) t d _ j i fun a => by rw [off1]; exact hi a
theorem fblk2_at (w) (t : Fin cfg2.N) (d) (j : (cfg2.win w).block.Idx) (i : (cfg2.win w).shape.Idx)
    (hi : ∀ a, (i a).val = shift (axes2 w) (t.val * 1920) a.val + (j a).val) :
    fblk2 c W w t d j = (cfg2.win w).arr.view.read (Elt Ideal) (W (Proc.devRef .tc (Pipeline.arrRef spec2 w))) i :=
  Window.fill_at (cfg2.win w) t d _ j i fun a => by rw [off2]; exact hi a
theorem fblk3_at (w) (t : Fin cfg3.N) (d) (j : (cfg3.win w).block.Idx) (i : (cfg3.win w).shape.Idx)
    (hi : ∀ a, (i a).val = shift (axes3 w) (t.val * 1024) a.val + (j a).val) :
    fblk3 c W w t d j = (cfg3.win w).arr.view.read (Elt Ideal) (W (Proc.devRef .tc (Pipeline.arrRef spec3 w))) i :=
  Window.fill_at (cfg3.win w) t d _ j i fun a => by rw [off3]; exact hi a
theorem fblk4_at (w) (t : Fin cfg4.N) (d) (j : (cfg4.win w).block.Idx) (i : (cfg4.win w).shape.Idx)
    (hi : ∀ a, (i a).val = shift (axes4 w) (t.val * 1920) a.val + (j a).val) :
    fblk4 c W w t d j = (cfg4.win w).arr.view.read (Elt Ideal) (W (Proc.devRef .tc (Pipeline.arrRef spec4 w))) i :=
  Window.fill_at (cfg4.win w) t d _ j i fun a => by rw [off4]; exact hi a

theorem zero_shift {n a x y : ℕ} (hne : a ≠ 9) (h : x = y) : x = shift 9 n a + y := by
  unfold shift
  rw [if_neg hne, Nat.zero_add]
  exact h

/-- A window that is its whole array reads the array. -/
theorem iblk0_at (w) (hw : axes0 w = 9) (t : Fin cfg0.N) (j : ((cfg0.win w).xblock (cfg0.grid.coords t)).Idx) (i : (cfg0.win w).shape.Idx)
    (hi : ∀ a, (i a).val = (j a).val) (hr : ∀ a : Fin (cfg0.win w).shape.rank, a.val ≠ 9) :
    iblk0 c W w t j = (cfg0.win w).arr.view.read (Elt Ideal) (W (Proc.devRef .tc (Pipeline.arrRef spec0 w))) i :=
  Window.read_at (cfg0.win w) t _ j i fun a => by rw [off0, hw]; exact zero_shift (hr a) (hi a)
theorem iblk1_at (w) (hw : axes1 w = 9) (t : Fin cfg1.N) (j : ((cfg1.win w).xblock (cfg1.grid.coords t)).Idx) (i : (cfg1.win w).shape.Idx)
    (hi : ∀ a, (i a).val = (j a).val) (hr : ∀ a : Fin (cfg1.win w).shape.rank, a.val ≠ 9) :
    iblk1 c W w t j = (cfg1.win w).arr.view.read (Elt Ideal) (W (Proc.devRef .tc (Pipeline.arrRef spec1 w))) i :=
  Window.read_at (cfg1.win w) t _ j i fun a => by rw [off1, hw]; exact zero_shift (hr a) (hi a)
theorem iblk2_at (w) (hw : axes2 w = 9) (t : Fin cfg2.N) (j : ((cfg2.win w).xblock (cfg2.grid.coords t)).Idx) (i : (cfg2.win w).shape.Idx)
    (hi : ∀ a, (i a).val = (j a).val) (hr : ∀ a : Fin (cfg2.win w).shape.rank, a.val ≠ 9) :
    iblk2 c W w t j = (cfg2.win w).arr.view.read (Elt Ideal) (W (Proc.devRef .tc (Pipeline.arrRef spec2 w))) i :=
  Window.read_at (cfg2.win w) t _ j i fun a => by rw [off2, hw]; exact zero_shift (hr a) (hi a)
theorem iblk3_at (w) (hw : axes3 w = 9) (t : Fin cfg3.N) (j : ((cfg3.win w).xblock (cfg3.grid.coords t)).Idx) (i : (cfg3.win w).shape.Idx)
    (hi : ∀ a, (i a).val = (j a).val) (hr : ∀ a : Fin (cfg3.win w).shape.rank, a.val ≠ 9) :
    iblk3 c W w t j = (cfg3.win w).arr.view.read (Elt Ideal) (W (Proc.devRef .tc (Pipeline.arrRef spec3 w))) i :=
  Window.read_at (cfg3.win w) t _ j i fun a => by rw [off3, hw]; exact zero_shift (hr a) (hi a)
theorem iblk4_at (w) (hw : axes4 w = 9) (t : Fin cfg4.N) (j : ((cfg4.win w).xblock (cfg4.grid.coords t)).Idx) (i : (cfg4.win w).shape.Idx)
    (hi : ∀ a, (i a).val = (j a).val) (hr : ∀ a : Fin (cfg4.win w).shape.rank, a.val ≠ 9) :
    iblk4 c W w t j = (cfg4.win w).arr.view.read (Elt Ideal) (W (Proc.devRef .tc (Pipeline.arrRef spec4 w))) i :=
  Window.read_at (cfg4.win w) t _ j i fun a => by rw [off4, hw]; exact zero_shift (hr a) (hi a)

end

end Cert.KernelIdeal.Rel

end
-- ==== Proof.Layers.lean ====
/- The four graph layers: what each call leaves in its output arrays, from the arrays it reads. -/
module

public import proofs.«01_k».proof.Proof.Blocks

@[expose] public section

set_option maxRecDepth 16384

noncomputable section

namespace Cert.KernelIdeal.Rel

open Cert.KernelIdeal.Gen Cert.Math
open Idealize.ShloMosaic Idealize.ShloMosaic.TcCoe Idealize.ShloMosaic.ValueIdx

/-- The stored adjacency and the stored features. -/
abbrev adjq (N : Net) (r k : Fin 10000) : EReal := N.adj r k * ((32768 : ℝ) : EReal)
abbrev feat {n : ℕ} (s : Fin 10000 → Fin n → EReal) (r : Fin 10000) (o : Fin n) : EReal := s r o * ((256 : ℝ) : EReal)

theorem acc_eq (N : Net) {n : ℕ} (s : Fin 10000 → Fin n → EReal) (r : Fin 10000) : acc (adjq N r) (feat s) = N.prop s r :=
  funext fun j => scaled_sum (N.adj r) fun k => s k j

theorem layer (N : Net) {n n' : ℕ} (s : Fin 10000 → Fin n → EReal) (g : Fin n → Fin n' → EReal) (h : Fin n → EReal) (r : Fin 10000) (o : Fin n')
    (hr : InRange (proj g (Net.mix (N.prop s r) h) o)) :
    clip (proj g (Net.mix (acc (adjq N r) (feat s)) h) o) = proj g (Net.mix (N.prop s r) h) o * ((256 : ℝ) : EReal) := by
  rw [acc_eq]
  exact clip_eq hr

theorem out1_4_eq (x0) : out1_4 (F := Ideal) x0 = k1_pay1 (F := Ideal) x0 := by
  unfold out1_4
  rw [canon_whole zero2, View.ld_unit_zero (S := S480x10000) zero2]
theorem out1_5_eq (x0 x1 x2 x3) : out1_5 (F := Ideal) x0 x1 x2 x3 = k1_pay2 (F := Ideal) x0 x1 x2 x3 := by
  unfold out1_5
  rw [canon_whole zero2, View.ld_unit_zero (S := S480x10000) zero2,
    View.ld_unit_zero (S := S10000x128) zero2,
    View.ld_unit_zero (S := S480x128) zero2,
    View.ld_unit_zero (S := S128x128) zero2]
theorem out2_4_eq (x0 x1 x2 x3) : out2_4 (F := Ideal) x0 x1 x2 x3 = k2_pay1 (F := Ideal) x0 x1 x2 x3 := by
  unfold out2_4
  rw [canon_whole zero2, View.ld_unit_zero (S := S1920x10000) zero2,
    View.ld_unit_zero (S := S10000x128) zero2,
    View.ld_unit_zero (S := S1920x128) zero2,
    View.ld_unit_zero (S := S128x256) zero2]
theorem out3_4_eq (x0 x1 x2 x3) : out3_4 (F := Ideal) x0 x1 x2 x3 = k3_pay1 (F := Ideal) x0 x1 x2 x3 := by
  unfold out3_4
  rw [canon_whole zero2, View.ld_unit_zero (S := S1024x10000) zero2,
    View.ld_unit_zero (S := S10000x256) zero2,
    View.ld_unit_zero (S := S1024x256) zero2,
    View.ld_unit_zero (S := S256x32) zero2]
theorem out4_5_eq (x0 x1 x2 x3 x4) : out4_5 (F := Ideal) x0 x1 x2 x3 x4 = k4_pay1 (F := Ideal) x0 x1 x2 x3 x4 := by
  unfold out4_5
  rw [canon_whole zero2, View.ld_unit_zero (S := S1920x10000) zero2,
    View.ld_unit_zero (S := S10000x32) zero2,
    View.ld_unit_zero (S := S1920x32) zero2,
    View.ld_unit_zero (S := S10x32) zero2,
    View.ld_unit_zero (S := S1x10) zero2]

/-- A block that holds the rows of `G` beginning at row `n`, at an index of it. -/
theorem row_at {B b M : ℕ} (X : (⟨2, ![B, b]⟩ : Shape).Idx → EReal) (G : Fin M → Fin b → EReal) (j : (⟨2, ![B, b]⟩ : Shape).Idx)
    (i : (⟨2, ![M, b]⟩ : Shape).Idx) (n : ℕ) (hi : ∀ x : Fin 2, (i x).val = shift 0 n x.val + (j x).val)
    (hX : ∀ p l r, r.val = n + p.val → X (ix2 p l) = G r l) : X j = G (i 0) (i 1) := by
  obtain ⟨h0, h1⟩ := of_row hi
  exact (congrArg X (eq_ix2 j)).trans ((hX (j 0) (j 1) (i 0) h0).trans (congrArg (G (i 0)) h1.symm))

section
variable {c : Dev nD} {W W' : Valuation τ sig (Elt Ideal)} {N : Net}

/-! ### First layer -/

theorem rows1_0 (h : W (Proc.devRef .tc main_arg1) = mat (N.adj)) (t : Fin cfg1.N) (d) (p : Fin 480) (r : Fin 10000) (hr : r.val = t.val * 480 + p.val) :
    cols (a := 480) (b := 10000) (fblk1 c W 0 t d) p = (N.adj) r :=
  funext fun l => (fblk1_at 0 t d (ix2 p l) (ix2 r l) (at_row hr rfl)).trans (congrFun h (ix2 r l))

theorem whole1_1 (h : W (Proc.devRef .tc main_v14_5) = mat (feat N.s1)) (t : Fin cfg1.N) : cols (a := 10000) (b := 128) (iblk1 c W 1 t) = feat N.s1 :=
  funext fun p => funext fun l => (iblk1_at 1 rfl t (ix2 p l) (ix2 p l) (fun _ => rfl) (by decide)).trans (congrFun h (ix2 p l))

theorem rows1_2 (h : W (Proc.devRef .tc main_v14_1) = mat (N.h1)) (t : Fin cfg1.N) (d) (p : Fin 480) (r : Fin 10000) (hr : r.val = t.val * 480 + p.val) :
    cols (a := 480) (b := 128) (fblk1 c W 2 t d) p = (N.h1) r :=
  funext fun l => (fblk1_at 2 t d (ix2 p l) (ix2 r l) (at_row hr rfl)).trans (congrFun h (ix2 r l))

theorem whole1_3 (h : W (Proc.devRef .tc main_arg23) = mat (N.g2)) (t : Fin cfg1.N) : cols (a := 128) (b := 128) (iblk1 c W 3 t) = N.g2 :=
  funext fun p => funext fun l => (iblk1_at 3 rfl t (ix2 p l) (ix2 p l) (fun _ => rfl) (by decide)).trans (congrFun h (ix2 p l))

theorem row1_4 (ha : W (Proc.devRef .tc main_arg1) = mat N.adj) (t : Fin cfg1.N) (d) (p : Fin 480) (l r : Fin 10000) (hr : r.val = t.val * 480 + p.val) :
    out1_4 (F := Ideal) (fblk1 c W 0 t d) (ix2 p l) = adjq N r l := by
  have e := congrFun (rows1_0 (c := c) ha t d p r hr) l
  rw [out1_4_eq, pay1_1]
  exact congrArg (· * ((32768 : ℝ) : EReal)) e

theorem adj1 (h : (reg1 (F := Ideal)).Step c W W') (ha : W (Proc.devRef .tc main_arg1) = mat N.adj) :
    W' (Proc.devRef .tc main_v15_0) = mat (adjq N) := by
  refine h.arr_eq 4 rfl (by decide +kernel) (mat (adjq N)) fun t Y hY j i hi => ?_
  obtain ⟨d0, e⟩ := hY
  have e' : Y = out1_4 (F := Ideal) (fblk1 c W 0 t d0) := e
  exact row_at Y (adjq N) j i _ (fun x => (hi x).trans (congrArg (· + (j x).val) (off1 4 t x))) fun p l r hr => by
    rw [e']
    exact row1_4 ha t d0 p l r hr

theorem row1_5 (ha : W (Proc.devRef .tc main_arg1) = mat N.adj) (hs : W (Proc.devRef .tc main_v14_5) = mat (feat N.s1))
    (hh : W (Proc.devRef .tc main_v14_1) = mat N.h1) (hg : W (Proc.devRef .tc main_arg23) = mat N.g2) (hN : N.Ranges)
    (t : Fin cfg1.N) (d0 d2) (p : Fin 480) (l : Fin 128) (r : Fin 10000) (hr : r.val = t.val * 480 + p.val) :
    out1_5 (F := Ideal) (fblk1 c W 0 t d0) (iblk1 c W 1 t) (fblk1 c W 2 t d2) (iblk1 c W 3 t) (ix2 p l) = feat N.s2 r l := by
  have ea : (fun k => cols (a := 480) (b := 10000) (fblk1 c W 0 t d0) p k * ((32768 : ℝ) : EReal)) = adjq N r := by rw [rows1_0 ha t d0 p r hr]
  rw [out1_5_eq, pay1_2]
  show clip (proj (cols (a := 128) (b := 128) (iblk1 c W 3 t)) (Net.mix (acc (fun k => cols (a := 480) (b := 10000) (fblk1 c W 0 t d0) p k * ((32768 : ℝ) : EReal))
    (cols (a := 10000) (b := 128) (iblk1 c W 1 t))) (cols (a := 480) (b := 128) (fblk1 c W 2 t d2) p)) l) = _
  rw [ea, whole1_1 hs t, rows1_2 hh t d2 p r hr, whole1_3 hg t]
  exact layer N N.s1 N.g2 (N.h1 r) r l (hN.s2 r l)

theorem step1 (h : (reg1 (F := Ideal)).Step c W W') (ha : W (Proc.devRef .tc main_arg1) = mat N.adj) (hs : W (Proc.devRef .tc main_v14_5) = mat (feat N.s1))
    (hh : W (Proc.devRef .tc main_v14_1) = mat N.h1) (hg : W (Proc.devRef .tc main_arg23) = mat N.g2) (hN : N.Ranges) :
    W' (Proc.devRef .tc main_v15_1) = mat (feat N.s2) := by
  refine h.arr_eq 5 rfl (by decide +kernel) (mat (feat N.s2)) fun t Y hY j i hi => ?_
  obtain ⟨d0, d2, e⟩ := hY
  have e' : Y = out1_5 (F := Ideal) (fblk1 c W 0 t d0) (iblk1 c W 1 t) (fblk1 c W 2 t d2) (iblk1 c W 3 t) := e
  exact row_at Y (feat N.s2) j i _ (fun x => (hi x).trans (congrArg (· + (j x).val) (off1 5 t x))) fun p l r hr => by
    rw [e']
    exact row1_5 ha hs hh hg hN t d0 d2 p l r hr

/-! ### Second layer -/

theorem rows2_0 (h : W (Proc.devRef .tc main_v15_0) = mat (adjq N)) (t : Fin cfg2.N) (d) (p : Fin 1920) (r : Fin 10000) (hr : r.val = t.val * 1920 + p.val) :
    cols (a := 1920) (b := 10000) (fblk2 c W 0 t d) p = (adjq N) r :=
  funext fun l => (fblk2_at 0 t d (ix2 p l) (ix2 r l) (at_row hr rfl)).trans (congrFun h (ix2 r l))

theorem whole2_1 (h : W (Proc.devRef .tc main_v15_1) = mat (feat N.s2)) (t : Fin cfg2.N) : cols (a := 10000) (b := 128) (iblk2 c W 1 t) = feat N.s2 :=
  funext fun p => funext fun l => (iblk2_at 1 rfl t (ix2 p l) (ix2 p l) (fun _ => rfl) (by decide)).trans (congrFun h (ix2 p l))

theorem rows2_2 (h : W (Proc.devRef .tc main_v14_2) = mat (N.h2)) (t : Fin cfg2.N) (d) (p : Fin 1920) (r : Fin 10000) (hr : r.val = t.val * 1920 + p.val) :
    cols (a := 1920) (b := 128) (fblk2 c W 2 t d) p = (N.h2) r :=
  funext fun l => (fblk2_at 2 t d (ix2 p l) (ix2 r l) (at_row hr rfl)).trans (congrFun h (ix2 r l))

theorem whole2_3 (h : W (Proc.devRef .tc main_arg24) = mat (N.g3)) (t : Fin cfg2.N) : cols (a := 128) (b := 256) (iblk2 c W 3 t) = N.g3 :=
  funext fun p => funext fun l => (iblk2_at 3 rfl t (ix2 p l) (ix2 p l) (fun _ => rfl) (by decide)).trans (congrFun h (ix2 p l))

theorem row2_4 (ha : W (Proc.devRef .tc main_v15_0) = mat (adjq N)) (hs : W (Proc.devRef .tc main_v15_1) = mat (feat N.s2))
    (hh : W (Proc.devRef .tc main_v14_2) = mat N.h2) (hg : W (Proc.devRef .tc main_arg24) = mat N.g3) (hN : N.Ranges)
    (t : Fin cfg2.N) (d0 d2) (p : Fin 1920) (l : Fin 256) (r : Fin 10000) (hr : r.val = t.val * 1920 + p.val) :
    out2_4 (F := Ideal) (fblk2 c W 0 t d0) (iblk2 c W 1 t) (fblk2 c W 2 t d2) (iblk2 c W 3 t) (ix2 p l) = feat N.s3 r l := by
  rw [out2_4_eq, pay2_1]
  rw [rows2_0 ha t d0 p r hr, whole2_1 hs t, rows2_2 hh t d2 p r hr, whole2_3 hg t]
  exact layer N N.s2 N.g3 (N.h2 r) r l (hN.s3 r l)

theorem step2 (h : (reg2 (F := Ideal)).Step c W W') (ha : W (Proc.devRef .tc main_v15_0) = mat (adjq N)) (hs : W (Proc.devRef .tc main_v15_1) = mat (feat N.s2))
    (hh : W (Proc.devRef .tc main_v14_2) = mat N.h2) (hg : W (Proc.devRef .tc main_arg24) = mat N.g3) (hN : N.Ranges) :
    W' (Proc.devRef .tc main_v16) = mat (feat N.s3) := by
  refine h.arr_eq 4 rfl (by decide +kernel) (mat (feat N.s3)) fun t Y hY j i hi => ?_
  obtain ⟨d0, d2, e⟩ := hY
  have e' : Y = out2_4 (F := Ideal) (fblk2 c W 0 t d0) (iblk2 c W 1 t) (fblk2 c W 2 t d2) (iblk2 c W 3 t) := e
  exact row_at Y (feat N.s3) j i _ (fun x => (hi x).trans (congrArg (· + (j x).val) (off2 4 t x))) fun p l r hr => by
    rw [e']
    exact row2_4 ha hs hh hg hN t d0 d2 p l r hr

/-! ### Third layer -/

theorem rows3_0 (h : W (Proc.devRef .tc main_v15_0) = mat (adjq N)) (t : Fin cfg3.N) (d) (p : Fin 1024) (r : Fin 10000) (hr : r.val = t.val * 1024 + p.val) :
    cols (a := 1024) (b := 10000) (fblk3 c W 0 t d) p = (adjq N) r :=
  funext fun l => (fblk3_at 0 t d (ix2 p l) (ix2 r l) (at_row hr rfl)).trans (congrFun h (ix2 r l))

theorem whole3_1 (h : W (Proc.devRef .tc main_v16) = mat (feat N.s3)) (t : Fin cfg3.N) : cols (a := 10000) (b := 256) (iblk3 c W 1 t) = feat N.s3 :=
  funext fun p => funext fun l => (iblk3_at 1 rfl t (ix2 p l) (ix2 p l) (fun _ => rfl) (by decide)).trans (congrFun h (ix2 p l))

theorem rows3_2 (h : W (Proc.devRef .tc main_v14_3) = mat (N.h3)) (t : Fin cfg3.N) (d) (p : Fin 1024) (r : Fin 10000) (hr : r.val = t.val * 1024 + p.val) :
    cols (a := 1024) (b := 256) (fblk3 c W 2 t d) p = (N.h3) r :=
  funext fun l => (fblk3_at 2 t d (ix2 p l) (ix2 r l) (at_row hr rfl)).trans (congrFun h (ix2 r l))

theorem whole3_3 (h : W (Proc.devRef .tc main_arg25) = mat (N.g4)) (t : Fin cfg3.N) : cols (a := 256) (b := 32) (iblk3 c W 3 t) = N.g4 :=
  funext fun p => funext fun l => (iblk3_at 3 rfl t (ix2 p l) (ix2 p l) (fun _ => rfl) (by decide)).trans (congrFun h (ix2 p l))

theorem row3_4 (ha : W (Proc.devRef .tc main_v15_0) = mat (adjq N)) (hs : W (Proc.devRef .tc main_v16) = mat (feat N.s3))
    (hh : W (Proc.devRef .tc main_v14_3) = mat N.h3) (hg : W (Proc.devRef .tc main_arg25) = mat N.g4) (hN : N.Ranges)
    (t : Fin cfg3.N) (d0 d2) (p : Fin 1024) (l : Fin 32) (r : Fin 10000) (hr : r.val = t.val * 1024 + p.val) :
    out3_4 (F := Ideal) (fblk3 c W 0 t d0) (iblk3 c W 1 t) (fblk3 c W 2 t d2) (iblk3 c W 3 t) (ix2 p l) = feat N.s4 r l := by
  rw [out3_4_eq, pay3_1]
  rw [rows3_0 ha t d0 p r hr, whole3_1 hs t, rows3_2 hh t d2 p r hr, whole3_3 hg t]
  exact layer N N.s3 N.g4 (N.h3 r) r l (hN.s4 r l)

theorem step3 (h : (reg3 (F := Ideal)).Step c W W') (ha : W (Proc.devRef .tc main_v15_0) = mat (adjq N)) (hs : W (Proc.devRef .tc main_v16) = mat (feat N.s3))
    (hh : W (Proc.devRef .tc main_v14_3) = mat N.h3) (hg : W (Proc.devRef .tc main_arg25) = mat N.g4) (hN : N.Ranges) :
    W' (Proc.devRef .tc main_v17) = mat (feat N.s4) := by
  refine h.arr_eq 4 rfl (by decide +kernel) (mat (feat N.s4)) fun t Y hY j i hi => ?_
  obtain ⟨d0, d2, e⟩ := hY
  have e' : Y = out3_4 (F := Ideal) (fblk3 c W 0 t d0) (iblk3 c W 1 t) (fblk3 c W 2 t d2) (iblk3 c W 3 t) := e
  exact row_at Y (feat N.s4) j i _ (fun x => (hi x).trans (congrArg (· + (j x).val) (off3 4 t x))) fun p l r hr => by
    rw [e']
    exact row3_4 ha hs hh hg hN t d0 d2 p l r hr

/-! ### The clusters' head -/

theorem rows4_0 (h : W (Proc.devRef .tc main_v15_0) = mat (adjq N)) (t : Fin cfg4.N) (d) (p : Fin 1920) (r : Fin 10000) (hr : r.val = t.val * 1920 + p.val) :
    cols (a := 1920) (b := 10000) (fblk4 c W 0 t d) p = (adjq N) r :=
  funext fun l => (fblk4_at 0 t d (ix2 p l) (ix2 r l) (at_row hr rfl)).trans (congrFun h (ix2 r l))

theorem whole4_1 (h : W (Proc.devRef .tc main_v17) = mat (feat N.s4)) (t : Fin cfg4.N) : cols (a := 10000) (b := 32) (iblk4 c W 1 t) = feat N.s4 :=
  funext fun p => funext fun l => (iblk4_at 1 rfl t (ix2 p l) (ix2 p l) (fun _ => rfl) (by decide)).trans (congrFun h (ix2 p l))

theorem rows4_2 (h : W (Proc.devRef .tc main_v14_4) = mat (N.z)) (t : Fin cfg4.N) (d) (p : Fin 1920) (r : Fin 10000) (hr : r.val = t.val * 1920 + p.val) :
    cols (a := 1920) (b := 32) (fblk4 c W 2 t d) p = (N.z) r :=
  funext fun l => (fblk4_at 2 t d (ix2 p l) (ix2 r l) (at_row hr rfl)).trans (congrFun h (ix2 r l))

theorem whole4_3 (h : W (Proc.devRef .tc main_arg26) = mat (N.wf)) (t : Fin cfg4.N) : cols (a := 10) (b := 32) (iblk4 c W 3 t) = N.wf :=
  funext fun p => funext fun l => (iblk4_at 3 rfl t (ix2 p l) (ix2 p l) (fun _ => rfl) (by decide)).trans (congrFun h (ix2 p l))

theorem whole4_4 (h : W (Proc.devRef .tc main_v18) = mat (fun _ => N.bf)) (t : Fin cfg4.N) : cols (a := 1) (b := 10) (iblk4 c W 4 t) = fun _ => N.bf :=
  funext fun p => funext fun l => (iblk4_at 4 rfl t (ix2 p l) (ix2 p l) (fun _ => rfl) (by decide)).trans (congrFun h (ix2 p l))

theorem row4_5 (ha : W (Proc.devRef .tc main_v15_0) = mat (adjq N)) (hs : W (Proc.devRef .tc main_v17) = mat (feat N.s4))
    (hz : W (Proc.devRef .tc main_v14_4) = mat N.z) (hw : W (Proc.devRef .tc main_arg26) = mat N.wf) (hb : W (Proc.devRef .tc main_v18) = mat (fun _ => N.bf))
    (t : Fin cfg4.N) (d0 d2) (p : Fin 1920) (l : Fin 10) (r : Fin 10000) (hr : r.val = t.val * 1920 + p.val) :
    out4_5 (F := Ideal) (fblk4 c W 0 t d0) (iblk4 c W 1 t) (fblk4 c W 2 t d2) (iblk4 c W 3 t) (iblk4 c W 4 t) (ix2 p l) = N.predict r l := by
  have ez : ∀ j, fblk4 c W 2 t d2 (ix2 p j) = N.z r j := congrFun (rows4_2 hz t d2 p r hr)
  rw [out4_5_eq, pay4_1]
  rw [rows4_0 ha t d0 p r hr, whole4_1 hs t, whole4_3 hw t, whole4_4 hb t, acc_eq]
  simp only [ez]
  rfl

theorem step4 (h : (reg4 (F := Ideal)).Step c W W') (ha : W (Proc.devRef .tc main_v15_0) = mat (adjq N)) (hs : W (Proc.devRef .tc main_v17) = mat (feat N.s4))
    (hz : W (Proc.devRef .tc main_v14_4) = mat N.z) (hw : W (Proc.devRef .tc main_arg26) = mat N.wf) (hb : W (Proc.devRef .tc main_v18) = mat (fun _ => N.bf)) :
    W' (Proc.devRef .tc main_v19) = mat (N.predict) := by
  refine h.arr_eq 5 rfl (by decide +kernel) (mat (N.predict)) fun t Y hY j i hi => ?_
  obtain ⟨d0, d2, e⟩ := hY
  have e' : Y = out4_5 (F := Ideal) (fblk4 c W 0 t d0) (iblk4 c W 1 t) (fblk4 c W 2 t d2) (iblk4 c W 3 t) (iblk4 c W 4 t) := e
  exact row_at Y (N.predict) j i _ (fun x => (hi x).trans (congrArg (· + (j x).val) (off4 5 t x))) fun p l r hr => by
    rw [e']
    exact row4_5 ha hs hz hw hb t d0 d2 p l r hr

end

end Cert.KernelIdeal.Rel

end
-- ==== Proof.Encoder.lean ====
/- The first call: what it leaves in its seven output arrays, from the arrays it reads. -/
module

public import proofs.«01_k».proof.Proof.Layers

@[expose] public section

set_option maxRecDepth 16384

noncomputable section

namespace Cert.KernelIdeal.Rel

open Cert.KernelIdeal.Gen Cert.Math
open Idealize.ShloMosaic Idealize.ShloMosaic.TcCoe Idealize.ShloMosaic.ValueIdx

/-- A vector laid out as one row. -/
abbrev row {n : ℕ} (f : Fin n → EReal) : (⟨2, ![1, n]⟩ : Shape).Idx → EReal := mat fun _ => f

/-- The arrays the first call reads hold the network's arguments. -/
structure Entry (W : Valuation τ sig (Elt Ideal)) (N : Net) : Prop where
  x0 : W (Proc.devRef .tc main_v1) = mat (N.x · 0)
  x1 : W (Proc.devRef .tc main_v3) = mat (N.x · 1)
  x2 : W (Proc.devRef .tc main_v5) = mat (N.x · 2)
  cw : ∀ a b, (W (Proc.devRef .tc main_arg2) : Vec Ideal S1x3x3 .f32) (ix3 0 a b) = N.cw a b
  cb : (W (Proc.devRef .tc main_arg3) : Vec Ideal ⟨1, ![1]⟩ .f32) (ix1 0) = N.cb
  dw : ∀ a b, (W (Proc.devRef .tc main_arg4) : Vec Ideal S3x1x3 .f32) (ix3 a 0 b) = N.dw a b
  db : ∀ a, (W (Proc.devRef .tc main_arg5) : Vec Ideal ⟨1, ![3]⟩ .f32) (ix1 a) = N.db a
  w1 : W (Proc.devRef .tc main_arg6) = mat N.w1
  b1 : W (Proc.devRef .tc main_v6) = row N.b1
  w2 : W (Proc.devRef .tc main_arg8) = mat N.w2
  b2 : W (Proc.devRef .tc main_v7) = row N.b2
  w3 : W (Proc.devRef .tc main_arg10) = mat N.w3
  b3 : W (Proc.devRef .tc main_v8) = row N.b3
  wz : W (Proc.devRef .tc main_arg12) = mat N.wz
  bz : W (Proc.devRef .tc main_v9) = row N.bz
  v1 : W (Proc.devRef .tc main_arg14) = mat N.v1
  a1 : W (Proc.devRef .tc main_v10) = row N.a1
  v2 : W (Proc.devRef .tc main_arg16) = mat N.v2
  a2 : W (Proc.devRef .tc main_v11) = row N.a2
  v3 : W (Proc.devRef .tc main_arg18) = mat N.v3
  a3 : W (Proc.devRef .tc main_v12) = row N.a3
  vx : W (Proc.devRef .tc main_arg20) = mat N.vx
  ax : W (Proc.devRef .tc main_v13) = row N.ax
  g1 : W (Proc.devRef .tc main_arg22) = mat N.g1

section
variable {c : Dev nD} {W W' : Valuation τ sig (Elt Ideal)} {N : Net}

set_option maxHeartbeats 2000000 in
theorem fits (E : Entry W N) (t : Fin cfg0.N) (d0 d1 d2) (i : Fin 2048) (r : Fin 10000) (hr : r.val = t.val * 2048 + i.val) :
    Fits (in0 c W t d0 d1 d2) N i r where
  x0 m := (fblk0_at (c := c) 0 t d0 (ix2 i m) (ix2 r m) (at_row hr rfl)).trans (congrFun E.x0 (ix2 r m))
  x1 m := (fblk0_at (c := c) 1 t d1 (ix2 i m) (ix2 r m) (at_row hr rfl)).trans (congrFun E.x1 (ix2 r m))
  x2 m := (fblk0_at (c := c) 2 t d2 (ix2 i m) (ix2 r m) (at_row hr rfl)).trans (congrFun E.x2 (ix2 r m))
  cw a b := (iblk0_at (c := c) 3 rfl t (ix3 0 a b) (ix3 0 a b) (fun _ => rfl) (by decide)).trans (E.cw a b)
  cb := (iblk0_at (c := c) 4 rfl t (ix1 0) (ix1 0) (fun _ => rfl) (by decide)).trans E.cb
  dw a b := (iblk0_at (c := c) 5 rfl t (ix3 a 0 b) (ix3 a 0 b) (fun _ => rfl) (by decide)).trans (E.dw a b)
  db a := (iblk0_at (c := c) 6 rfl t (ix1 a) (ix1 a) (fun _ => rfl) (by decide)).trans (E.db a)
  w1 := funext fun p => funext fun l => (iblk0_at (c := c) 7 rfl t (ix2 p l) (ix2 p l) (fun _ => rfl) (by decide)).trans (congrFun E.w1 (ix2 p l))
  b1 := funext fun l => (iblk0_at (c := c) 8 rfl t (ix2 0 l) (ix2 0 l) (fun _ => rfl) (by decide)).trans (congrFun E.b1 (ix2 0 l))
  w2 := funext fun p => funext fun l => (iblk0_at (c := c) 9 rfl t (ix2 p l) (ix2 p l) (fun _ => rfl) (by decide)).trans (congrFun E.w2 (ix2 p l))
  b2 := funext fun l => (iblk0_at (c := c) 10 rfl t (ix2 0 l) (ix2 0 l) (fun _ => rfl) (by decide)).trans (congrFun E.b2 (ix2 0 l))
  w3 := funext fun p => funext fun l => (iblk0_at (c := c) 11 rfl t (ix2 p l) (ix2 p l) (fun _ => rfl) (by decide)).trans (congrFun E.w3 (ix2 p l))
  b3 := funext fun l => (iblk0_at (c := c) 12 rfl t (ix2 0 l) (ix2 0 l) (fun _ => rfl) (by decide)).trans (congrFun E.b3 (ix2 0 l))
  wz := funext fun p => funext fun l => (iblk0_at (c := c) 13 rfl t (ix2 p l) (ix2 p l) (fun _ => rfl) (by decide)).trans (congrFun E.wz (ix2 p l))
  bz := funext fun l => (iblk0_at (c := c) 14 rfl t (ix2 0 l) (ix2 0 l) (fun _ => rfl) (by decide)).trans (congrFun E.bz (ix2 0 l))
  v1 := funext fun p => funext fun l => (iblk0_at (c := c) 15 rfl t (ix2 p l) (ix2 p l) (fun _ => rfl) (by decide)).trans (congrFun E.v1 (ix2 p l))
  a1 := funext fun l => (iblk0_at (c := c) 16 rfl t (ix2 0 l) (ix2 0 l) (fun _ => rfl) (by decide)).trans (congrFun E.a1 (ix2 0 l))
  v2 := funext fun p => funext fun l => (iblk0_at (c := c) 17 rfl t (ix2 p l) (ix2 p l) (fun _ => rfl) (by decide)).trans (congrFun E.v2 (ix2 p l))
  a2 := funext fun l => (iblk0_at (c := c) 18 rfl t (ix2 0 l) (ix2 0 l) (fun _ => rfl) (by decide)).trans (congrFun E.a2 (ix2 0 l))
  v3 := funext fun p => funext fun l => (iblk0_at (c := c) 19 rfl t (ix2 p l) (ix2 p l) (fun _ => rfl) (by decide)).trans (congrFun E.v3 (ix2 p l))
  a3 := funext fun l => (iblk0_at (c := c) 20 rfl t (ix2 0 l) (ix2 0 l) (fun _ => rfl) (by decide)).trans (congrFun E.a3 (ix2 0 l))
  vx := funext fun p => funext fun l => (iblk0_at (c := c) 21 rfl t (ix2 p l) (ix2 p l) (fun _ => rfl) (by decide)).trans (congrFun E.vx (ix2 p l))
  ax := funext fun l => (iblk0_at (c := c) 22 rfl t (ix2 0 l) (ix2 0 l) (fun _ => rfl) (by decide)).trans (congrFun E.ax (ix2 0 l))
  g1 := funext fun p => funext fun l => (iblk0_at (c := c) 23 rfl t (ix2 p l) (ix2 p l) (fun _ => rfl) (by decide)).trans (congrFun E.g1 (ix2 p l))

theorem pro0 (h : (reg0 (F := Ideal)).Step c W W') (E : Entry W N) : W' (Proc.devRef .tc main_v14_0) = mat (N.pro) := by
  refine h.arr_eq 24 rfl (by decide +kernel) (mat (N.pro)) fun t Y hY j i hi => ?_
  obtain ⟨d0, d1, d2, e⟩ := hY
  have e' : Y = (in0 c W t d0 d1 d2).out24 := e
  exact row_at Y (N.pro) j i _ (fun x => (hi x).trans (congrArg (· + (j x).val) (off0 24 t x))) fun p l r hr => by
    rw [e']
    exact ((fits E t d0 d1 d2 p r hr).out24 l)

theorem h10 (h : (reg0 (F := Ideal)).Step c W W') (E : Entry W N) : W' (Proc.devRef .tc main_v14_1) = mat (N.h1) := by
  refine h.arr_eq 25 rfl (by decide +kernel) (mat (N.h1)) fun t Y hY j i hi => ?_
  obtain ⟨d0, d1, d2, e⟩ := hY
  have e' : Y = (in0 c W t d0 d1 d2).out25 := e
  exact row_at Y (N.h1) j i _ (fun x => (hi x).trans (congrArg (· + (j x).val) (off0 25 t x))) fun p l r hr => by
    rw [e']
    exact ((fits E t d0 d1 d2 p r hr).out25 l)

theorem h20 (h : (reg0 (F := Ideal)).Step c W W') (E : Entry W N) : W' (Proc.devRef .tc main_v14_2) = mat (N.h2) := by
  refine h.arr_eq 26 rfl (by decide +kernel) (mat (N.h2)) fun t Y hY j i hi => ?_
  obtain ⟨d0, d1, d2, e⟩ := hY
  have e' : Y = (in0 c W t d0 d1 d2).out26 := e
  exact row_at Y (N.h2) j i _ (fun x => (hi x).trans (congrArg (· + (j x).val) (off0 26 t x))) fun p l r hr => by
    rw [e']
    exact ((fits E t d0 d1 d2 p r hr).out26 l)

theorem h30 (h : (reg0 (F := Ideal)).Step c W W') (E : Entry W N) : W' (Proc.devRef .tc main_v14_3) = mat (N.h3) := by
  refine h.arr_eq 27 rfl (by decide +kernel) (mat (N.h3)) fun t Y hY j i hi => ?_
  obtain ⟨d0, d1, d2, e⟩ := hY
  have e' : Y = (in0 c W t d0 d1 d2).out27 := e
  exact row_at Y (N.h3) j i _ (fun x => (hi x).trans (congrArg (· + (j x).val) (off0 27 t x))) fun p l r hr => by
    rw [e']
    exact ((fits E t d0 d1 d2 p r hr).out27 l)

theorem z0 (h : (reg0 (F := Ideal)).Step c W W') (E : Entry W N) : W' (Proc.devRef .tc main_v14_4) = mat (N.z) := by
  refine h.arr_eq 28 rfl (by decide +kernel) (mat (N.z)) fun t Y hY j i hi => ?_
  obtain ⟨d0, d1, d2, e⟩ := hY
  have e' : Y = (in0 c W t d0 d1 d2).out28 := e
  exact row_at Y (N.z) j i _ (fun x => (hi x).trans (congrArg (· + (j x).val) (off0 28 t x))) fun p l r hr => by
    rw [e']
    exact ((fits E t d0 d1 d2 p r hr).out28 l)

theorem t10 (h : (reg0 (F := Ideal)).Step c W W') (E : Entry W N) (hN : N.Ranges) : W' (Proc.devRef .tc main_v14_5) = mat (feat N.s1) := by
  refine h.arr_eq 29 rfl (by decide +kernel) (mat (feat N.s1)) fun t Y hY j i hi => ?_
  obtain ⟨d0, d1, d2, e⟩ := hY
  have e' : Y = (in0 c W t d0 d1 d2).out29 := e
  exact row_at Y (feat N.s1) j i _ (fun x => (hi x).trans (congrArg (· + (j x).val) (off0 29 t x))) fun p l r hr => by
    rw [e']
    exact ((fits E t d0 d1 d2 p r hr).out29 l).trans (clip_eq (hN.s1 r l))

/-- The decoded planes as the call lays them out. -/
def planes (N : Net) : Vec Ideal S3x10000x128 .f32 := fun i => N.xbar (i 1) (i 0) (i 2)

theorem xbar0 (h : (reg0 (F := Ideal)).Step c W W') (E : Entry W N) : W' (Proc.devRef .tc main_v14_6) = planes N := by
  refine h.arr_eq 30 rfl (by decide +kernel) (planes N) fun t Y hY j i hi => ?_
  obtain ⟨d0, d1, d2, e⟩ := hY
  have e' : Y = (in0 c W t d0 d1 d2).out30 := e
  have hi' : ∀ x : Fin 3, (i x).val = shift 1 (t.val * 2048) x.val + (j x).val := fun x => (hi x).trans (congrArg (· + (j x).val) (off0 30 t x))
  have h0 : i 0 = j 0 := Fin.ext ((hi' 0).trans (Nat.zero_add _))
  have h1 : (i 1).val = t.val * 2048 + (j 1).val := hi' 1
  have h2 : i 2 = j 2 := Fin.ext ((hi' 2).trans (Nat.zero_add _))
  have e2 : Y j = N.xbar (i 1) (i 0) (i 2) := by
    rw [e']
    exact (congrArg (in0 c W t d0 d1 d2).out30 (eq_ix3 j)).trans (((fits E t d0 d1 d2 (j 1) (i 1) h1).out30 (j 0) (j 2)).trans
      (congr (congrArg (N.xbar (i 1)) h0.symm) h2.symm))
  exact e2

end

end Cert.KernelIdeal.Rel

end
-- ==== Proof.Ends.lean ====
/- The kernel's results as the network of its arguments: the host's operations before, between and after the five calls. -/
module

public import proofs.«01_k».proof.Proof.Encoder
public import proofs.«01_k».proof.Proof.Args
public import Idealize.ShloMosaic.Lib.StableHlo.Run

@[expose] public section

set_option maxRecDepth 16384

noncomputable section

namespace Cert.KernelIdeal.Rel

open Cert.KernelIdeal.Gen Cert.Math
open Idealize.ShloMosaic Idealize.ShloMosaic.TcCoe Idealize.ShloMosaic.ValueIdx

/-- The arguments a valuation holds. -/
def args (W : Valuation τ sig (Elt Ideal)) : Args where
  a0 := W (Proc.devRef .tc main_arg0)
  a1 := W (Proc.devRef .tc main_arg1)
  a2 := W (Proc.devRef .tc main_arg2)
  a3 := W (Proc.devRef .tc main_arg3)
  a4 := W (Proc.devRef .tc main_arg4)
  a5 := W (Proc.devRef .tc main_arg5)
  a6 := W (Proc.devRef .tc main_arg6)
  a7 := W (Proc.devRef .tc main_arg7)
  a8 := W (Proc.devRef .tc main_arg8)
  a9 := W (Proc.devRef .tc main_arg9)
  a10 := W (Proc.devRef .tc main_arg10)
  a11 := W (Proc.devRef .tc main_arg11)
  a12 := W (Proc.devRef .tc main_arg12)
  a13 := W (Proc.devRef .tc main_arg13)
  a14 := W (Proc.devRef .tc main_arg14)
  a15 := W (Proc.devRef .tc main_arg15)
  a16 := W (Proc.devRef .tc main_arg16)
  a17 := W (Proc.devRef .tc main_arg17)
  a18 := W (Proc.devRef .tc main_arg18)
  a19 := W (Proc.devRef .tc main_arg19)
  a20 := W (Proc.devRef .tc main_arg20)
  a21 := W (Proc.devRef .tc main_arg21)
  a22 := W (Proc.devRef .tc main_arg22)
  a23 := W (Proc.devRef .tc main_arg23)
  a24 := W (Proc.devRef .tc main_arg24)
  a25 := W (Proc.devRef .tc main_arg25)
  a26 := W (Proc.devRef .tc main_arg26)
  a27 := W (Proc.devRef .tc main_arg27)

/-- One plane of the input, cut out and flattened by the host. -/
theorem plane_of (k : Fin 3) (x : Vec Ideal S10000x3x128 .f32) (hs : S10000x3x128.Slices ![0, k.val, 0] S10000x1x128)
    (hc : S10000x1x128.ShapeCasts S10000x128) :
    shapeCast S10000x128 (extractStridedSlice S10000x1x128 ![0, k.val, 0] x hs) hc = mat fun r l => x (ix3 r k l) := by
  funext i
  rw [eq_ix2 i]
  refine (shapeCast_apply _ hc (ix2 (i 0) (i 1)) (ix3 (i 0) 0 (i 1)) ?_).trans (slice3_axis1_apply k.val x hs (i 0) 0 (i 1) k rfl)
  rw [Shape.rowMajor_val_three, Shape.rowMajor_val_two]
  show ((i 0).val * 1 + 0) * 128 + (i 1).val = (i 0).val * 128 + (i 1).val
  omega

/-- A bias as a row. -/
theorem row_of {n : ℕ} (x : (⟨1, ![n]⟩ : Shape).Idx → EReal) (hc) : shapeCast ⟨2, ![1, n]⟩ x hc = row fun o => x (ix1 o) := by
  funext i
  rw [eq_ix2 i]
  exact shapeCast_a_1a_apply x hc _ _

/-- A matrix by its entries. -/
theorem mat_self {a b : ℕ} (x : (⟨2, ![a, b]⟩ : Shape).Idx → EReal) : x = mat fun i j => x (ix2 i j) :=
  funext fun i => congrArg x (eq_ix2 i)

section
variable (W : Valuation τ sig (Elt Ideal))

theorem host_plane0 : StableHlo.after hostOps0 W (Proc.devRef .tc main_v1) = mat ((args W).net.x · 0) := by
  have e : StableHlo.after hostOps0 W (Proc.devRef .tc main_v1) = shapeCast S10000x128
      (extractStridedSlice S10000x1x128 ![0, 0, 0] (W (Proc.devRef .tc main_arg0)) slices_S10000x3x128_S10000x1x128_0_0_0)
      shapeCasts_S10000x1x128_S10000x128 := by
    unfold hostOps0
    after_results_simp
    rfl
  exact e.trans (plane_of 0 _ _ _)

theorem host_plane1 : StableHlo.after hostOps0 W (Proc.devRef .tc main_v3) = mat ((args W).net.x · 1) := by
  have e : StableHlo.after hostOps0 W (Proc.devRef .tc main_v3) = shapeCast S10000x128
      (extractStridedSlice S10000x1x128 ![0, 1, 0] (W (Proc.devRef .tc main_arg0)) slices_S10000x3x128_S10000x1x128_0_1_0)
      shapeCasts_S10000x1x128_S10000x128 := by
    unfold hostOps0
    after_results_simp
    rfl
  exact e.trans (plane_of 1 _ _ _)

theorem host_plane2 : StableHlo.after hostOps0 W (Proc.devRef .tc main_v5) = mat ((args W).net.x · 2) := by
  have e : StableHlo.after hostOps0 W (Proc.devRef .tc main_v5) = shapeCast S10000x128
      (extractStridedSlice S10000x1x128 ![0, 2, 0] (W (Proc.devRef .tc main_arg0)) slices_S10000x3x128_S10000x1x128_0_2_0)
      shapeCasts_S10000x1x128_S10000x128 := by
    unfold hostOps0
    after_results_simp
    rfl
  exact e.trans (plane_of 2 _ _ _)

theorem host_b1 : StableHlo.after hostOps0 W (Proc.devRef .tc main_v6) = row (args W).net.b1 := by
  refine Eq.trans ?_ (row_of (W (Proc.devRef .tc main_arg7)) (by decide))
  unfold hostOps0
  after_results_simp
  rfl

theorem host_b2 : StableHlo.after hostOps0 W (Proc.devRef .tc main_v7) = row (args W).net.b2 := by
  refine Eq.trans ?_ (row_of (W (Proc.devRef .tc main_arg9)) (by decide))
  unfold hostOps0
  after_results_simp
  rfl

theorem host_b3 : StableHlo.after hostOps0 W (Proc.devRef .tc main_v8) = row (args W).net.b3 := by
  refine Eq.trans ?_ (row_of (W (Proc.devRef .tc main_arg11)) (by decide))
  unfold hostOps0
  after_results_simp
  rfl

theorem host_bz : StableHlo.after hostOps0 W (Proc.devRef .tc main_v9) = row (args W).net.bz := by
  refine Eq.trans ?_ (row_of (W (Proc.devRef .tc main_arg13)) (by decide))
  unfold hostOps0
  after_results_simp
  rfl

theorem host_a1 : StableHlo.after hostOps0 W (Proc.devRef .tc main_v10) = row (args W).net.a1 := by
  refine Eq.trans ?_ (row_of (W (Proc.devRef .tc main_arg15)) (by decide))
  unfold hostOps0
  after_results_simp
  rfl

theorem host_a2 : StableHlo.after hostOps0 W (Proc.devRef .tc main_v11) = row (args W).net.a2 := by
  refine Eq.trans ?_ (row_of (W (Proc.devRef .tc main_arg17)) (by decide))
  unfold hostOps0
  after_results_simp
  rfl

theorem host_a3 : StableHlo.after hostOps0 W (Proc.devRef .tc main_v12) = row (args W).net.a3 := by
  refine Eq.trans ?_ (row_of (W (Proc.devRef .tc main_arg19)) (by decide))
  unfold hostOps0
  after_results_simp
  rfl

theorem host_ax : StableHlo.after hostOps0 W (Proc.devRef .tc main_v13) = row (args W).net.ax := by
  refine Eq.trans ?_ (row_of (W (Proc.devRef .tc main_arg21)) (by decide))
  unfold hostOps0
  after_results_simp
  rfl

theorem host_arg (a : Ref sig .tc) (ha : a ∈ argRefs) : StableHlo.after hostOps0 W (Proc.devRef .tc a) = W (Proc.devRef .tc a) :=
  args1 (m := fun b => W b.2) (c := 0) ⟨W, rfl, rfl⟩ a ha

/-- What the first call finds. -/
theorem entry : Entry (StableHlo.after hostOps0 W) (args W).net where
  x0 := host_plane0 W
  x1 := host_plane1 W
  x2 := host_plane2 W
  cw := fun a b => congrFun (host_arg W main_arg2 (by decide)) (ix3 0 a b)
  cb := congrFun (host_arg W main_arg3 (by decide)) (ix1 0)
  dw := fun a b => congrFun (host_arg W main_arg4 (by decide)) (ix3 a 0 b)
  db := fun a => congrFun (host_arg W main_arg5 (by decide)) (ix1 a)
  w1 := (host_arg W main_arg6 (by decide)).trans (mat_self _)
  w2 := (host_arg W main_arg8 (by decide)).trans (mat_self _)
  w3 := (host_arg W main_arg10 (by decide)).trans (mat_self _)
  wz := (host_arg W main_arg12 (by decide)).trans (mat_self _)
  v1 := (host_arg W main_arg14 (by decide)).trans (mat_self _)
  v2 := (host_arg W main_arg16 (by decide)).trans (mat_self _)
  v3 := (host_arg W main_arg18 (by decide)).trans (mat_self _)
  vx := (host_arg W main_arg20 (by decide)).trans (mat_self _)
  g1 := (host_arg W main_arg22 (by decide)).trans (mat_self _)
  b1 := host_b1 W
  b2 := host_b2 W
  b3 := host_b3 W
  bz := host_bz W
  a1 := host_a1 W
  a2 := host_a2 W
  a3 := host_a3 W
  ax := host_ax W

theorem host_bf : StableHlo.after hostOps4 W (Proc.devRef .tc main_v18) = row fun o => (W (Proc.devRef .tc main_arg27) : Vec Ideal ⟨1, ![10]⟩ .f32) (ix1 o) := by
  refine Eq.trans ?_ (row_of (W (Proc.devRef .tc main_arg27)) (by decide))
  unfold hostOps4
  after_results_simp
  rfl

theorem host_xbar (f : Fin 3 → Fin 10000 → Fin 128 → EReal) (h : W (Proc.devRef .tc main_v14_6) = fun i => f (i 0) (i 1) (i 2)) :
    StableHlo.after hostOps5 W (Proc.devRef .tc main_v20) = fun i => f (i 1) (i 0) (i 2) := by
  have e : StableHlo.after hostOps5 W (Proc.devRef .tc main_v20)
      = transpose S10000x3x128 [1, 0, 2] (W (Proc.devRef .tc main_v14_6)) transposes_S3x10000x128_S10000x3x128_1_0_2 := by
    unfold hostOps5
    after_results_simp
  rw [e, h]
  funext i
  exact transpose_apply _ _ _ i (ix3 (i 1) (i 0) (i 2)) fun c => match c with | ⟨0, _⟩ => rfl | ⟨1, _⟩ => rfl | ⟨2, _⟩ => rfl

end

section
variable {m : (ℓ : Loc nD τ sig) → Buf (Elt Ideal) ℓ} {c : Dev nD} {W : Valuation τ sig (Elt Ideal)}

/-- The network of the arguments device `c` holds. -/
def netOf (m : (ℓ : Loc nD τ sig) → Buf (Elt Ideal) ℓ) (c : Dev nD) : Net := (args fun b => m (c, b)).net

/-- The arrays of the first call that the rest of the program carries. -/
structure Front (W : Valuation τ sig (Elt Ideal)) (N : Net) : Prop where
  pro : W (Proc.devRef .tc main_v14_0) = mat N.pro
  z : W (Proc.devRef .tc main_v14_4) = mat N.z
  xbar : W (Proc.devRef .tc main_v14_6) = planes N

theorem Front.step1 {W W' : Valuation τ sig (Elt Ideal)} {N : Net} (F : Front W N) (h : reg1.Step c W W') : Front W' N :=
  ⟨(h.keep _ (by decide +kernel)).trans F.pro, (h.keep _ (by decide +kernel)).trans F.z, (h.keep _ (by decide +kernel)).trans F.xbar⟩
theorem Front.step2 {W W' : Valuation τ sig (Elt Ideal)} {N : Net} (F : Front W N) (h : reg2.Step c W W') : Front W' N :=
  ⟨(h.keep _ (by decide +kernel)).trans F.pro, (h.keep _ (by decide +kernel)).trans F.z, (h.keep _ (by decide +kernel)).trans F.xbar⟩
theorem Front.step3 {W W' : Valuation τ sig (Elt Ideal)} {N : Net} (F : Front W N) (h : reg3.Step c W W') : Front W' N :=
  ⟨(h.keep _ (by decide +kernel)).trans F.pro, (h.keep _ (by decide +kernel)).trans F.z, (h.keep _ (by decide +kernel)).trans F.xbar⟩
theorem Front.step4 {W W' : Valuation τ sig (Elt Ideal)} {N : Net} (F : Front W N) (h : reg4.Step c W W') : Front W' N :=
  ⟨(h.keep _ (by decide +kernel)).trans F.pro, (h.keep _ (by decide +kernel)).trans F.z, (h.keep _ (by decide +kernel)).trans F.xbar⟩

theorem keep4 (W : Valuation τ sig (Elt Ideal)) (r : Ref sig .tc) (hr : r ≠ main_v18) :
    StableHlo.after hostOps4 W (Proc.devRef .tc r) = W (Proc.devRef .tc r) := by
  refine StableHlo.after_of_writes_sub _ _ writes4_sub ?_
  simpa using hr

theorem keep5 (W : Valuation τ sig (Elt Ideal)) (r : Ref sig .tc) (hr : r ≠ main_v20) :
    StableHlo.after hostOps5 W (Proc.devRef .tc r) = W (Proc.devRef .tc r) := by
  refine StableHlo.after_of_writes_sub _ _ writes5_sub ?_
  simpa using hr

theorem at2 (h : G2 m c W) (hN : (netOf m c).Ranges) : Front W (netOf m c) ∧ W (Proc.devRef .tc main_v14_1) = mat (netOf m c).h1
    ∧ W (Proc.devRef .tc main_v14_2) = mat (netOf m c).h2 ∧ W (Proc.devRef .tc main_v14_3) = mat (netOf m c).h3
    ∧ W (Proc.devRef .tc main_v14_5) = mat (feat (netOf m c).s1) := by
  obtain ⟨_, ⟨_, rfl, rfl⟩, h⟩ := h
  have E := entry fun b => m (c, b)
  exact ⟨⟨pro0 h E, z0 h E, xbar0 h E⟩, h10 h E, h20 h E, h30 h E, t10 h E hN⟩

theorem at3 (h : G3 m c W) (hN : (netOf m c).Ranges) : Front W (netOf m c) ∧ W (Proc.devRef .tc main_v15_0) = mat (adjq (netOf m c))
    ∧ W (Proc.devRef .tc main_v14_2) = mat (netOf m c).h2 ∧ W (Proc.devRef .tc main_v14_3) = mat (netOf m c).h3
    ∧ W (Proc.devRef .tc main_v15_1) = mat (feat (netOf m c).s2) := by
  obtain ⟨V, g, h⟩ := h
  obtain ⟨F, e1, e2, e3, e4⟩ := at2 g hN
  have ha : V (Proc.devRef .tc main_arg1) = mat (netOf m c).adj := (args2 g main_arg1 (by decide)).trans (mat_self _)
  have hg : V (Proc.devRef .tc main_arg23) = mat (netOf m c).g2 := (args2 g main_arg23 (by decide)).trans (mat_self _)
  exact ⟨F.step1 h, adj1 h ha, (h.keep _ (by decide +kernel)).trans e2, (h.keep _ (by decide +kernel)).trans e3, step1 h ha e4 e1 hg hN⟩

theorem at4 (h : G4 m c W) (hN : (netOf m c).Ranges) : Front W (netOf m c) ∧ W (Proc.devRef .tc main_v15_0) = mat (adjq (netOf m c))
    ∧ W (Proc.devRef .tc main_v14_3) = mat (netOf m c).h3 ∧ W (Proc.devRef .tc main_v16) = mat (feat (netOf m c).s3) := by
  obtain ⟨V, g, h⟩ := h
  obtain ⟨F, e1, e2, e3, e4⟩ := at3 g hN
  have hg : V (Proc.devRef .tc main_arg24) = mat (netOf m c).g3 := (args3 g main_arg24 (by decide)).trans (mat_self _)
  exact ⟨F.step2 h, (h.keep _ (by decide +kernel)).trans e1, (h.keep _ (by decide +kernel)).trans e3, step2 h e1 e4 e2 hg hN⟩

theorem at5 (h : G5 m c W) (hN : (netOf m c).Ranges) : Front W (netOf m c) ∧ W (Proc.devRef .tc main_v15_0) = mat (adjq (netOf m c))
    ∧ W (Proc.devRef .tc main_v17) = mat (feat (netOf m c).s4) := by
  obtain ⟨V, g, h⟩ := h
  obtain ⟨F, e1, e2, e3⟩ := at4 g hN
  have hg : V (Proc.devRef .tc main_arg25) = mat (netOf m c).g4 := (args4 g main_arg25 (by decide)).trans (mat_self _)
  exact ⟨F.step3 h, (h.keep _ (by decide +kernel)).trans e1, step3 h e1 e3 e2 hg hN⟩

theorem at6 (h : G6 m c W) (hN : (netOf m c).Ranges) : Front W (netOf m c) ∧ W (Proc.devRef .tc main_v15_0) = mat (adjq (netOf m c))
    ∧ W (Proc.devRef .tc main_v17) = mat (feat (netOf m c).s4) ∧ W (Proc.devRef .tc main_v18) = row (netOf m c).bf := by
  obtain ⟨V, g, rfl⟩ := h
  obtain ⟨F, e1, e2⟩ := at5 g hN
  refine ⟨⟨(keep4 V _ (by decide)).trans F.pro, (keep4 V _ (by decide)).trans F.z, (keep4 V _ (by decide)).trans F.xbar⟩,
    (keep4 V _ (by decide)).trans e1, (keep4 V _ (by decide)).trans e2, (host_bf V).trans ?_⟩
  rw [args5 g main_arg27 (by decide)]
  rfl

theorem at7 (h : G7 m c W) (hN : (netOf m c).Ranges) : Front W (netOf m c) ∧ W (Proc.devRef .tc main_v19) = mat (netOf m c).predict := by
  obtain ⟨V, g, h⟩ := h
  obtain ⟨F, e1, e2, e3⟩ := at6 g hN
  have hw : V (Proc.devRef .tc main_arg26) = mat (netOf m c).wf := (args6 g main_arg26 (by decide)).trans (mat_self _)
  exact ⟨F.step4 h, step4 h e1 e2 F.z hw e3⟩

/-- The four results the kernel ends with. -/
theorem at8 (h : G8 m c W) (hN : (netOf m c).Ranges) :
    W (Proc.devRef .tc main_v20) = (fun i => (netOf m c).xbar (i 0) (i 1) (i 2)) ∧ W (Proc.devRef .tc main_v19) = mat (netOf m c).predict
      ∧ W (Proc.devRef .tc main_v14_4) = mat (netOf m c).z ∧ W (Proc.devRef .tc main_v14_0) = mat (netOf m c).pro := by
  obtain ⟨V, g, rfl⟩ := h
  obtain ⟨F, e⟩ := at7 g hN
  exact ⟨host_xbar V (fun k r l => (netOf m c).xbar r k l) F.xbar, (keep5 V _ (by decide)).trans e, (keep5 V _ (by decide)).trans F.z,
    (keep5 V _ (by decide)).trans F.pro⟩

end

end Cert.KernelIdeal.Rel

end
-- ==== Proof.HostOps.lean ====
/- The host operations of the reference and of the precondition, each read as a function of rows. -/
module

public import proofs.«01_k».proof.Proof.Blocks
public import proofs.«01_k».proof.Proof.Payload
public import proofs.«01_k».proof.Proof.Net
public import Idealize.ShloMosaic.Lib.IdealHost
public import Idealize.ShloMosaic.Lib.KernelVsHost

@[expose] public section

set_option maxRecDepth 16384

noncomputable section

namespace Cert.HostOps

open Cert.Math Cert.KernelIdeal.Rel
open Idealize.ShloMosaic Idealize.ShloMosaic.ValueIdx
open scoped BigOperators

variable {M K N : ℕ}

/-- An `M × N` array. -/
abbrev Arr (M N : ℕ) := FVec Ideal (⟨2, ![M, N]⟩ : Shape) .f32

theorem ext_mat {x : Arr M N} {f : Fin M → Fin N → EReal} (h : ∀ r o, x (ix2 r o) = f r o) : x = mat f :=
  funext fun i => (congrArg x (eq_ix2 i)).trans (h (i 0) (i 1))

theorem at_mat {x : Arr M N} {f : Fin M → Fin N → EReal} (h : x = mat f) (r o) : x (ix2 r o) = f r o := congrFun h (ix2 r o)

theorem add_of {x y : Arr M N} {f g : Fin M → Fin N → EReal} (hx : x = mat f) (hy : y = mat g) : addf x y = mat fun r o => f r o + g r o :=
  ext_mat fun r o => congrArg₂ (· + ·) (at_mat hx r o) (at_mat hy r o)

/-- A scalar spread over an array. -/
theorem scalar_of (w : (⟨0, ![]⟩ : Shape).Idx → EReal) (h) : broadcastInDim ⟨2, ![M, N]⟩ ![] h w = mat fun _ _ => w ix0 :=
  funext fun _ => broadcastInDim_scalar_apply h w _

theorem zero_of (h) : broadcastInDim ⟨2, ![M, N]⟩ ![] h (constant (F := Ideal) ⟨0, ![]⟩ .f32 0x00000000#32) = mat fun _ _ => 0 :=
  (scalar_of _ h).trans (funext fun _ => word_zero)

/-- A scalar times an array. -/
theorem scale_of {x : Arr M N} {f : Fin M → Fin N → EReal} (w : (⟨0, ![]⟩ : Shape).Idx → EReal) (h) (hx : x = mat f) :
    mulf (F := Ideal) (φ := .f32) (broadcastInDim ⟨2, ![M, N]⟩ ![] h w) x = mat fun r o => w ix0 * f r o :=
  ext_mat fun r o => congrArg₂ (· * ·) (congrFun (scalar_of w h) (ix2 r o)) (at_mat hx r o)

theorem relu_of {x : Arr M N} {f : Fin M → Fin N → EReal} (h) (hx : x = mat f) :
    maximumf x (broadcastInDim ⟨2, ![M, N]⟩ ![] h (constant (F := Ideal) ⟨0, ![]⟩ .f32 0x00000000#32)) = mat fun r => relu (f r) :=
  ext_mat fun r o => congrArg₂ max (at_mat hx r o) (congrFun (zero_of h) (ix2 r o))

/-- A product with a matrix. -/
theorem dot_of (D : DotDims ⟨2, ![M, K]⟩ ⟨2, ![K, N]⟩ ⟨2, ![M, N]⟩) (hD : D = DotDims.plain M K N) {x : Arr M K} {y : Arr K N}
    {f : Fin M → Fin K → EReal} {g : Fin K → Fin N → EReal} (hx : x = mat f) (hy : y = mat g) :
    Host.dotGeneral D none x y = mat fun r o => ∑ k, f r k * g k o := by
  subst hD
  exact ext_mat fun r o => (dg x y r o).trans (Finset.sum_congr rfl fun k _ => congrArg₂ (· * ·) (at_mat hx r k) (at_mat hy k o))

theorem transpose_of (w : Arr N K) (h) : transpose ⟨2, ![K, N]⟩ [1, 0] w h = mat fun k o => w (ix2 o k) :=
  ext_mat fun k o => transpose_ix2_apply w h k o

/-- A bias spread over the rows. -/
theorem bias_of (b : (⟨1, ![N]⟩ : Shape).Idx → EReal) (h h') :
    broadcastInDim ⟨2, ![M, N]⟩ ![0, 1] h (broadcastInDim ⟨2, ![1, N]⟩ ![1] h' b) = mat fun _ o => b (ix1 o) :=
  ext_mat fun r o => by
    rw [broadcastInDim_oneRow_apply]
    refine broadcastInDim_apply ![1] h' b (ix2 0 o) (ix1 o) fun a => ?_
    fin_cases a
    show o.val = if N = 1 then 0 else o.val
    have := o.isLt
    split_ifs <;> omega

/-- A dense layer. -/
theorem dense_of (D : DotDims ⟨2, ![M, K]⟩ ⟨2, ![K, N]⟩ ⟨2, ![M, N]⟩) (hD : D = DotDims.plain M K N) {x : Arr M K}
    {f : Fin M → Fin K → EReal} (w : Arr N K) (b : (⟨1, ![N]⟩ : Shape).Idx → EReal) (ht h h') (hx : x = mat f) :
    addf (F := Ideal) (φ := .f32) (Host.dotGeneral D none x (transpose ⟨2, ![K, N]⟩ [1, 0] w ht))
        (broadcastInDim ⟨2, ![M, N]⟩ ![0, 1] h (broadcastInDim ⟨2, ![1, N]⟩ ![1] h' b))
      = mat fun r => lin (fun o k => w (ix2 o k)) (fun o => b (ix1 o)) (f r) :=
  add_of (dot_of D hD hx (transpose_of w ht)) (bias_of b h h')

/-- A graph layer's mixture. -/
theorem mix_of {x y : Arr M N} {f g : Fin M → Fin N → EReal} (h0 h1 h2) (hx : x = mat f) (hy : y = mat g) :
    addf (F := Ideal) (φ := .f32)
        (mulf (broadcastInDim ⟨2, ![M, N]⟩ ![] h1 (constant (F := Ideal) ⟨0, ![]⟩ .f32 0x3F333333#32))
          (maximumf x (broadcastInDim ⟨2, ![M, N]⟩ ![] h0 (constant (F := Ideal) ⟨0, ![]⟩ .f32 0x00000000#32))))
        (mulf (broadcastInDim ⟨2, ![M, N]⟩ ![] h2 (constant (F := Ideal) ⟨0, ![]⟩ .f32 0x3E99999A#32)) y)
      = mat fun r => Net.mix (f r) (g r) :=
  add_of (scale_of _ h1 (relu_of h0 hx)) (scale_of _ h2 hy)

/-- One tap: the padded rows shifted. -/
theorem shift_of {x : Arr M 128} {f : Fin M → Fin 128 → EReal} (k : Fin 3) (hp) (hu : 0 < (⟨0, ![]⟩ : Shape).numel) (hs) (hx : x = mat f) :
    extractStridedSlice ⟨2, ![M, 128]⟩ ![0, k.val]
        (pad ⟨2, ![M, 130]⟩ ![0, 1] ![0, 1] ![0, 0] x (sitofp (F := Ideal) .f32 (constantI ⟨0, ![]⟩ 32 0#32)) hp hu) hs
      = mat fun r l => tap (f r) k l := by
  refine ext_mat fun r l => ?_
  have hk := k.isLt
  have hl := l.isLt
  rw [slice2_axis1_apply k.val _ hs r l ⟨k.val + l.val, by omega⟩ rfl]
  unfold tap
  split_ifs with h
  · refine (pad_apply_of_inside _ _ _ x _ hp hu _ (ix2 r ⟨l.val + k.val - 1, by omega⟩) fun a => ?_).trans (at_mat hx r _)
    fin_cases a
    · show r.val = 0 + r.val * (0 + 1)
      omega
    · show k.val + l.val = 1 + (l.val + k.val - 1) * (0 + 1)
      omega
  · refine (pad_apply_of_not_inside _ _ _ x _ hp hu _ (1 : Fin 2) fun hin => h ?_).trans sitofp_zero
    have h1 : 1 ≤ k.val + l.val := hin.1
    have h2 : (k.val + l.val - 1) / (0 + 1) < 128 := hin.2.2
    omega

theorem tap_of {x : Arr M 128} {f : Fin M → Fin 128 → EReal} (k : Fin 3) (w : (⟨0, ![]⟩ : Shape).Idx → EReal) (v : EReal) (hp)
    (hu : 0 < (⟨0, ![]⟩ : Shape).numel) (hs hb) (hx : x = mat f) (hw : w ix0 = v) :
    mulf (F := Ideal) (φ := .f32) (extractStridedSlice ⟨2, ![M, 128]⟩ ![0, k.val]
        (pad ⟨2, ![M, 130]⟩ ![0, 1] ![0, 1] ![0, 0] x (sitofp (F := Ideal) .f32 (constantI ⟨0, ![]⟩ 32 0#32)) hp hu) hs)
        (broadcastInDim ⟨2, ![M, 128]⟩ ![] hb w)
      = mat fun r l => tap (f r) k l * v :=
  ext_mat fun r l => congrArg₂ (· * ·) (congrFun (shift_of k hp hu hs hx) (ix2 r l)) ((congrFun (scalar_of w hb) (ix2 r l)).trans hw)

/-- A weight taken out as a scalar. -/
theorem weight_of {n0 n1 n2 : ℕ} (a : Fin n0) (b : Fin n1) (d : Fin n2) (w : (⟨3, ![n0, n1, n2]⟩ : Shape).Idx → EReal) (hs) (hc) :
    shapeCast ⟨0, ![]⟩ (extractStridedSlice ⟨3, ![1, 1, 1]⟩ ![a.val, b.val, d.val] w hs) hc ix0 = w (ix3 a b d) := by
  refine (shapeCast_apply _ hc ix0 (ix3 0 0 0) ?_).trans (extractStridedSlice_apply _ w hs _ (ix3 a b d) fun ax => ?_)
  · rw [Shape.rowMajor_val_three]
    rfl
  · fin_cases ax <;> rfl

theorem scalar_cast (w : (⟨1, ![1]⟩ : Shape).Idx → EReal) (hc) : shapeCast ⟨0, ![]⟩ w hc ix0 = w (ix1 0) :=
  shapeCast_apply w hc ix0 (ix1 0) (by rw [Shape.rowMajor_val_one]; rfl)

theorem bias_at {n : ℕ} (a : Fin n) (w : (⟨1, ![n]⟩ : Shape).Idx → EReal) (hs) (hc) :
    shapeCast ⟨0, ![]⟩ (extractStridedSlice ⟨1, ![1]⟩ ![a.val] w hs) hc ix0 = w (ix1 a) :=
  (scalar_cast _ hc).trans (extractStridedSlice_apply _ w hs _ (ix1 a) fun ax => by fin_cases ax; rfl)

/-- A column spread over an array. -/
theorem column_of {f : Fin M → EReal} (x : (⟨1, ![M]⟩ : Shape).Idx → EReal) (h h') (hx : ∀ r, x (ix1 r) = f r) :
    broadcastInDim ⟨2, ![M, N]⟩ ![0, 1] h (broadcastInDim ⟨2, ![M, 1]⟩ ![0] h' x) = mat fun r _ => f r :=
  ext_mat fun r o => by
    refine (broadcastInDim_apply ![0, 1] h _ (ix2 r o) (ix2 r 0) fun a => ?_).trans
      ((broadcastInDim_apply ![0] h' x (ix2 r 0) (ix1 r) fun a => ?_).trans (hx r))
    · have := r.isLt
      fin_cases a
      · show r.val = if M = 1 then 0 else r.val
        split_ifs <;> omega
      · rfl
    · have := r.isLt
      fin_cases a
      show r.val = if M = 1 then 0 else r.val
      split_ifs <;> omega

/-- A row's softmax. -/
theorem expo_of {x : Arr M N} {f : Fin M → Fin N → EReal} (hr : (⟨2, ![M, N]⟩ : Shape).ReducesTo [1] ⟨1, ![M]⟩) (hu : 0 < (⟨0, ![]⟩ : Shape).numel) (h h')
    (hr' : (⟨2, ![M, N]⟩ : Shape).Reduces [1] ⟨1, ![M]⟩) (hx : x = mat f) :
    Host.exp (F := Ideal) (φ := .f32) (subf x (broadcastInDim ⟨2, ![M, N]⟩ ![0, 1] h (broadcastInDim ⟨2, ![M, 1]⟩ ![0] h'
        (Host.reduce FloatOps.maximumf x (constant (F := Ideal) ⟨0, ![]⟩ .f32 0xFF800000#32) hr hu)))) = mat fun r => expo (f r) := by
  refine ext_mat fun r o => ?_
  have hm : ∀ r, Host.reduce FloatOps.maximumf x (constant (F := Ideal) ⟨0, ![]⟩ .f32 0xFF800000#32) hr hu (ix1 r) = peak (f r) := fun r => by
    refine (congrFun (hostReduce_maximumf_eq_multiReduction x 0xFF800000#32 hr hu hr' (by decide) rfl) (ix1 r)).trans ((max_row x hr' _ _ r).trans ?_)
    rw [hx]
    rfl
  show Ideal.exp (x (ix2 r o) - _) = Ideal.exp (f r o - peak (f r))
  rw [congrFun (column_of _ h h' hm) (ix2 r o), at_mat hx]
  rfl

theorem soft_of {e : Arr M N} {f : Fin M → Fin N → EReal} (hr : (⟨2, ![M, N]⟩ : Shape).ReducesTo [1] ⟨1, ![M]⟩) (hu : 0 < (⟨0, ![]⟩ : Shape).numel) (h h')
    (hr' : (⟨2, ![M, N]⟩ : Shape).Reduces [1] ⟨1, ![M]⟩)
    (he : e = mat fun r => expo (f r)) :
    Host.divf (F := Ideal) (φ := .f32) e (broadcastInDim ⟨2, ![M, N]⟩ ![0, 1] h (broadcastInDim ⟨2, ![M, 1]⟩ ![0] h'
        (Host.reduceAdd e (constant (F := Ideal) ⟨0, ![]⟩ .f32 0x00000000#32) hr hu))) = mat fun r => soft (f r) := by
  refine ext_mat fun r o => ?_
  have hs : ∀ r, Host.reduceAdd e (constant (F := Ideal) ⟨0, ![]⟩ .f32 0x00000000#32) hr hu (ix1 r) = ∑ j, expo (f r) j := fun r => by
    rw [hostReduceAdd_apply, Ideal.hostReduceAdd_single hr hr', constant_apply, word_zero, zero_add]
    exact Finset.sum_congr rfl fun k _ => (congrArg e (lift_row hr' r k)).trans (at_mat he r k)
  rw [hostDivf_apply, congrFun (column_of _ h h' hs) (ix2 r o), at_mat he]
  rfl

end Cert.HostOps

end
-- ==== Proof.Reference.lean ====
/- The reference's results as the network of its arguments. -/
module

public import proofs.«01_k».proof.Proof.Ends
public import proofs.«01_k».proof.Proof.HostOps
public import proofs.«01_k».proof.Proof.Gen.ReferenceIdeal.Run

@[expose] public section

set_option maxRecDepth 16384

noncomputable section

namespace Cert.ReferenceIdeal.Value

open Cert.ReferenceIdeal Cert.ReferenceIdeal.Facts₀ Cert.ReferenceIdeal.Facts Cert.Math Cert.HostOps
open Cert.KernelIdeal.Rel (mat plane_of mat_self)
open Idealize.ShloMosaic Idealize.ShloMosaic.TcCoe Idealize.ShloMosaic.ValueIdx

/-- The arguments a valuation of the reference holds. -/
def args (V : Valuation τ sig (Elt Ideal)) : Args where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  a15 := V (Proc.devRef .tc main_arg15)
  a16 := V (Proc.devRef .tc main_arg16)
  a17 := V (Proc.devRef .tc main_arg17)
  a18 := V (Proc.devRef .tc main_arg18)
  a19 := V (Proc.devRef .tc main_arg19)
  a20 := V (Proc.devRef .tc main_arg20)
  a21 := V (Proc.devRef .tc main_arg21)
  a22 := V (Proc.devRef .tc main_arg22)
  a23 := V (Proc.devRef .tc main_arg23)
  a24 := V (Proc.devRef .tc main_arg24)
  a25 := V (Proc.devRef .tc main_arg25)
  a26 := V (Proc.devRef .tc main_arg26)
  a27 := V (Proc.devRef .tc main_arg27)

variable (V : Valuation τ sig (Elt Ideal))

/-- The network of the reference's arguments. -/
def net : Net := (args V).net

/-- The first eight taps of the projected input. -/
theorem taps : res_main_v72 V = mat fun r l => 0 + tap ((net V).x r 0) 0 l * (net V).cw 0 0 + tap ((net V).x r 0) 1 l * (net V).cw 0 1
    + tap ((net V).x r 0) 2 l * (net V).cw 0 2 + tap ((net V).x r 1) 0 l * (net V).cw 1 0 + tap ((net V).x r 1) 1 l * (net V).cw 1 1
    + tap ((net V).x r 1) 2 l * (net V).cw 1 2 + tap ((net V).x r 2) 0 l * (net V).cw 2 0 + tap ((net V).x r 2) 1 l * (net V).cw 2 1 :=
  (add_of (add_of (add_of (add_of (add_of (add_of (add_of (add_of (zero_of _)
    (tap_of 0 _ _ _ _ _ _ (plane_of 0 _ _ _) (weight_of 0 0 0 _ _ _)))
    (tap_of 1 _ _ _ _ _ _ (plane_of 0 _ _ _) (weight_of 0 0 1 _ _ _)))
    (tap_of 2 _ _ _ _ _ _ (plane_of 0 _ _ _) (weight_of 0 0 2 _ _ _)))
    (tap_of 0 _ _ _ _ _ _ (plane_of 1 _ _ _) (weight_of 0 1 0 _ _ _)))
    (tap_of 1 _ _ _ _ _ _ (plane_of 1 _ _ _) (weight_of 0 1 1 _ _ _)))
    (tap_of 2 _ _ _ _ _ _ (plane_of 1 _ _ _) (weight_of 0 1 2 _ _ _)))
    (tap_of 0 _ _ _ _ _ _ (plane_of 2 _ _ _) (weight_of 0 2 0 _ _ _)))
    (tap_of 1 _ _ _ _ _ _ (plane_of 2 _ _ _) (weight_of 0 2 1 _ _ _)))

/-- The projected input. -/
theorem pro_eq : res_main_v84 V = mat (net V).pro :=
  (add_of (add_of (taps V) (tap_of 2 _ _ _ _ _ _ (plane_of 2 _ _ _) (weight_of 0 2 2 _ _ _)))
    ((scalar_of _ _).trans (congrArg (fun v : EReal => mat fun _ _ => v) (scalar_cast _ _)))).trans
    (congrArg mat (funext fun r => funext fun l => by
      show _ = conv _ _ _ + conv _ _ _ + conv _ _ _ + _
      unfold conv
      simp only [zero_add, add_assoc]
      rfl))

theorem h1_eq : res_main_v91 V = mat (net V).h1 := relu_of _ (dense_of _ rfl _ _ _ _ _ (pro_eq V))
theorem h2_eq : res_main_v98 V = mat (net V).h2 := relu_of _ (dense_of _ rfl _ _ _ _ _ (h1_eq V))
theorem h3_eq : res_main_v105 V = mat (net V).h3 := relu_of _ (dense_of _ rfl _ _ _ _ _ (h2_eq V))
theorem z_eq : res_main_v110 V = mat (net V).z := dense_of _ rfl _ _ _ _ _ (h3_eq V)

/-- The decoder. -/
theorem dec_eq : res_main_v172 V = mat (net V).dec :=
  relu_of _ (dense_of _ rfl _ _ _ _ _ (relu_of _ (dense_of _ rfl _ _ _ _ _
    (relu_of _ (dense_of _ rfl _ _ _ _ _ (relu_of _ (dense_of _ rfl _ _ _ _ _ (z_eq V))))))))

/-- The features between the graph layers. -/
def feat1 : FVec Ideal S10000x128 .f32 := Host.dotGeneral (φ₁ := .f32) (φ₂ := .f32) dot_S10000x128_S128x128_S10000x128_1_0_0_1_n_n none (res_main_v84 V) (V (Proc.devRef .tc main_arg22))
def feat2 : FVec Ideal S10000x128 .f32 :=
  Host.dotGeneral (φ₁ := .f32) (φ₂ := .f32) dot_S10000x128_S128x128_S10000x128_1_0_0_1_n_n none
    (addf (mulf (broadcastInDim S10000x128 ![] bcast_S_S10000x128 (constant (F := Ideal) S_ .f32 0x3F333333#32))
        (maximumf (Host.dotGeneral (φ₁ := .f32) (φ₂ := .f32) dot_S10000x10000_S10000x128_S10000x128_1_0_0_1_n_n none (V (Proc.devRef .tc main_arg1)) (feat1 V)) (broadcastInDim S10000x128 ![] bcast_S_S10000x128 (constant (F := Ideal) S_ .f32 0x00000000#32))))
      (mulf (broadcastInDim S10000x128 ![] bcast_S_S10000x128 (constant (F := Ideal) S_ .f32 0x3E99999A#32)) (res_main_v91 V)))
    (V (Proc.devRef .tc main_arg23))
def feat3 : FVec Ideal S10000x256 .f32 :=
  Host.dotGeneral (φ₁ := .f32) (φ₂ := .f32) dot_S10000x128_S128x256_S10000x256_1_0_0_1_n_n none
    (addf (mulf (broadcastInDim S10000x128 ![] bcast_S_S10000x128 (constant (F := Ideal) S_ .f32 0x3F333333#32))
        (maximumf (Host.dotGeneral (φ₁ := .f32) (φ₂ := .f32) dot_S10000x10000_S10000x128_S10000x128_1_0_0_1_n_n none (V (Proc.devRef .tc main_arg1)) (feat2 V)) (broadcastInDim S10000x128 ![] bcast_S_S10000x128 (constant (F := Ideal) S_ .f32 0x00000000#32))))
      (mulf (broadcastInDim S10000x128 ![] bcast_S_S10000x128 (constant (F := Ideal) S_ .f32 0x3E99999A#32)) (res_main_v98 V)))
    (V (Proc.devRef .tc main_arg24))
def feat4 : FVec Ideal S10000x32 .f32 :=
  Host.dotGeneral (φ₁ := .f32) (φ₂ := .f32) dot_S10000x256_S256x32_S10000x32_1_0_0_1_n_n none
    (addf (mulf (broadcastInDim S10000x256 ![] bcast_S_S10000x256 (constant (F := Ideal) S_ .f32 0x3F333333#32))
        (maximumf (Host.dotGeneral (φ₁ := .f32) (φ₂ := .f32) dot_S10000x10000_S10000x256_S10000x256_1_0_0_1_n_n none (V (Proc.devRef .tc main_arg1)) (feat3 V)) (broadcastInDim S10000x256 ![] bcast_S_S10000x256 (constant (F := Ideal) S_ .f32 0x00000000#32))))
      (mulf (broadcastInDim S10000x256 ![] bcast_S_S10000x256 (constant (F := Ideal) S_ .f32 0x3E99999A#32)) (res_main_v105 V)))
    (V (Proc.devRef .tc main_arg25))

/-- The adjacency's product with the features. -/
theorem adj_eq : (V (Proc.devRef .tc main_arg1) : FVec Ideal S10000x10000 .f32) = mat (net V).adj := mat_self _

theorem s1_eq : feat1 V = mat (net V).s1 := dot_of dot_S10000x128_S128x128_S10000x128_1_0_0_1_n_n rfl (pro_eq V) (mat_self _)
theorem s2_eq : feat2 V = mat (net V).s2 := dot_of dot_S10000x128_S128x128_S10000x128_1_0_0_1_n_n rfl
  (mix_of _ _ _ (dot_of dot_S10000x10000_S10000x128_S10000x128_1_0_0_1_n_n rfl (adj_eq V) (s1_eq V)) (h1_eq V)) (mat_self _)
theorem s3_eq : feat3 V = mat (net V).s3 := dot_of dot_S10000x128_S128x256_S10000x256_1_0_0_1_n_n rfl
  (mix_of _ _ _ (dot_of dot_S10000x10000_S10000x128_S10000x128_1_0_0_1_n_n rfl (adj_eq V) (s2_eq V)) (h2_eq V)) (mat_self _)
theorem s4_eq : feat4 V = mat (net V).s4 := dot_of dot_S10000x256_S256x32_S10000x32_1_0_0_1_n_n rfl
  (mix_of _ _ _ (dot_of dot_S10000x10000_S10000x256_S10000x256_1_0_0_1_n_n rfl (adj_eq V) (s3_eq V)) (h3_eq V)) (mat_self _)

/-- The classifier's logits. -/
theorem logit_eq : res_main_v259 V = mat (net V).logit :=
  dense_of dot_S10000x32_S32x10_S10000x10_1_0_0_1_n_n rfl _ _ _ _ _
    (add_of (scale_of _ _ (dot_of dot_S10000x10000_S10000x32_S10000x32_1_0_0_1_n_n rfl (adj_eq V) (s4_eq V))) (scale_of _ _ (z_eq V)))

theorem expo_eq : res_main_v264 V = mat fun r => expo ((net V).logit r) := expo_of _ _ _ _ (by decide) (logit_eq V)

/-- The prediction. -/
theorem predict_eq : Host.divf (res_main_v264 V) (broadcastInDim S10000x10 ![0, 1] bcast_S10000x1_S10000x10_0_1
      (broadcastInDim S10000x1 ![0] bcast_S10000_S10000x1_0
        (Host.reduceAdd (res_main_v264 V) (constant (F := Ideal) S_ .f32 0x00000000#32) reducesTo_S10000x10_S10000_d1 h_S_)))
    = mat (net V).predict := soft_of _ _ _ _ (by decide) (expo_eq V)

/-- One plane of the decoder's output. -/
theorem plane_at (x : FVec Ideal S10000x128 .f32) (f : Fin 10000 → Fin 128 → EReal) (h) (hx : x = mat f) (r u l) :
    broadcastInDim S10000x1x128 ![0, 2] h x (ix3 r u l) = f r l := by
  refine (broadcastInDim_apply ![0, 2] h x (ix3 r u l) (ix2 r l) fun a => ?_).trans (at_mat hx r l)
  fin_cases a <;> rfl

theorem conv_eq (o : Fin 3) {x0 x1 x2 b : FVec Ideal S10000x128 .f32} (hb)
    (h0 : x0 = mat fun r l => tap ((net V).dec r) 0 l * (net V).dw o 0)
    (h1 : x1 = mat fun r l => tap ((net V).dec r) 1 l * (net V).dw o 1)
    (h2 : x2 = mat fun r l => tap ((net V).dec r) 2 l * (net V).dw o 2) (h3 : b = mat fun _ _ => (net V).db o) :
    addf (addf (addf (addf (broadcastInDim S10000x128 ![] hb (constant (F := Ideal) S_ .f32 0x00000000#32)) x0) x1) x2) b
      = mat fun r l => (net V).xbar r o l :=
  (add_of (add_of (add_of (add_of (zero_of _) h0) h1) h2) h3).trans (congrArg mat (funext fun r => funext fun l => by
    show _ = conv _ _ _ + _
    unfold conv
    simp only [zero_add]))

/-- Three planes laid side by side, each read at its place. -/
theorem beside (x : Fin 3 → FVec Ideal S10000x1x128 .f32) (h) (r : Fin 10000) (o : Fin 3) (l : Fin 128) :
    concatenate S10000x3x128 1 [⟨S10000x1x128, x 0⟩, ⟨S10000x1x128, x 1⟩, ⟨S10000x1x128, x 2⟩] h (ix3 r o l) = x o (ix3 r 0 l) := by
  have ho := o.isLt
  refine concatenate_apply_piece (1 : Fin 3) [⟨S10000x1x128, x 0⟩, ⟨S10000x1x128, x 1⟩, ⟨S10000x1x128, x 2⟩] h (ix3 r o l) o.val ho
    S10000x1x128 (x o) ?_ rfl o.val ?_ (ix3 r 0 l) (fun b hb => ?_) rfl
  · fin_cases o <;> rfl
  · fin_cases o <;> rfl
  · fin_cases b
    · rfl
    · exact absurd rfl hb
    · rfl

/-- The decoded planes. -/
theorem xbar_eq : res_main_v254 V = fun i => (net V).xbar (i 0) (i 1) (i 2) := by
  funext i
  refine (congrArg (res_main_v254 V) (eq_ix3 i)).trans ?_
  generalize i 0 = r
  generalize i 1 = o
  generalize i 2 = l
  fin_cases o
  · exact (beside ![_, _, _] _ r 0 l).trans (plane_at _ (fun r l => (net V).xbar r 0 l) bcast_S10000x128_S10000x1x128_0_2 (conv_eq V 0 _ (tap_of 0 _ _ _ _ _ _ (dec_eq V) (weight_of 0 0 0 _ _ _))
    (tap_of 1 _ _ _ _ _ _ (dec_eq V) (weight_of 0 0 1 _ _ _)) (tap_of 2 _ _ _ _ _ _ (dec_eq V) (weight_of 0 0 2 _ _ _))
    ((scalar_of _ _).trans (congrArg (fun v : EReal => mat fun _ _ => v) (bias_at 0 _ _ _)))) r 0 l)
  · exact (beside ![_, _, _] _ r 1 l).trans (plane_at _ (fun r l => (net V).xbar r 1 l) bcast_S10000x128_S10000x1x128_0_2 (conv_eq V 1 _ (tap_of 0 _ _ _ _ _ _ (dec_eq V) (weight_of 1 0 0 _ _ _))
    (tap_of 1 _ _ _ _ _ _ (dec_eq V) (weight_of 1 0 1 _ _ _)) (tap_of 2 _ _ _ _ _ _ (dec_eq V) (weight_of 1 0 2 _ _ _))
    ((scalar_of _ _).trans (congrArg (fun v : EReal => mat fun _ _ => v) (bias_at 1 _ _ _)))) r 0 l)
  · exact (beside ![_, _, _] _ r 2 l).trans (plane_at _ (fun r l => (net V).xbar r 2 l) bcast_S10000x128_S10000x1x128_0_2 (conv_eq V 2 _ (tap_of 0 _ _ _ _ _ _ (dec_eq V) (weight_of 2 0 0 _ _ _))
    (tap_of 1 _ _ _ _ _ _ (dec_eq V) (weight_of 2 0 1 _ _ _)) (tap_of 2 _ _ _ _ _ _ (dec_eq V) (weight_of 2 0 2 _ _ _))
    ((scalar_of _ _).trans (congrArg (fun v : EReal => mat fun _ _ => v) (bias_at 2 _ _ _)))) r 0 l)

/-- The four results, of any network the arguments make. -/
theorem results_of {N : Net} (h : net V = N) :
    res_main_v254 V = (fun i => N.xbar (i 0) (i 1) (i 2)) ∧
    Host.divf (res_main_v264 V) (broadcastInDim S10000x10 ![0, 1] bcast_S10000x1_S10000x10_0_1
      (broadcastInDim S10000x1 ![0] bcast_S10000_S10000x1_0
        (Host.reduceAdd (res_main_v264 V) (constant (F := Ideal) S_ .f32 0x00000000#32) reducesTo_S10000x10_S10000_d1 h_S_)))
      = mat N.predict ∧
    res_main_v110 V = mat N.z ∧ res_main_v84 V = mat N.pro := by
  subst h
  exact ⟨xbar_eq V, predict_eq V, z_eq V, pro_eq V⟩

end Cert.ReferenceIdeal.Value

end
-- ==== Proof.Precondition.lean ====
/- The precondition read: the features the kernel stores lie inside the range. -/
module

public import proofs.«01_k».proof.Proof.Reference
public import proofs.«01_k».proof.Proof.Gen.Pre_in_range
public import proofs.«01_k».proof.Pre_in_range

@[expose] public section

set_option maxRecDepth 16384

noncomputable section

namespace Cert.ReferenceIdeal.Value

open Cert.ReferenceIdeal Cert.Math Cert.HostOps
open Cert.KernelIdeal.Rel (mat)
open Idealize.ShloMosaic Idealize.ShloMosaic.TcCoe Idealize.ShloMosaic.ValueIdx

/-- The comparison of an array's magnitudes with the bound. -/
def mask {M N : ℕ} (h : (⟨0, ![]⟩ : Shape).BroadcastsInDim ⟨2, ![M, N]⟩ ![]) (x : Arr M N) : IVec ⟨2, ![M, N]⟩ 1 :=
  cmpf .ole (Host.absf x) (broadcastInDim ⟨2, ![M, N]⟩ ![] h (constant (F := Ideal) ⟨0, ![]⟩ .f32 0x3FDC0000#32))

theorem inRange_of {M N : ℕ} (h : (⟨0, ![]⟩ : Shape).BroadcastsInDim ⟨2, ![M, N]⟩ ![]) {x : Arr M N} {f : Fin M → Fin N → EReal} (hx : x = mat f)
    (hm : mask h x = fun _ => 1#1) (r o) : InRange (f r o) := by
  have e := congrFun hm (ix2 r o)
  have e' : Ideal.cmp .ole (max (x (ix2 r o)) (-x (ix2 r o))) (broadcastInDim ⟨2, ![M, N]⟩ ![] h (constant (F := Ideal) ⟨0, ![]⟩ .f32 0x3FDC0000#32) (ix2 r o))
      = 1#1 := e
  rw [broadcastInDim_scalar_apply, constant_apply, word_range, at_mat hx] at e'
  by_contra hn
  have e2 : BitVec.ofBool (decide (max (f r o) (-f r o) ≤ ((55 / 32 : ℝ) : EReal))) = 1#1 := e'
  rw [decide_eq_false (show ¬max (f r o) (-f r o) ≤ ((55 / 32 : ℝ) : EReal) from hn)] at e2
  exact absurd e2 (by decide)

variable (V : Valuation τ sig (Elt Ideal))

/-- The precondition is of the features the reference computes. -/
theorem pre_eq (h1 h2 h3) : Cert.Pre_in_range.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27))
    = (mask h1 (feat1 V), mask h1 (feat2 V), mask h2 (feat3 V), mask h3 (feat4 V)) := by
  rfl

/-- Under the precondition every feature lies inside the range. -/
theorem ranges (h1 : (Cert.Pre_in_range.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27))).1 = fun _ => 1#1)
    (h2 : (Cert.Pre_in_range.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27))).2.1 = fun _ => 1#1)
    (h3 : (Cert.Pre_in_range.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27))).2.2.1 = fun _ => 1#1)
    (h4 : (Cert.Pre_in_range.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27))).2.2.2 = fun _ => 1#1) :
    (net V).Ranges := by
  have e := pre_eq V (by decide) (by decide) (by decide)
  exact ⟨inRange_of _ (s1_eq V) ((congrArg (·.1) e).symm.trans h1), inRange_of _ (s2_eq V) ((congrArg (·.2.1) e).symm.trans h2),
    inRange_of _ (s3_eq V) ((congrArg (·.2.2.1) e).symm.trans h3), inRange_of _ (s4_eq V) ((congrArg (·.2.2.2) e).symm.trans h4)⟩

end Cert.ReferenceIdeal.Value

end
-- ==== Proof.Algebraic.lean ====
/- The kernel and the reference end with equal results. -/
module

public import proofs.«01_k».proof.Defs
public import proofs.«01_k».proof.Proof.Precondition
public import proofs.«01_k».proof.Proof.Ends

@[expose] public section

set_option maxRecDepth 16384

noncomputable section

namespace Cert.Proof

open Cert.Math
open Cert.KernelIdeal.Rel (mat netOf)
open Idealize.ShloMosaic Idealize.ShloMosaic.TcCoe Idealize.ShloMosaic.StableHlo

/-- Equal arguments make the same network. -/
theorem net_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.ReferenceIdeal.Value.args (launchContents m' c) = Cert.KernelIdeal.Rel.args fun b => m (c, b)) :
    Cert.ReferenceIdeal.Value.net (launchContents m' c) = netOf m c := congrArg Args.net h

/-- The four result buffers are among those the run reads back. -/
theorem uc0 : Proc.devRef .tc Cert.KernelIdeal.main_v20 ∈ Pipeline.ucRefs Cert.KernelIdeal.τ Cert.KernelIdeal.sig :=
  Cert.KernelIdeal.Rel.mem_uc Cert.KernelIdeal.main_v20 (by decide +kernel)
theorem uc1 : Proc.devRef .tc Cert.KernelIdeal.main_v19 ∈ Pipeline.ucRefs Cert.KernelIdeal.τ Cert.KernelIdeal.sig :=
  Cert.KernelIdeal.Rel.mem_uc Cert.KernelIdeal.main_v19 (by decide +kernel)
theorem uc2 : Proc.devRef .tc Cert.KernelIdeal.main_v14_4 ∈ Pipeline.ucRefs Cert.KernelIdeal.τ Cert.KernelIdeal.sig :=
  Cert.KernelIdeal.Rel.mem_uc Cert.KernelIdeal.main_v14_4 (by decide +kernel)
theorem uc3 : Proc.devRef .tc Cert.KernelIdeal.main_v14_0 ∈ Pipeline.ucRefs Cert.KernelIdeal.τ Cert.KernelIdeal.sig :=
  Cert.KernelIdeal.Rel.mem_uc Cert.KernelIdeal.main_v14_0 (by decide +kernel)

set_option maxHeartbeats 1000000 in
/-- The value claim: under the precondition both programs end with the network of the arguments. -/
theorem algebraic : Cert.algebraic_KernelIdeal_ReferenceIdeal_pre_in_range := by
  intro m g m' g' hpre hargs
  have hnet : ∀ c : Dev Cert.KernelIdeal.nD, Cert.ReferenceIdeal.Value.net (launchContents m' c) = netOf m c := fun c => by
    refine net_eq m m' c ?_
    obtain ⟨h0, h1, h2, h3, h4, h5, h6, h7, h8, h9, h10, h11, h12, h13, h14, h15, h16, h17, h18, h19, h20, h21, h22, h23, h24, h25, h26, h27⟩ := hargs c
    unfold Cert.ReferenceIdeal.Value.args Cert.KernelIdeal.Rel.args
    congr 1
  have hN : ∀ c : Dev Cert.KernelIdeal.nD, (netOf m c).Ranges := fun c => by
    rw [← hnet c]
    obtain ⟨p1, p2, p3, p4⟩ := hpre c
    obtain ⟨h0, h1, h2, h3, h4, h5, h6, h7, h8, h9, h10, h11, h12, h13, h14, h15, h16, h17, h18, h19, h20, h21, h22, h23, h24, h25, h26, h27⟩ := hargs c
    rw [← h0, ← h1, ← h2, ← h3, ← h4, ← h5, ← h6, ← h7, ← h8, ← h9, ← h10, ← h11, ← h12, ← h13, ← h14, ← h15, ← h16, ← h17, ← h18, ← h19, ← h20, ← h21, ← h22, ← h23, ← h24, ← h25, ← h26, ← h27] at p1 p2 p3 p4
    exact Cert.ReferenceIdeal.Value.ranges (launchContents m' c) p1 p2 p3 p4
  refine ⟨fun c => fun i => (netOf m c).xbar (i 0) (i 1) (i 2), fun c => mat (netOf m c).predict, fun c => mat (netOf m c).z,
    fun c => mat (netOf m c).pro, ?_, ?_⟩
  · refine (θ_run _ _ _).mono (fun r h c => ?_) (Cert.KernelIdeal.Rel.frame_ends m g)
    obtain ⟨ha, W, hW, hm⟩ := h.1 c
    obtain ⟨e0, e1, e2, e3⟩ := Cert.KernelIdeal.Rel.at8 hW (hN c)
    exact ⟨(hm _ uc0).trans e0, (hm _ uc1).trans e1, (hm _ uc2).trans e2, (hm _ uc3).trans e3, ha⟩
  · refine (θ_run _ _ _).mono (fun r h c => ?_) (Cert.ReferenceIdeal.Value.run m' g')
    obtain ⟨e0, e1, e2, e3, ha⟩ := h c
    obtain ⟨f0, f1, f2, f3⟩ := Cert.ReferenceIdeal.Value.results_of _ (hnet c)
    exact ⟨e0.trans f0, e1.trans f1, e2.trans f2, e3.trans f3, ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_range.Gen.facts,
    frame_kernel, frame_ideal, fun m g _ => frame_ideal m g trivial, frame_reference, fun m g _ => frame_reference m g trivial,
    trivial, algebraic⟩

end Cert.Proof

end
